-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Scatter [hPre_is_ranking : Cert.Pre_is_ranking.Facts] (m : (ℓ : Loc Cert.Scatter.nD Cert.Scatter.τ Cert.Scatter.sig) → Buf (Elt Bits) ℓ) : Prop :=
  ∀ c : Dev Cert.Scatter.nD,
    (Cert.Pre_is_ranking.fn (F := Bits) (m ((c.tc : Thread Cert.Scatter.nD Cert.Scatter.τ).loc Cert.Scatter.main_arg0)) (m ((c.tc : Thread Cert.Scatter.nD Cert.Scatter.τ).loc Cert.Scatter.main_arg1))) = (fun _ => 1#1)

def Pre_ByRank (m : (ℓ : Loc Cert.ByRank.nD Cert.ByRank.τ Cert.ByRank.sig) → Buf (Elt Bits) ℓ) : Prop :=
  True

def Pre_ByRank_is_ranking [hPre_is_ranking : Cert.Pre_is_ranking.Facts] (m : (ℓ : Loc Cert.ByRank.nD Cert.ByRank.τ Cert.ByRank.sig) → Buf (Elt Bits) ℓ) : Prop :=
  ∀ c : Dev Cert.ByRank.nD,
    (Cert.Pre_is_ranking.fn (F := Bits) (m ((c.tc : Thread Cert.ByRank.nD Cert.ByRank.τ).loc Cert.ByRank.main_arg0)) (m ((c.tc : Thread Cert.ByRank.nD Cert.ByRank.τ).loc Cert.ByRank.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Scatter [hScatter : Cert.Scatter.Facts] [hPre_is_ranking : Cert.Pre_is_ranking.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (Cert.Scatter.threads (F := Bits)) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1))
      ∧ r.2.sem = fun _ => 0)

def quiescent_ByRank [hByRank : Cert.ByRank.Facts] : Prop :=
  ∀ (m : (ℓ : Loc Cert.ByRank.nD Cert.ByRank.τ Cert.ByRank.sig) → Buf (Elt Bits) ℓ) (g : Dev Cert.ByRank.nD → PrngReg), Pre_ByRank m →
    θ_run (Cert.ByRank.defs (F := Bits)) (onTc (τ := Cert.ByRank.τ) (Cert.ByRank.main (F := Bits))) ⟨m, fun _ => 0, g⟩ (fun r => (∀ c : Dev Cert.ByRank.nD,
      r.2.mem ((c.tc : Thread Cert.ByRank.nD Cert.ByRank.τ).loc Cert.ByRank.main_arg0) = m ((c.tc : Thread Cert.ByRank.nD Cert.ByRank.τ).loc Cert.ByRank.main_arg0)
      ∧ r.2.mem ((c.tc : Thread Cert.ByRank.nD Cert.ByRank.τ).loc Cert.ByRank.main_arg1) = m ((c.tc : Thread Cert.ByRank.nD Cert.ByRank.τ).loc Cert.ByRank.main_arg1))
      ∧ r.2.sem = fun _ => 0)

def quiescent_ByRank_pre_is_ranking [hByRank : Cert.ByRank.Facts] [hPre_is_ranking : Cert.Pre_is_ranking.Facts] : Prop :=
  ∀ (m : (ℓ : Loc Cert.ByRank.nD Cert.ByRank.τ Cert.ByRank.sig) → Buf (Elt Bits) ℓ) (g : Dev Cert.ByRank.nD → PrngReg), Pre_ByRank_is_ranking m →
    θ_run (Cert.ByRank.defs (F := Bits)) (onTc (τ := Cert.ByRank.τ) (Cert.ByRank.main (F := Bits))) ⟨m, fun _ => 0, g⟩ (fun r => (∀ c : Dev Cert.ByRank.nD,
      r.2.mem ((c.tc : Thread Cert.ByRank.nD Cert.ByRank.τ).loc Cert.ByRank.main_arg0) = m ((c.tc : Thread Cert.ByRank.nD Cert.ByRank.τ).loc Cert.ByRank.main_arg0)
      ∧ r.2.mem ((c.tc : Thread Cert.ByRank.nD Cert.ByRank.τ).loc Cert.ByRank.main_arg1) = m ((c.tc : Thread Cert.ByRank.nD Cert.ByRank.τ).loc Cert.ByRank.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Scatter_ByRank [hScatter : Cert.Scatter.Facts] [hByRank : Cert.ByRank.Facts] [hPre_is_ranking : Cert.Pre_is_ranking.Facts] : Prop :=
  ∀ (m : (ℓ : Loc Cert.Scatter.nD Cert.Scatter.τ Cert.Scatter.sig) → Buf (Elt Bits) ℓ) (g : Dev Cert.Scatter.nD → PrngReg)
    (m' : (ℓ : Loc Cert.ByRank.nD Cert.ByRank.τ Cert.ByRank.sig) → Buf (Elt Bits) ℓ) (g' : Dev Cert.ByRank.nD → PrngReg), Pre_Scatter m →
    (∀ c : Dev Cert.Scatter.nD,
      m' ((c.tc : Thread Cert.ByRank.nD Cert.ByRank.τ).loc Cert.ByRank.main_arg0) = m ((c.tc : Thread Cert.Scatter.nD Cert.Scatter.τ).loc Cert.Scatter.main_arg0)
      ∧ m' ((c.tc : Thread Cert.ByRank.nD Cert.ByRank.τ).loc Cert.ByRank.main_arg1) = m ((c.tc : Thread Cert.Scatter.nD Cert.Scatter.τ).loc Cert.Scatter.main_arg1)) →
    ∃ (v0 : (c : Dev Cert.Scatter.nD) → Buf (Elt Bits) ((c.tc : Thread Cert.Scatter.nD Cert.Scatter.τ).loc Cert.Scatter.main_v0_0)) (v1 : (c : Dev Cert.Scatter.nD) → Buf (Elt Bits) ((c.tc : Thread Cert.Scatter.nD Cert.Scatter.τ).loc Cert.Scatter.main_v0_1)),
      θ_run (Cert.Scatter.defs (F := Bits)) (Cert.Scatter.threads (F := Bits)) ⟨m, fun _ => 0, g⟩ (fun r => ∀ c : Dev Cert.Scatter.nD,
          r.2.mem ((c.tc : Thread Cert.Scatter.nD Cert.Scatter.τ).loc Cert.Scatter.main_v0_0) = v0 c
          ∧ r.2.mem ((c.tc : Thread Cert.Scatter.nD Cert.Scatter.τ).loc Cert.Scatter.main_v0_1) = v1 c
          ∧ r.2.mem ((c.tc : Thread Cert.Scatter.nD Cert.Scatter.τ).loc Cert.Scatter.main_arg0) = m ((c.tc : Thread Cert.Scatter.nD Cert.Scatter.τ).loc Cert.Scatter.main_arg0)
          ∧ r.2.mem ((c.tc : Thread Cert.Scatter.nD Cert.Scatter.τ).loc Cert.Scatter.main_arg1) = m ((c.tc : Thread Cert.Scatter.nD Cert.Scatter.τ).loc Cert.Scatter.main_arg1))
      ∧ θ_run (Cert.ByRank.defs (F := Bits)) (onTc (τ := Cert.ByRank.τ) (Cert.ByRank.main (F := Bits))) ⟨m', fun _ => 0, g'⟩ (fun r => ∀ c : Dev Cert.ByRank.nD,
          r.2.mem ((c.tc : Thread Cert.ByRank.nD Cert.ByRank.τ).loc Cert.ByRank.main_v1) = v0 c
          ∧ r.2.mem ((c.tc : Thread Cert.ByRank.nD Cert.ByRank.τ).loc Cert.ByRank.main_v0) = v1 c
          ∧ r.2.mem ((c.tc : Thread Cert.ByRank.nD Cert.ByRank.τ).loc Cert.ByRank.main_arg0) = m' ((c.tc : Thread Cert.ByRank.nD Cert.ByRank.τ).loc Cert.ByRank.main_arg0)
          ∧ r.2.mem ((c.tc : Thread Cert.ByRank.nD Cert.ByRank.τ).loc Cert.ByRank.main_arg1) = m' ((c.tc : Thread Cert.ByRank.nD Cert.ByRank.τ).loc Cert.ByRank.main_arg1))

def Claim : Prop :=
  ∃ (hKernelIdeal : Cert.KernelIdeal.Facts) (hReferenceIdeal : Cert.ReferenceIdeal.Facts) (hScatter : Cert.Scatter.Facts) (hByRank : Cert.ByRank.Facts) (hPre_finite : Cert.Pre_finite.Facts) (hPre_is_ranking : Cert.Pre_is_ranking.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Scatter (hScatter := hScatter) (hPre_is_ranking := hPre_is_ranking)
    ∧ quiescent_ByRank (hByRank := hByRank)
    ∧ quiescent_ByRank_pre_is_ranking (hByRank := hByRank) (hPre_is_ranking := hPre_is_ranking)
    ∧ algebraic_KernelIdeal_ReferenceIdeal_pre_finite (hKernelIdeal := hKernelIdeal) (hReferenceIdeal := hReferenceIdeal) (hPre_finite := hPre_finite)
    ∧ bitexact_Scatter_ByRank (hScatter := hScatter) (hByRank := hByRank) (hPre_is_ranking := hPre_is_ranking)
-- ==== Pre_finite.lean ====
abbrev S64x2048x128 : Shape := ⟨3, ![64, 2048, 128]⟩
abbrev S1x128 : Shape := ⟨2, ![1, 128]⟩
abbrev S1 : Shape := ⟨1, ![1]⟩
abbrev S_ : Shape := ⟨0, ![]⟩

class Facts : Prop where
  bcast_S_S64x2048x128 : S_.BroadcastsInDim S64x2048x128 (![] : Fin 0 → Fin S64x2048x128.rank)
  reducesTo_S64x2048x128_S_d0_1_2 : S64x2048x128.ReducesTo [0, 1, 2] S_
  h_S_ : 0 < S_.numel
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S64x2048x128 .f32) (main_arg1 : FVec F S1x128 .f32) (main_arg2 : FVec F S1 .f32) (main_arg3 : IVec S_ 32) : IVec S_ 1 :=
  let main_v0 : FVec F S64x2048x128 .f32 := Host.absf main_arg0
  let main_cst : FVec F S_ .f32 := constant S_ .f32 0x7F800000#32
  let main_v1 : FVec F S64x2048x128 .f32 := broadcastInDim S64x2048x128 ![] bcast_S_S64x2048x128 main_cst
  let main_v2 : IVec S64x2048x128 1 := cmpf .olt main_v0 main_v1
  let main_c : IVec S_ 1 := constantI S_ 1 1#1
  let main_v3 : IVec S_ 1 := (fun x v => Host.reduce IntOp.andi x v reducesTo_S64x2048x128_S_d0_1_2 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Pre_is_ranking.lean ====
abbrev S64x2048 : Shape := ⟨2, ![64, 2048]⟩
abbrev S64x2048x1 : Shape := ⟨3, ![64, 2048, 1]⟩
abbrev S64x1x2048 : Shape := ⟨3, ![64, 1, 2048]⟩
abbrev S64x2048x2048 : Shape := ⟨3, ![64, 2048, 2048]⟩
abbrev S_ : Shape := ⟨0, ![]⟩

class Facts : Prop where
  bcast_S64x2048_S64x2048x1_0_1 : S64x2048.BroadcastsInDim S64x2048x1 (![0, 1] : Fin 2 → Fin S64x2048x1.rank)
  bcast_S64x2048_S64x1x2048_0_2 : S64x2048.BroadcastsInDim S64x1x2048 (![0, 2] : Fin 2 → Fin S64x1x2048.rank)
  bcast_S64x2048x1_S64x2048x2048_0_1_2 : S64x2048x1.BroadcastsInDim S64x2048x2048 (![0, 1, 2] : Fin 3 → Fin S64x2048x2048.rank)
  bcast_S64x1x2048_S64x2048x2048_0_1_2 : S64x1x2048.BroadcastsInDim S64x2048x2048 (![0, 1, 2] : Fin 3 → Fin S64x2048x2048.rank)
  natLt_1_32 : 1 < 32
  reducesTo_S64x2048x2048_S64x2048_d1 : S64x2048x2048.ReducesTo [1] S64x2048
  h_S_ : 0 < S_.numel

variable [Facts]

def fn {F : FTy → Type} [FloatOps F] (main_arg0 : FVec F S64x2048 .f32) (main_arg1 : IVec S64x2048 32) : IVec S64x2048 1 :=
  let main_v0 : IVec S64x2048x1 32 := broadcastInDim S64x2048x1 ![0, 1] bcast_S64x2048_S64x2048x1_0_1 main_arg1
  let main_v1 : IVec S64x1x2048 32 := broadcastInDim S64x1x2048 ![0, 2] bcast_S64x2048_S64x1x2048_0_2 main_arg1
  let main_v2 : IVec S64x2048x2048 32 := broadcastInDim S64x2048x2048 ![0, 1, 2] bcast_S64x2048x1_S64x2048x2048_0_1_2 main_v0
  let main_v3 : IVec S64x2048x2048 32 := broadcastInDim S64x2048x2048 ![0, 1, 2] bcast_S64x1x2048_S64x2048x2048_0_1_2 main_v1
  let main_v4 : IVec S64x2048x2048 1 := cmpi .slt main_v2 main_v3
  let main_v5 : IVec S64x2048x2048 32 := (extui 32 · natLt_1_32) main_v4
  let main_c : IVec S_ 32 := constantI S_ 32 0#32
  let main_v6 : IVec S64x2048 32 := (fun x v => Host.reduce IntOp.addi x v reducesTo_S64x2048x2048_S64x2048_d1 h_S_) main_v5 main_c
  let main_v7 : IVec S64x2048 1 := cmpi .eq main_arg1 main_v6
  main_v7
-- ==== KernelIdeal.lean ====
abbrev S64x2048x128 : Shape := ⟨3, ![64, 2048, 128]⟩
abbrev S1x128 : Shape := ⟨2, ![1, 128]⟩
abbrev S1 : Shape := ⟨1, ![1]⟩
abbrev S_ : Shape := ⟨0, ![]⟩
abbrev S128x1 : Shape := ⟨2, ![128, 1]⟩
abbrev S1x128x1x1 : Shape := ⟨4, ![1, 128, 1, 1]⟩
abbrev S1x128x128x1 : Shape := ⟨4, ![1, 128, 128, 1]⟩
abbrev S128x128 : Shape := ⟨2, ![128, 128]⟩
abbrev S1x1 : Shape := ⟨2, ![1, 1]⟩
abbrev S64x1x2048 : Shape := ⟨3, ![64, 1, 2048]⟩
abbrev S1x2048x128 : Shape := ⟨3, ![1, 2048, 128]⟩
abbrev S1x1x2048 : Shape := ⟨3, ![1, 1, 2048]⟩
abbrev S2048x128 : Shape := ⟨2, ![2048, 128]⟩
abbrev S16x1x128 : Shape := ⟨3, ![16, 1, 128]⟩
abbrev S1x2048 : Shape := ⟨2, ![1, 2048]⟩
abbrev S1x1x128 : Shape := ⟨3, ![1, 1, 128]⟩
abbrev S16x128 : Shape := ⟨2, ![16, 128]⟩
abbrev S128 : Shape := ⟨1, ![128]⟩
abbrev S64x2048 : Shape := ⟨2, ![64, 2048]⟩
abbrev S2048 : Shape := ⟨1, ![2048]⟩
abbrev S16 : Shape := ⟨1, ![16]⟩
abbrev S8x2048 : Shape := ⟨2, ![8, 2048]⟩
abbrev S8x1 : Shape := ⟨2, ![8, 1]⟩
abbrev S8x2047 : Shape := ⟨2, ![8, 2047]⟩
abbrev S8x2 : Shape := ⟨2, ![8, 2]⟩
abbrev S8x2046 : Shape := ⟨2, ![8, 2046]⟩
abbrev S8x4 : Shape := ⟨2, ![8, 4]⟩
abbrev S8x2044 : Shape := ⟨2, ![8, 2044]⟩
abbrev S8x8 : Shape := ⟨2, ![8, 8]⟩
abbrev S8x2040 : Shape := ⟨2, ![8, 2040]⟩
abbrev S8x16 : Shape := ⟨2, ![8, 16]⟩
abbrev S8x2032 : Shape := ⟨2, ![8, 2032]⟩
abbrev S8x32 : Shape := ⟨2, ![8, 32]⟩
abbrev S8x2016 : Shape := ⟨2, ![8, 2016]⟩
abbrev S8x64 : Shape := ⟨2, ![8, 64]⟩
abbrev S8x1984 : Shape := ⟨2, ![8, 1984]⟩
abbrev S8x128 : Shape := ⟨2, ![8, 128]⟩
abbrev S8x1920 : Shape := ⟨2, ![8, 1920]⟩
abbrev S8x256 : Shape := ⟨2, ![8, 256]⟩
abbrev S8x1792 : Shape := ⟨2, ![8, 1792]⟩
abbrev S8x512 : Shape := ⟨2, ![8, 512]⟩
abbrev S8x1536 : Shape := ⟨2, ![8, 1536]⟩
abbrev S8x1024 : Shape := ⟨2, ![8, 1024]⟩

abbrev nBuf : Table → Nat
  | .hbm => 16
  | .local .tc .vmem => 15
  | .local .tc .smem => 1
  | .local .scVector .vmem => 5
  | _ => 0

abbrev bufTy : (tb : Table) → Fin (nBuf tb) → BufTy
  | .hbm, ⟨0, _⟩ => ⟨S64x2048x128, .f32⟩
  | .hbm, ⟨1, _⟩ => ⟨S1x128, .f32⟩
  | .hbm, ⟨2, _⟩ => ⟨S1, .f32⟩
  | .hbm, ⟨3, _⟩ => ⟨S_, .i32⟩
  | .hbm, ⟨4, _⟩ => ⟨S128x1, .f32⟩
  | .hbm, ⟨5, _⟩ => ⟨S1x128x1x1, .f32⟩
  | .hbm, ⟨6, _⟩ => ⟨S1x128x128x1, .f32⟩
  | .hbm, ⟨7, _⟩ => ⟨S128x128, .f32⟩
  | .hbm, ⟨8, _⟩ => ⟨S1x1, .f32⟩
  | .hbm, ⟨9, _⟩ => ⟨S64x1x2048, .f32⟩
  | .hbm, ⟨10, _⟩ => ⟨S64x1x2048, .i32⟩
  | .hbm, ⟨11, _⟩ => ⟨S64x2048, .f32⟩
  | .hbm, ⟨12, _⟩ => ⟨S64x2048, .i32⟩
  | .hbm, ⟨13, _⟩ => ⟨S64x2048, .f32⟩
  | .hbm, ⟨14, _⟩ => ⟨S64x2048, .i32⟩
  | .hbm, ⟨15, _⟩ => ⟨S64x2048, .f32⟩
  | .local .tc .vmem, ⟨0, _⟩ => ⟨S1x2048x128, .f32⟩
  | .local .tc .vmem, ⟨1, _⟩ => ⟨S1x2048x128, .f32⟩
  | .local .tc .vmem, ⟨2, _⟩ => ⟨S1x128, .f32⟩
  | .local .tc .vmem, ⟨3, _⟩ => ⟨S128x128, .f32⟩
  | .local .tc .vmem, ⟨4, _⟩ => ⟨S1x1x2048, .f32⟩
  | .local .tc .vmem, ⟨5, _⟩ => ⟨S1x1x2048, .f32⟩
  | .local .tc .vmem, ⟨6, _⟩ => ⟨S1x1x2048, .i32⟩
  | .local .tc .vmem, ⟨7, _⟩ => ⟨S1x1x2048, .i32⟩
  | .local .tc .vmem, ⟨8, _⟩ => ⟨S2048x128, .f32⟩
  | .local .tc .vmem, ⟨9, _⟩ => ⟨S16x1x128, .f32⟩
  | .local .tc .vmem, ⟨10, _⟩ => ⟨S16x1x128, .i32⟩
  | .local .tc .vmem, ⟨11, _⟩ => ⟨S8x2048, .f32⟩
  | .local .tc .vmem, ⟨12, _⟩ => ⟨S8x2048, .f32⟩
  | .local .tc .vmem, ⟨13, _⟩ => ⟨S8x2048, .f32⟩
  | .local .tc .vmem, ⟨14, _⟩ => ⟨S8x2048, .f32⟩
  | .local .tc .smem, ⟨0, _⟩ => ⟨S1x1, .f32⟩
  | .local .scVector .vmem, ⟨0, _⟩ => ⟨S2048, .f32⟩
  | .local .scVector .vmem, ⟨1, _⟩ => ⟨S2048, .i32⟩
  | .local .scVector .vmem, ⟨2, _⟩ => ⟨S2048, .f32⟩
  | .local .scVector .vmem, ⟨3, _⟩ => ⟨S2048, .i32⟩
  | .local .scVector .vmem, ⟨4, _⟩ => ⟨S2048, .i32⟩
  | _, _ => ⟨S64x2048x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev main_v6_scv : Ref sig .scVector := ⟨.hbm, 11, rfl⟩
abbrev main_v7_scv : Ref sig .scVector := ⟨.hbm, 12, rfl⟩
abbrev main_v8_0_scv : Ref sig .scVector := ⟨.hbm, 13, rfl⟩
abbrev main_v8_1_scv : Ref sig .scVector := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc0_stg3_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc2_sem0_0 : DmaSem sig := 17
abbrev cc2_sem0_1 : DmaSem sig := 18
abbrev cc2_sem1_0 : DmaSem sig := 19
abbrev cc2_sem1_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c16_i32 : BitVec 32 := 16#32
  let v82 : BitVec 32 := Scalar.addi c0_i32 c16_i32
  let c1_i32 : BitVec 32 := 1#32
  ⟨c0_i32, v82, c1_i32⟩
def k0_off1 (k0_t1 : Fin k0_t1_loop.trips) : Fin 3 → Nat :=
  let c0_i32 : BitVec 32 := 0#32
  let c1_i32 : BitVec 32 := 1#32
  let arg10 : BitVec 32 := Scf.iv c0_i32 c1_i32 k0_t1
  let v119 : Index := Scalar.indexCast arg10
  let c0_99 : Index := 0#32
  let c0_100 : Index := 0#32
  ![v119.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) (c0_i32_1 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let v4 : BitVec 32 := Scalar.addi v3 c0_i32_1
  let c0_i32_22_r0 : BitVec 32 := 0#32
  ![v4.toNat, 0]
@[reducible] def k1_t1_loop : Scf.Loop 32 :=
  let c0_i32_3 : BitVec 32 := 0#32
  let c128_i32 : BitVec 32 := 128#32
  let v5 : BitVec 32 := Scalar.addi c0_i32_3 c128_i32
  let c1_i32 : BitVec 32 := 1#32
  ⟨c0_i32_3, v5, c1_i32⟩
def k1_off2 (k1_t1 : Fin k1_t1_loop.trips) : Fin 1 → Nat :=
  let c0_i32_3 : BitVec 32 := 0#32
  let c1_i32 : BitVec 32 := 1#32
  let arg11 : BitVec 32 := Scf.iv c0_i32_3 c1_i32 k1_t1
  let c16_i32 : BitVec 32 := 16#32
  let v15 : BitVec 32 := Scalar.muli arg11 c16_i32
  let v16 : Index := Scalar.indexCast v15
  ![v16.toNat]
@[reducible] def k1_t2_loop : Scf.Loop 32 :=
  let c0_i32_6 : BitVec 32 := 0#32
  let c128_i32_7 : BitVec 32 := 128#32
  let v7 : BitVec 32 := Scalar.addi c0_i32_6 c128_i32_7
  let c1_i32_8 : BitVec 32 := 1#32
  ⟨c0_i32_6, v7, c1_i32_8⟩
def k1_off3 (k1_t2 : Fin k1_t2_loop.trips) : Fin 1 → Nat :=
  let c0_i32_6 : BitVec 32 := 0#32
  let c1_i32_8 : BitVec 32 := 1#32
  let arg11 : BitVec 32 := Scf.iv c0_i32_6 c1_i32_8 k1_t2
  let c16_i32 : BitVec 32 := 16#32
  let v15 : BitVec 32 := Scalar.muli arg11 c16_i32
  let v16 : Index := Scalar.indexCast v15
  ![v16.toNat]

def k1_chk2 (v28 : IVec S16 32) : Prop :=
  (∀ a x, ((![v28] : Fin 1 → IVec S16 32) a x).toNat < S2048.size a) ∧
  (∀ a x, ((![v28] : Fin 1 → IVec S16 32) a x).toNat < S2048.size a)
theorem k1_idx2_inb : ∀ (v28 : IVec S16 32) (k1_hw2 : k1_chk2 v28), ∀ a x, ((![v28] : Fin 1 → IVec S16 32) a x).toNat < S2048.size a := fun v28 k1_hw2 => k1_hw2.1
theorem k1_idx3_inb : ∀ (v28 : IVec S16 32) (k1_hw2 : k1_chk2 v28), ∀ a x, ((![v28] : Fin 1 → IVec S16 32) a x).toNat < S2048.size a := fun v28 k1_hw2 => k1_hw2.2

def k1_chk1 (v17 : IVec S16 32) : Prop :=
  (∀ a x, ((![v17] : Fin 1 → IVec S16 32) a x).toNat < S2048.size a) ∧
  (∀ a x, ((![v17] : Fin 1 → IVec S16 32) a x).toNat < S2048.size a)
theorem k1_idx1_inb : ∀ (v17 : IVec S16 32) (k1_hw1 : k1_chk1 v17), ∀ a x, ((![v17] : Fin 1 → IVec S16 32) a x).toNat < S2048.size a := fun v17 k1_hw1 => k1_hw1.1
theorem k1_idx4_inb : ∀ (v17 : IVec S16 32) (k1_hw1 : k1_chk1 v17), ∀ a x, ((![v17] : Fin 1 → IVec S16 32) a x).toNat < S2048.size a := fun v17 k1_hw1 => k1_hw1.2
@[reducible] def k1_t3_loop : Scf.Loop 32 :=
  let c0_i32_13 : BitVec 32 := 0#32
  let c128_i32_14 : BitVec 32 := 128#32
  let v11 : BitVec 32 := Scalar.addi c0_i32_13 c128_i32_14
  let c1_i32_15 : BitVec 32 := 1#32
  ⟨c0_i32_13, v11, c1_i32_15⟩
def k1_off4 (k1_t3 : Fin k1_t3_loop.trips) : Fin 1 → Nat :=
  let c0_i32_13 : BitVec 32 := 0#32
  let c1_i32_15 : BitVec 32 := 1#32
  let arg11 : BitVec 32 := Scf.iv c0_i32_13 c1_i32_15 k1_t3
  let c16_i32 : BitVec 32 := 16#32
  let v15 : BitVec 32 := Scalar.muli arg11 c16_i32
  let v16 : Index := Scalar.indexCast v15
  ![v16.toNat]
@[reducible] def k1_t4_loop : Scf.Loop 32 :=
  let c0_i32_18 : BitVec 32 := 0#32
  let c128_i32_19 : BitVec 32 := 128#32
  let v13 : BitVec 32 := Scalar.addi c0_i32_18 c128_i32_19
  let c1_i32_20 : BitVec 32 := 1#32
  ⟨c0_i32_18, v13, c1_i32_20⟩
def k1_off5 (k1_t4 : Fin k1_t4_loop.trips) : Fin 1 → Nat :=
  let c0_i32_18 : BitVec 32 := 0#32
  let c1_i32_20 : BitVec 32 := 1#32
  let arg11 : BitVec 32 := Scf.iv c0_i32_18 c1_i32_20 k1_t4
  let c16_i32 : BitVec 32 := 16#32
  let v15 : BitVec 32 := Scalar.muli arg11 c16_i32
  let v16 : Index := Scalar.indexCast v15
  ![v16.toNat]

def k1_chk4 (v28 : IVec S16 32) : Prop :=
  (∀ a x, ((![v28] : Fin 1 → IVec S16 32) a x).toNat < S2048.size a) ∧
  (∀ a x, ((![v28] : Fin 1 → IVec S16 32) a x).toNat < S2048.size a)
theorem k1_idx6_inb : ∀ (v28 : IVec S16 32) (k1_hw4 : k1_chk4 v28), ∀ a x, ((![v28] : Fin 1 → IVec S16 32) a x).toNat < S2048.size a := fun v28 k1_hw4 => k1_hw4.1
theorem k1_idx7_inb : ∀ (v28 : IVec S16 32) (k1_hw4 : k1_chk4 v28), ∀ a x, ((![v28] : Fin 1 → IVec S16 32) a x).toNat < S2048.size a := fun v28 k1_hw4 => k1_hw4.2

def k1_chk3 (v17 : IVec S16 32) : Prop :=
  (∀ a x, ((![v17] : Fin 1 → IVec S16 32) a x).toNat < S2048.size a) ∧
  (∀ a x, ((![v17] : Fin 1 → IVec S16 32) a x).toNat < S2048.size a)
theorem k1_idx5_inb : ∀ (v17 : IVec S16 32) (k1_hw3 : k1_chk3 v17), ∀ a x, ((![v17] : Fin 1 → IVec S16 32) a x).toNat < S2048.size a := fun v17 k1_hw3 => k1_hw3.1
theorem k1_idx8_inb : ∀ (v17 : IVec S16 32) (k1_hw3 : k1_chk3 v17), ∀ a x, ((![v17] : Fin 1 → IVec S16 32) a x).toNat < S2048.size a := fun v17 k1_hw3 => k1_hw3.2
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x2048x128 : Shape := ⟨3, ![64, 2048, 128]⟩
abbrev S1x128 : Shape := ⟨2, ![1, 128]⟩
abbrev S1 : Shape := ⟨1, ![1]⟩
abbrev S_ : Shape := ⟨0, ![]⟩
abbrev S128x1 : Shape := ⟨2, ![128, 1]⟩
abbrev S64x2048x1 : Shape := ⟨3, ![64, 2048, 1]⟩
abbrev S1x1x1 : Shape := ⟨3, ![1, 1, 1]⟩
abbrev S64x2048 : Shape := ⟨2, ![64, 2048]⟩
abbrev S64 : Shape := ⟨1, ![64]⟩
abbrev S2048x64 : Shape := ⟨2, ![2048, 64]⟩
abbrev S64x1 : Shape := ⟨2, ![64, 1]⟩
abbrev S2048 : Shape := ⟨1, ![2048]⟩
abbrev S64x1x1 : Shape := ⟨3, ![64, 1, 1]⟩
abbrev S64x2 : Shape := ⟨2, ![64, 2]⟩
abbrev S1x64 : Shape := ⟨2, ![1, 64]⟩

abbrev nBuf : Space → Nat
  | .hbm => 112
  | .vmem => 0
  | .smem => 0
  | _ => 0

abbrev bufTy : (tb : Table) → Fin (tcTables nBuf tb) → BufTy
  | .hbm, ⟨0, _⟩ => ⟨S64x2048x128, .f32⟩
  | .hbm, ⟨1, _⟩ => ⟨S1x128, .f32⟩
  | .hbm, ⟨2, _⟩ => ⟨S1, .f32⟩
  | .hbm, ⟨3, _⟩ => ⟨S_, .i32⟩
  | .hbm, ⟨4, _⟩ => ⟨S128x1, .f32⟩
  | .hbm, ⟨5, _⟩ => ⟨S64x2048x1, .f32⟩
  | .hbm, ⟨6, _⟩ => ⟨S1x1x1, .f32⟩
  | .hbm, ⟨7, _⟩ => ⟨S64x2048x1, .f32⟩
  | .hbm, ⟨8, _⟩ => ⟨S64x2048x1, .f32⟩
  | .hbm, ⟨9, _⟩ => ⟨S64x2048, .f32⟩
  | .hbm, ⟨10, _⟩ => ⟨S64, .i32⟩
  | .hbm, ⟨11, _⟩ => ⟨S_, .i1⟩
  | .hbm, ⟨12, _⟩ => ⟨S64x2048, .i1⟩
  | .hbm, ⟨13, _⟩ => ⟨S_, .f32⟩
  | .hbm, ⟨14, _⟩ => ⟨S2048x64, .f32⟩
  | .hbm, ⟨15, _⟩ => ⟨S_, .i32⟩
  | .hbm, ⟨16, _⟩ => ⟨S2048x64, .i32⟩
  | .hbm, ⟨17, _⟩ => ⟨S_, .i32⟩
  | .hbm, ⟨18, _⟩ => ⟨S64x2048, .f32⟩
  | .hbm, ⟨19, _⟩ => ⟨S64, .i32⟩
  | .hbm, ⟨20, _⟩ => ⟨S_, .i32⟩
  | .hbm, ⟨21, _⟩ => ⟨S64x2048, .i1⟩
  | .hbm, ⟨22, _⟩ => ⟨S2048x64, .f32⟩
  | .hbm, ⟨23, _⟩ => ⟨S2048x64, .i32⟩
  | .hbm, ⟨24, _⟩ => ⟨S_, .i32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S64x2048, .f32⟩
  | .hbm, ⟨29, _⟩ => ⟨S64x2048, .f32⟩
  | .hbm, ⟨30, _⟩ => ⟨S_, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64x1, .f32⟩
  | .hbm, ⟨36, _⟩ => ⟨S64x2048, .f32⟩
  | .hbm, ⟨37, _⟩ => ⟨S64x2048, .f32⟩
  | .hbm, ⟨38, _⟩ => ⟨S64x2048, .f32⟩
  | .hbm, ⟨39, _⟩ => ⟨S_, .f32⟩
  | .hbm, ⟨40, _⟩ => ⟨S64, .f32⟩
  | .hbm, ⟨41, _⟩ => ⟨S64x1, .f32⟩
  | .hbm, ⟨42, _⟩ => ⟨S64x2048, .f32⟩
  | .hbm, ⟨43, _⟩ => ⟨S64x2048, .f32⟩
  | .hbm, ⟨44, _⟩ => ⟨S_, .f32⟩
  | .hbm, ⟨45, _⟩ => ⟨S64, .f32⟩
  | .hbm, ⟨46, _⟩ => ⟨S64x1, .f32⟩
  | .hbm, ⟨47, _⟩ => ⟨S64x2048, .f32⟩
  | .hbm, ⟨48, _⟩ => ⟨S64x2048, .i1⟩
  | .hbm, ⟨49, _⟩ => ⟨S2048, .i32⟩
  | .hbm, ⟨50, _⟩ => ⟨S_, .i32⟩
  | .hbm, ⟨51, _⟩ => ⟨S_, .i32⟩
  | .hbm, ⟨52, _⟩ => ⟨S64x2048, .i32⟩
  | .hbm, ⟨53, _⟩ => ⟨S64x2048, .i32⟩
  | .hbm, ⟨54, _⟩ => ⟨S64x2048, .i32⟩
  | .hbm, ⟨55, _⟩ => ⟨S_, .i32⟩
  | .hbm, ⟨56, _⟩ => ⟨S64, .i32⟩
  | .hbm, ⟨57, _⟩ => ⟨S64x1, .i32⟩
  | .hbm, ⟨58, _⟩ => ⟨S_, .i32⟩
  | .hbm, ⟨59, _⟩ => ⟨S64x1, .i32⟩
  | .hbm, ⟨60, _⟩ => ⟨S64x1, .i1⟩
  | .hbm, ⟨61, _⟩ => ⟨S_, .i32⟩
  | .hbm, ⟨62, _⟩ => ⟨S64x1, .i32⟩
  | .hbm, ⟨63, _⟩ => ⟨S64x1, .i32⟩
  | .hbm, ⟨64, _⟩ => ⟨S64x1, .i32⟩
  | .hbm, ⟨65, _⟩ => ⟨S64x1x1, .i32⟩
  | .hbm, ⟨66, _⟩ => ⟨S1, .i32⟩
  | .hbm, ⟨67, _⟩ => ⟨S_, .i32⟩
  | .hbm, ⟨68, _⟩ => ⟨S64x1x1, .i32⟩
  | .hbm, ⟨69, _⟩ => ⟨S64x1x1, .i1⟩
  | .hbm, ⟨70, _⟩ => ⟨S1x1x1, .i32⟩
  | .hbm, ⟨71, _⟩ => ⟨S64x1x1, .i32⟩
  | .hbm, ⟨72, _⟩ => ⟨S64x1x1, .i1⟩
  | .hbm, ⟨73, _⟩ => ⟨S64x1x1, .i1⟩
  | .hbm, ⟨74, _⟩ => ⟨S_, .i1⟩
  | .hbm, ⟨75, _⟩ => ⟨S64x1, .i1⟩
  | .hbm, ⟨76, _⟩ => ⟨S64x1, .f32⟩
  | .hbm, ⟨77, _⟩ => ⟨S_, .f32⟩
  | .hbm, ⟨78, _⟩ => ⟨S64x1, .f32⟩
  | .hbm, ⟨79, _⟩ => ⟨S64x1, .f32⟩
  | .hbm, ⟨80, _⟩ => ⟨S64, .f32⟩
  | .hbm, ⟨81, _⟩ => ⟨S64, .f32⟩
  | .hbm, ⟨82, _⟩ => ⟨S_, .i32⟩
  | .hbm, ⟨83, _⟩ => ⟨S64, .i32⟩
  | .hbm, ⟨84, _⟩ => ⟨S64, .i1⟩
  | .hbm, ⟨85, _⟩ => ⟨S_, .i32⟩
  | .hbm, ⟨86, _⟩ => ⟨S64, .i32⟩
  | .hbm, ⟨87, _⟩ => ⟨S64, .i32⟩
  | .hbm, ⟨88, _⟩ => ⟨S64, .i32⟩
  | .hbm, ⟨89, _⟩ => ⟨S_, .i32⟩
  | .hbm, ⟨90, _⟩ => ⟨S64, .i32⟩
  | .hbm, ⟨91, _⟩ => ⟨S64, .i1⟩
  | .hbm, ⟨92, _⟩ => ⟨S_, .i32⟩
  | .hbm, ⟨93, _⟩ => ⟨S64, .i32⟩
  | .hbm, ⟨94, _⟩ => ⟨S64, .i32⟩
  | .hbm, ⟨95, _⟩ => ⟨S64, .i32⟩
  | .hbm, ⟨96, _⟩ => ⟨S64x1, .i32⟩
  | .hbm, ⟨97, _⟩ => ⟨S64x1, .i32⟩
  | .hbm, ⟨98, _⟩ => ⟨S64x2, .i32⟩
  | .hbm, ⟨99, _⟩ => ⟨S_, .i1⟩
  | .hbm, ⟨100, _⟩ => ⟨S64, .i1⟩
  | .hbm, ⟨101, _⟩ => ⟨S64x2048, .i1⟩
  | .hbm, ⟨102, _⟩ => ⟨S1x64, .f32⟩
  | .hbm, ⟨103, _⟩ => ⟨S_, .i32⟩
  | .hbm, ⟨104, _⟩ => ⟨S2048x64, .f32⟩
  | .hbm, ⟨105, _⟩ => ⟨S1x64, .i32⟩
  | .hbm, ⟨106, _⟩ => ⟨S_, .i32⟩
  | .hbm, ⟨107, _⟩ => ⟨S2048x64, .i32⟩
  | .hbm, ⟨108, _⟩ => ⟨S_, .i32⟩
  | .hbm, ⟨109, _⟩ => ⟨S_, .i32⟩
  | .hbm, ⟨110, _⟩ => ⟨S64x2048, .f32⟩
  | .hbm, ⟨111, _⟩ => ⟨S64x2048, .i32⟩
  | _, _ => ⟨S64x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev main_while0c_c_7 : Ref sig .tc := ⟨.hbm, 24, rfl⟩
abbrev main_while0c_v13 : Ref sig .tc := ⟨.hbm, 25, rfl⟩
abbrev main_while0b_cst_7 : Ref sig .tc := ⟨.hbm, 26, rfl⟩
abbrev main_while0b_call0_v0 : Ref sig .tc := ⟨.hbm, 27, rfl⟩
abbrev main_while0b_call0_v1 : Ref sig .tc := ⟨.hbm, 28, rfl⟩
abbrev main_while0b_v13 : Ref sig .tc := ⟨.hbm, 29, rfl⟩
abbrev main_while0b_cst_8 : Ref sig .tc := ⟨.hbm, 30, rfl⟩
abbrev main_while0b_v14 : Ref sig .tc := ⟨.hbm, 31, rfl⟩
abbrev main_while0b_cst_9 : Ref sig .tc := ⟨.hbm, 32, rfl⟩
abbrev main_while0b_v15 : Ref sig .tc := ⟨.hbm, 33, rfl⟩
abbrev main_while0b_v16 : Ref sig .tc := ⟨.hbm, 34, rfl⟩
abbrev main_while0b_v17 : Ref sig .tc := ⟨.hbm, 35, rfl⟩
abbrev main_while0b_v18 : Ref sig .tc := ⟨.hbm, 36, rfl⟩
abbrev main_while0b_v19 : Ref sig .tc := ⟨.hbm, 37, rfl⟩
abbrev main_while0b_v20 : Ref sig .tc := ⟨.hbm, 38, rfl⟩
abbrev main_while0b_cst_10 : Ref sig .tc := ⟨.hbm, 39, rfl⟩
abbrev main_while0b_v21 : Ref sig .tc := ⟨.hbm, 40, rfl⟩
abbrev main_while0b_v22 : Ref sig .tc := ⟨.hbm, 41, rfl⟩
abbrev main_while0b_v23 : Ref sig .tc := ⟨.hbm, 42, rfl⟩
abbrev main_while0b_v24 : Ref sig .tc := ⟨.hbm, 43, rfl⟩
abbrev main_while0b_cst_11 : Ref sig .tc := ⟨.hbm, 44, rfl⟩
abbrev main_while0b_v25 : Ref sig .tc := ⟨.hbm, 45, rfl⟩
abbrev main_while0b_v26 : Ref sig .tc := ⟨.hbm, 46, rfl⟩
abbrev main_while0b_v27 : Ref sig .tc := ⟨.hbm, 47, rfl⟩
abbrev main_while0b_v28 : Ref sig .tc := ⟨.hbm, 48, rfl⟩
abbrev main_while0b_v29 : Ref sig .tc := ⟨.hbm, 49, rfl⟩
abbrev main_while0b_c_12 : Ref sig .tc := ⟨.hbm, 50, rfl⟩
abbrev main_while0b_call1_v0 : Ref sig .tc := ⟨.hbm, 51, rfl⟩
abbrev main_while0b_call1_v1 : Ref sig .tc := ⟨.hbm, 52, rfl⟩
abbrev main_while0b_call1_v2 : Ref sig .tc := ⟨.hbm, 53, rfl⟩
abbrev main_while0b_v30 : Ref sig .tc := ⟨.hbm, 54, rfl⟩
abbrev main_while0b_c_13 : Ref sig .tc := ⟨.hbm, 55, rfl⟩
abbrev main_while0b_v31 : Ref sig .tc := ⟨.hbm, 56, rfl⟩
abbrev main_while0b_v32 : Ref sig .tc := ⟨.hbm, 57, rfl⟩
abbrev main_while0b_call2_c : Ref sig .tc := ⟨.hbm, 58, rfl⟩
abbrev main_while0b_call2_v0 : Ref sig .tc := ⟨.hbm, 59, rfl⟩
abbrev main_while0b_call2_v1 : Ref sig .tc := ⟨.hbm, 60, rfl⟩
abbrev main_while0b_call2_c_0 : Ref sig .tc := ⟨.hbm, 61, rfl⟩
abbrev main_while0b_call2_v2 : Ref sig .tc := ⟨.hbm, 62, rfl⟩
abbrev main_while0b_call2_v3 : Ref sig .tc := ⟨.hbm, 63, rfl⟩
abbrev main_while0b_call2_v4 : Ref sig .tc := ⟨.hbm, 64, rfl⟩
abbrev main_while0b_call2_v5 : Ref sig .tc := ⟨.hbm, 65, rfl⟩
abbrev main_while0b_call2_c_1 : Ref sig .tc := ⟨.hbm, 66, rfl⟩
abbrev main_while0b_call2_c_2 : Ref sig .tc := ⟨.hbm, 67, rfl⟩
abbrev main_while0b_call2_v6 : Ref sig .tc := ⟨.hbm, 68, rfl⟩
abbrev main_while0b_call2_v7 : Ref sig .tc := ⟨.hbm, 69, rfl⟩
abbrev main_while0b_call2_v8 : Ref sig .tc := ⟨.hbm, 70, rfl⟩
abbrev main_while0b_call2_v9 : Ref sig .tc := ⟨.hbm, 71, rfl⟩
abbrev main_while0b_call2_v10 : Ref sig .tc := ⟨.hbm, 72, rfl⟩
abbrev main_while0b_call2_v11 : Ref sig .tc := ⟨.hbm, 73, rfl⟩
abbrev main_while0b_call2_c_3 : Ref sig .tc := ⟨.hbm, 74, rfl⟩
abbrev main_while0b_call2_v12 : Ref sig .tc := ⟨.hbm, 75, rfl⟩
abbrev main_while0b_call2_v13 : Ref sig .tc := ⟨.hbm, 76, rfl⟩
abbrev main_while0b_call2_cst : Ref sig .tc := ⟨.hbm, 77, rfl⟩
abbrev main_while0b_call2_v14 : Ref sig .tc := ⟨.hbm, 78, rfl⟩
abbrev main_while0b_v33 : Ref sig .tc := ⟨.hbm, 79, rfl⟩
abbrev main_while0b_v34 : Ref sig .tc := ⟨.hbm, 80, rfl⟩
abbrev main_while0b_v35 : Ref sig .tc := ⟨.hbm, 81, rfl⟩
abbrev main_while0b_c_14 : Ref sig .tc := ⟨.hbm, 82, rfl⟩
abbrev main_while0b_v36 : Ref sig .tc := ⟨.hbm, 83, rfl⟩
abbrev main_while0b_v37 : Ref sig .tc := ⟨.hbm, 84, rfl⟩
abbrev main_while0b_c_15 : Ref sig .tc := ⟨.hbm, 85, rfl⟩
abbrev main_while0b_v38 : Ref sig .tc := ⟨.hbm, 86, rfl⟩
abbrev main_while0b_v39 : Ref sig .tc := ⟨.hbm, 87, rfl⟩
abbrev main_while0b_v40 : Ref sig .tc := ⟨.hbm, 88, rfl⟩
abbrev main_while0b_c_16 : Ref sig .tc := ⟨.hbm, 89, rfl⟩
abbrev main_while0b_v41 : Ref sig .tc := ⟨.hbm, 90, rfl⟩
abbrev main_while0b_v42 : Ref sig .tc := ⟨.hbm, 91, rfl⟩
abbrev main_while0b_c_17 : Ref sig .tc := ⟨.hbm, 92, rfl⟩
abbrev main_while0b_v43 : Ref sig .tc := ⟨.hbm, 93, rfl⟩
abbrev main_while0b_v44 : Ref sig .tc := ⟨.hbm, 94, rfl⟩
abbrev main_while0b_v45 : Ref sig .tc := ⟨.hbm, 95, rfl⟩
abbrev main_while0b_v46 : Ref sig .tc := ⟨.hbm, 96, rfl⟩
abbrev main_while0b_v47 : Ref sig .tc := ⟨.hbm, 97, rfl⟩
abbrev main_while0b_v48 : Ref sig .tc := ⟨.hbm, 98, rfl⟩
abbrev main_while0b_c_18 : Ref sig .tc := ⟨.hbm, 99, rfl⟩
abbrev main_while0b_v49 : Ref sig .tc := ⟨.hbm, 100, rfl⟩
abbrev main_while0b_v50 : Ref sig .tc := ⟨.hbm, 101, rfl⟩
abbrev main_while0b_call3_v0 : Ref sig .tc := ⟨.hbm, 102, rfl⟩
abbrev main_while0b_call3_c : Ref sig .tc := ⟨.hbm, 103, rfl⟩
abbrev main_while0b_v51 : Ref sig .tc := ⟨.hbm, 104, rfl⟩
abbrev main_while0b_call4_v0 : Ref sig .tc := ⟨.hbm, 105, rfl⟩
abbrev main_while0b_call4_c : Ref sig .tc := ⟨.hbm, 106, rfl⟩
abbrev main_while0b_v52 : Ref sig .tc := ⟨.hbm, 107, rfl⟩
abbrev main_while0b_c_19 : Ref sig .tc := ⟨.hbm, 108, rfl⟩
abbrev main_while0b_v53 : Ref sig .tc := ⟨.hbm, 109, rfl⟩
abbrev main_v11 : Ref sig .tc := ⟨.hbm, 110, rfl⟩
abbrev main_v12 : Ref sig .tc := ⟨.hbm, 111, rfl⟩

abbrev nD : Nat := 1
abbrev τ : Topo := Topo.v7x

variable {F : FTy → Type} [FloatOps F]

abbrev main_while0_count : Scf.Loop 32 := ⟨0#32, 2048#32, 1#32⟩
-- ==== Scatter.lean ====
abbrev S64x2048 : Shape := ⟨2, ![64, 2048]⟩
abbrev S2048 : Shape := ⟨1, ![2048]⟩
abbrev S16 : Shape := ⟨1, ![16]⟩
abbrev S_ : Shape := ⟨0, ![]⟩
abbrev S1x2048 : Shape := ⟨2, ![1, 2048]⟩

abbrev nBuf : Table → Nat
  | .hbm => 4
  | .local .scVector .vmem => 5
  | _ => 0

abbrev bufTy : (tb : Table) → Fin (nBuf tb) → BufTy
  | .hbm, ⟨0, _⟩ => ⟨S64x2048, .f32⟩
  | .hbm, ⟨1, _⟩ => ⟨S64x2048, .i32⟩
  | .hbm, ⟨2, _⟩ => ⟨S64x2048, .f32⟩
  | .hbm, ⟨3, _⟩ => ⟨S64x2048, .i32⟩
  | .local .scVector .vmem, ⟨0, _⟩ => ⟨S2048, .f32⟩
  | .local .scVector .vmem, ⟨1, _⟩ => ⟨S2048, .i32⟩
  | .local .scVector .vmem, ⟨2, _⟩ => ⟨S2048, .f32⟩
  | .local .scVector .vmem, ⟨3, _⟩ => ⟨S2048, .i32⟩
  | .local .scVector .vmem, ⟨4, _⟩ => ⟨S2048, .i32⟩
  | _, _ => ⟨S64x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_1 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let v4 : BitVec 32 := Scalar.addi v3 c0_i32_1
  let c0_i32_22_r0 : BitVec 32 := 0#32
  ![v4.toNat, 0]
@[reducible] def k0_t1_loop : Scf.Loop 32 :=
  let c0_i32_3 : BitVec 32 := 0#32
  let c128_i32 : BitVec 32 := 128#32
  let v5 : BitVec 32 := Scalar.addi c0_i32_3 c128_i32
  let c1_i32 : BitVec 32 := 1#32
  ⟨c0_i32_3, v5, c1_i32⟩
def k0_off2 (k0_t1 : Fin k0_t1_loop.trips) : Fin 1 → Nat :=
  let c0_i32_3 : BitVec 32 := 0#32
  let c1_i32 : BitVec 32 := 1#32
  let arg11 : BitVec 32 := Scf.iv c0_i32_3 c1_i32 k0_t1
  let c16_i32 : BitVec 32 := 16#32
  let v15 : BitVec 32 := Scalar.muli arg11 c16_i32
  let v16 : Index := Scalar.indexCast v15
  ![v16.toNat]
@[reducible] def k0_t2_loop : Scf.Loop 32 :=
  let c0_i32_6 : BitVec 32 := 0#32
  let c128_i32_7 : BitVec 32 := 128#32
  let v7 : BitVec 32 := Scalar.addi c0_i32_6 c128_i32_7
  let c1_i32_8 : BitVec 32 := 1#32
  ⟨c0_i32_6, v7, c1_i32_8⟩
def k0_off3 (k0_t2 : Fin k0_t2_loop.trips) : Fin 1 → Nat :=
  let c0_i32_6 : BitVec 32 := 0#32
  let c1_i32_8 : BitVec 32 := 1#32
  let arg11 : BitVec 32 := Scf.iv c0_i32_6 c1_i32_8 k0_t2
  let c16_i32 : BitVec 32 := 16#32
  let v15 : BitVec 32 := Scalar.muli arg11 c16_i32
  let v16 : Index := Scalar.indexCast v15
  ![v16.toNat]

def k0_chk2 (v28 : IVec S16 32) : Prop :=
  (∀ a x, ((![v28] : Fin 1 → IVec S16 32) a x).toNat < S2048.size a) ∧
  (∀ a x, ((![v28] : Fin 1 → IVec S16 32) a x).toNat < S2048.size a)
theorem k0_idx2_inb : ∀ (v28 : IVec S16 32) (k0_hw2 : k0_chk2 v28), ∀ a x, ((![v28] : Fin 1 → IVec S16 32) a x).toNat < S2048.size a := fun v28 k0_hw2 => k0_hw2.1
theorem k0_idx3_inb : ∀ (v28 : IVec S16 32) (k0_hw2 : k0_chk2 v28), ∀ a x, ((![v28] : Fin 1 → IVec S16 32) a x).toNat < S2048.size a := fun v28 k0_hw2 => k0_hw2.2

def k0_chk1 (v17 : IVec S16 32) : Prop :=
  (∀ a x, ((![v17] : Fin 1 → IVec S16 32) a x).toNat < S2048.size a) ∧
  (∀ a x, ((![v17] : Fin 1 → IVec S16 32) a x).toNat < S2048.size a)
theorem k0_idx1_inb : ∀ (v17 : IVec S16 32) (k0_hw1 : k0_chk1 v17), ∀ a x, ((![v17] : Fin 1 → IVec S16 32) a x).toNat < S2048.size a := fun v17 k0_hw1 => k0_hw1.1
theorem k0_idx4_inb : ∀ (v17 : IVec S16 32) (k0_hw1 : k0_chk1 v17), ∀ a x, ((![v17] : Fin 1 → IVec S16 32) a x).toNat < S2048.size a := fun v17 k0_hw1 => k0_hw1.2
@[reducible] def k0_t3_loop : Scf.Loop 32 :=
  let c0_i32_13 : BitVec 32 := 0#32
  let c128_i32_14 : BitVec 32 := 128#32
  let v11 : BitVec 32 := Scalar.addi c0_i32_13 c128_i32_14
  let c1_i32_15 : BitVec 32 := 1#32
  ⟨c0_i32_13, v11, c1_i32_15⟩
def k0_off4 (k0_t3 : Fin k0_t3_loop.trips) : Fin 1 → Nat :=
  let c0_i32_13 : BitVec 32 := 0#32
  let c1_i32_15 : BitVec 32 := 1#32
  let arg11 : BitVec 32 := Scf.iv c0_i32_13 c1_i32_15 k0_t3
  let c16_i32 : BitVec 32 := 16#32
  let v15 : BitVec 32 := Scalar.muli arg11 c16_i32
  let v16 : Index := Scalar.indexCast v15
  ![v16.toNat]
@[reducible] def k0_t4_loop : Scf.Loop 32 :=
  let c0_i32_18 : BitVec 32 := 0#32
  let c128_i32_19 : BitVec 32 := 128#32
  let v13 : BitVec 32 := Scalar.addi c0_i32_18 c128_i32_19
  let c1_i32_20 : BitVec 32 := 1#32
  ⟨c0_i32_18, v13, c1_i32_20⟩
def k0_off5 (k0_t4 : Fin k0_t4_loop.trips) : Fin 1 → Nat :=
  let c0_i32_18 : BitVec 32 := 0#32
  let c1_i32_20 : BitVec 32 := 1#32
  let arg11 : BitVec 32 := Scf.iv c0_i32_18 c1_i32_20 k0_t4
  let c16_i32 : BitVec 32 := 16#32
  let v15 : BitVec 32 := Scalar.muli arg11 c16_i32
  let v16 : Index := Scalar.indexCast v15
  ![v16.toNat]

def k0_chk4 (v28 : IVec S16 32) : Prop :=
  (∀ a x, ((![v28] : Fin 1 → IVec S16 32) a x).toNat < S2048.size a) ∧
  (∀ a x, ((![v28] : Fin 1 → IVec S16 32) a x).toNat < S2048.size a)
theorem k0_idx6_inb : ∀ (v28 : IVec S16 32) (k0_hw4 : k0_chk4 v28), ∀ a x, ((![v28] : Fin 1 → IVec S16 32) a x).toNat < S2048.size a := fun v28 k0_hw4 => k0_hw4.1
theorem k0_idx7_inb : ∀ (v28 : IVec S16 32) (k0_hw4 : k0_chk4 v28), ∀ a x, ((![v28] : Fin 1 → IVec S16 32) a x).toNat < S2048.size a := fun v28 k0_hw4 => k0_hw4.2

def k0_chk3 (v17 : IVec S16 32) : Prop :=
  (∀ a x, ((![v17] : Fin 1 → IVec S16 32) a x).toNat < S2048.size a) ∧
  (∀ a x, ((![v17] : Fin 1 → IVec S16 32) a x).toNat < S2048.size a)
theorem k0_idx5_inb : ∀ (v17 : IVec S16 32) (k0_hw3 : k0_chk3 v17), ∀ a x, ((![v17] : Fin 1 → IVec S16 32) a x).toNat < S2048.size a := fun v17 k0_hw3 => k0_hw3.1
theorem k0_idx8_inb : ∀ (v17 : IVec S16 32) (k0_hw3 : k0_chk3 v17), ∀ a x, ((![v17] : Fin 1 → IVec S16 32) a x).toNat < S2048.size a := fun v17 k0_hw3 => k0_hw3.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ByRank.lean ====
abbrev S64x2048 : Shape := ⟨2, ![64, 2048]⟩
abbrev S_ : Shape := ⟨0, ![]⟩
abbrev S64x2048x1 : Shape := ⟨3, ![64, 2048, 1]⟩
abbrev S1 : Shape := ⟨1, ![1]⟩
abbrev S1x1x1 : Shape := ⟨3, ![1, 1, 1]⟩

abbrev nBuf : Space → Nat
  | .hbm => 27
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S64x2048, .i32⟩
  | .hbm, ⟨2, _⟩ => ⟨S64x2048, .i32⟩
  | .hbm, ⟨3, _⟩ => ⟨S64x2048, .i32⟩
  | .hbm, ⟨4, _⟩ => ⟨S64x2048, .i32⟩
  | .hbm, ⟨5, _⟩ => ⟨S_, .i32⟩
  | .hbm, ⟨6, _⟩ => ⟨S64x2048, .i32⟩
  | .hbm, ⟨7, _⟩ => ⟨S64x2048, .i1⟩
  | .hbm, ⟨8, _⟩ => ⟨S_, .i32⟩
  | .hbm, ⟨9, _⟩ => ⟨S64x2048, .i32⟩
  | .hbm, ⟨10, _⟩ => ⟨S64x2048, .i32⟩
  | .hbm, ⟨11, _⟩ => ⟨S64x2048, .i32⟩
  | .hbm, ⟨12, _⟩ => ⟨S64x2048x1, .i32⟩
  | .hbm, ⟨13, _⟩ => ⟨S1, .i32⟩
  | .hbm, ⟨14, _⟩ => ⟨S_, .i32⟩
  | .hbm, ⟨15, _⟩ => ⟨S64x2048x1, .i32⟩
  | .hbm, ⟨16, _⟩ => ⟨S64x2048x1, .i1⟩
  | .hbm, ⟨17, _⟩ => ⟨S1x1x1, .i32⟩
  | .hbm, ⟨18, _⟩ => ⟨S64x2048x1, .i32⟩
  | .hbm, ⟨19, _⟩ => ⟨S64x2048x1, .i1⟩
  | .hbm, ⟨20, _⟩ => ⟨S64x2048x1, .i1⟩
  | .hbm, ⟨21, _⟩ => ⟨S_, .i1⟩
  | .hbm, ⟨22, _⟩ => ⟨S64x2048, .i1⟩
  | .hbm, ⟨23, _⟩ => ⟨S64x2048, .f32⟩
  | .hbm, ⟨24, _⟩ => ⟨S_, .f32⟩
  | .hbm, ⟨25, _⟩ => ⟨S64x2048, .f32⟩
  | .hbm, ⟨26, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_call1_c : Ref sig .tc := ⟨.hbm, 5, rfl⟩
abbrev main_call1_v0 : Ref sig .tc := ⟨.hbm, 6, rfl⟩
abbrev main_call1_v1 : Ref sig .tc := ⟨.hbm, 7, rfl⟩
abbrev main_call1_c_0 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_call1_v5 : Ref sig .tc := ⟨.hbm, 12, rfl⟩
abbrev main_call1_c_1 : Ref sig .tc := ⟨.hbm, 13, rfl⟩
abbrev main_call1_c_2 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_c_3 : Ref sig .tc := ⟨.hbm, 21, rfl⟩
abbrev main_call1_v12 : Ref sig .tc := ⟨.hbm, 22, rfl⟩
abbrev main_call1_v13 : Ref sig .tc := ⟨.hbm, 23, rfl⟩
abbrev main_call1_cst : Ref sig .tc := ⟨.hbm, 24, rfl⟩
abbrev main_call1_v14 : Ref sig .tc := ⟨.hbm, 25, rfl⟩
abbrev main_v1 : Ref sig .tc := ⟨.hbm, 26, rfl⟩

abbrev nD : Nat := 1
abbrev τ : Topo := Topo.v7x

variable {F : FTy → Type} [FloatOps F]
-- ==== Proof.Counting.lean ====
/-
  The counting behind the scatter, over plain functions, no program in sight.

  `r : Fin n → ℕ` gives each element of a row its rank, `IsRanking r` says that the rank is the number of elements of
  smaller rank. `before r m v` counts the elements among the first `m` whose rank is `v`, `pos r j = r j + before r j (r j)`
  is where the kernel puts element `j`. Then `pos r` is a permutation of the row and it is the order of a stable sort by
  `r` (`pos_sortedFrom`).
-/
module

public import Idealize.ShloMosaic.Lib.SortFacts

@[expose] public section

namespace Cert.Counting

open Idealize.ShloMosaic

variable {n : ℕ}

/-- How many of the elements `0 … m-1` have rank `v`. -/
def before (r : Fin n → ℕ) (m v : ℕ) : ℕ := (Finset.univ.filter fun j : Fin n => j.val < m ∧ r j = v).card

/-- Where element `j` goes: its rank, and past the earlier elements of the same rank. -/
def pos (r : Fin n → ℕ) (j : Fin n) : ℕ := r j + before r j.val (r j)

/-- Each rank is the number of elements of smaller rank. -/
def IsRanking (r : Fin n → ℕ) : Prop := ∀ j, r j = (Finset.univ.filter fun i => r i < r j).card

/-- `i` comes before `j`: at a smaller rank, or at the same rank and at a smaller index. -/
def Lex (r : Fin n → ℕ) (i j : Fin n) : Prop := r i < r j ∨ (r i = r j ∧ i < j)

instance (r : Fin n → ℕ) (i j : Fin n) : Decidable (Lex r i j) := by unfold Lex; infer_instance

/-- None before the first. -/
theorem before_zero (r : Fin n → ℕ) (v : ℕ) : before r 0 v = 0 := by
  simp [before]

/-- No more than the row has. -/
theorem before_le (r : Fin n → ℕ) (m v : ℕ) : before r m v ≤ n := by
  refine (Finset.card_le_univ _).trans ?_
  simp

/-- Counting one block further: the elements of the block that have rank `v` are added. -/
theorem before_add (r : Fin n → ℕ) (m k v : ℕ) :
    before r (m + k) v = before r m v + (Finset.univ.filter fun j : Fin n => (m ≤ j.val ∧ j.val < m + k) ∧ r j = v).card := by
  unfold before
  rw [← Finset.card_union_of_disjoint]
  · congr 1; ext j; simp only [Finset.mem_filter, Finset.mem_univ, true_and, Finset.mem_union]; constructor
    · intro ⟨h1, h2⟩
      by_cases h : j.val < m
      · exact .inl ⟨h, h2⟩
      · exact .inr ⟨⟨by omega, h1⟩, h2⟩
    · rintro (⟨h1, h2⟩ | ⟨⟨h0, h1⟩, h2⟩)
      · exact ⟨by omega, h2⟩
      · exact ⟨h1, h2⟩
  · rw [Finset.disjoint_left]; intro j h1 h2
    simp only [Finset.mem_filter, Finset.mem_univ, true_and] at h1 h2; omega

/-- The position of an element is the number of elements before it. -/
theorem pos_eq_card {r : Fin n → ℕ} (hr : IsRanking r) (j : Fin n) :
    pos r j = (Finset.univ.filter fun i => Lex r i j).card := by
  unfold pos
  nth_rw 1 [hr j]
  unfold before
  rw [← Finset.card_union_of_disjoint]
  · congr 1; ext i; simp only [Finset.mem_filter, Finset.mem_univ, true_and, Finset.mem_union, Lex, Fin.lt_def]
    constructor
    · rintro (h | ⟨h1, h2⟩)
      · exact .inl h
      · exact .inr ⟨h2, h1⟩
    · rintro (h | ⟨h1, h2⟩)
      · exact .inl h
      · exact .inr ⟨h2, h1⟩
  · rw [Finset.disjoint_left]; intro i h1 h2
    simp only [Finset.mem_filter, Finset.mem_univ, true_and] at h1 h2; omega

/-- The order is transitive. -/
theorem lex_trans {r : Fin n → ℕ} {i j k : Fin n} (h1 : Lex r i j) (h2 : Lex r j k) : Lex r i k := by
  unfold Lex at *; rw [Fin.lt_def] at *; omega

/-- The order is irreflexive. -/
theorem lex_irrefl (r : Fin n → ℕ) (i : Fin n) : ¬ Lex r i i := by
  unfold Lex; rw [Fin.lt_def]; omega

/-- Of two elements one comes first. -/
theorem lex_total {r : Fin n → ℕ} {i j : Fin n} (h : i ≠ j) : Lex r i j ∨ Lex r j i := by
  have : i.val ≠ j.val := fun e => h (Fin.ext e)
  unfold Lex; simp only [Fin.lt_def]; omega

/-- An element before another has the smaller position. -/
theorem pos_lt_pos {r : Fin n → ℕ} (hr : IsRanking r) {i j : Fin n} (h : Lex r i j) : pos r i < pos r j := by
  rw [pos_eq_card hr, pos_eq_card hr]
  refine Finset.card_lt_card ((Finset.ssubset_iff_of_subset ?_).mpr ⟨i, ?_, ?_⟩)
  · intro k; simp only [Finset.mem_filter, Finset.mem_univ, true_and]; exact fun hk => lex_trans hk h
  · simpa using h
  · simpa using lex_irrefl r i

/-- Every position is in the row. -/
theorem pos_lt {r : Fin n → ℕ} (hr : IsRanking r) (j : Fin n) : pos r j < n := by
  rw [pos_eq_card hr]
  calc (Finset.univ.filter fun i => Lex r i j).card < (Finset.univ : Finset (Fin n)).card :=
        Finset.card_lt_card ((Finset.ssubset_iff_of_subset (Finset.filter_subset _ _)).mpr
          ⟨j, Finset.mem_univ _, by simpa using lex_irrefl r j⟩)
    _ = n := by simp

/-- A rank is below the row's length. -/
theorem rank_lt {r : Fin n → ℕ} (hr : IsRanking r) (j : Fin n) : r j < n :=
  lt_of_le_of_lt (Nat.le_add_right _ _) (pos_lt hr j)

/-- No two elements go to one position. -/
theorem pos_injective {r : Fin n → ℕ} (hr : IsRanking r) : Function.Injective (pos r) := by
  intro i j h
  by_contra hne
  rcases lex_total (r := r) hne with h' | h'
  · exact absurd h (Nat.ne_of_lt (pos_lt_pos hr h'))
  · exact absurd h.symm (Nat.ne_of_lt (pos_lt_pos hr h'))

/-- The position as an index of the row. -/
def posFin {r : Fin n → ℕ} (hr : IsRanking r) (j : Fin n) : Fin n := ⟨pos r j, pos_lt hr j⟩

/-- Each position is taken once. -/
theorem posFin_bijective {r : Fin n → ℕ} (hr : IsRanking r) : Function.Bijective (posFin hr) :=
  Finite.injective_iff_bijective.mp fun _ _ h => pos_injective hr (congrArg Fin.val h)

/-- Putting `a` in its place in a sorted list of elements of larger index keeps it sorted. -/
theorem pairwise_insert (r : Fin n → ℕ) (a : Fin n) (l : List (Fin n)) (ha : ∀ b ∈ l, a < b) (hl : l.Pairwise (Lex r)) :
    (insertBefore (fun k k' => decide (r k < r k')) a l).Pairwise (Lex r) := by
  induction l with
  | nil => exact List.pairwise_singleton _ _
  | cons b l ih =>
    rw [List.pairwise_cons] at hl
    unfold insertBefore
    split
    · rename_i h
      rw [decide_eq_true_eq] at h
      refine List.pairwise_cons.mpr ⟨fun c hc => ?_, ih (fun c hc => ha c (List.mem_cons_of_mem _ hc)) hl.2⟩
      rcases List.mem_cons.mp ((perm_insertBefore _ a l).mem_iff.mp hc) with rfl | hc'
      · exact .inl h
      · exact hl.1 c hc'
    · rename_i h
      rw [decide_eq_true_eq] at h
      refine List.pairwise_cons.mpr ⟨fun c hc => ?_, List.pairwise_cons.mpr hl⟩
      have hac := ha c hc
      rcases List.mem_cons.mp hc with rfl | hc
      · rcases Nat.lt_or_ge (r a) (r c) with h' | h'
        · exact .inl h'
        · exact .inr ⟨by omega, hac⟩
      · have := hl.1 c hc
        unfold Lex at *; rw [Fin.lt_def] at *; omega

/-- A stable sort of elements in the order of their indices puts them in order. -/
theorem pairwise_stableSort (r : Fin n → ℕ) (l : List (Fin n)) (hl : l.Pairwise (· < ·)) :
    (stableSort (fun k k' => decide (r k < r k')) l).Pairwise (Lex r) := by
  induction l with
  | nil => exact List.Pairwise.nil
  | cons a l ih =>
    rw [List.pairwise_cons] at hl
    unfold stableSort
    exact pairwise_insert r a _ (fun b hb => hl.1 b ((perm_stableSort _ l).mem_iff.mp hb)) (ih hl.2)

/-- The stable sort's sources come in order. -/
theorem sortedFrom_lex (r : Fin n → ℕ) {p q : Fin n} (h : p < q) :
    Lex r (sortedFrom (fun k k' => decide (r k < r k')) p) (sortedFrom (fun k k' => decide (r k < r k')) q) := by
  have hp : ∀ a b : Fin (sortPositions n (fun k k' => decide (r k < r k'))).length, a < b →
      Lex r ((sortPositions n _).get a) ((sortPositions n _).get b) :=
    List.pairwise_iff_get.mp (pairwise_stableSort r (List.finRange n) (List.pairwise_lt_finRange n))
  unfold sortedFrom
  exact hp _ _ (by simp only [Fin.lt_def, Fin.val_cast]; exact h)

/-- A strictly increasing map of `Fin n` to itself is the identity. -/
theorem eq_self_of_strictMono (f : Fin n → Fin n) (hf : StrictMono f) (p : Fin n) : f p = p := by
  have := Subsingleton.elim (hf.orderIsoOfSurjective f (Finite.injective_iff_surjective.mp hf.injective)) (OrderIso.refl _)
  exact congrArg (fun e : Fin n ≃o Fin n => e p) this

/-- The element that a stable sort by rank puts at `p` is the one whose position is `p`. -/
theorem pos_sortedFrom {r : Fin n → ℕ} (hr : IsRanking r) (p : Fin n) :
    pos r (sortedFrom (fun k k' => decide (r k < r k')) p) = p.val :=
  congrArg Fin.val (eq_self_of_strictMono (fun p => posFin hr (sortedFrom (fun k k' => decide (r k < r k')) p))
    (fun _ _ h => pos_lt_pos hr (sortedFrom_lex r h)) p)

/-- The element that goes to position `p` is the one that the stable sort puts there. -/
theorem sortedFrom_pos {r : Fin n → ℕ} (hr : IsRanking r) (j : Fin n) :
    sortedFrom (fun k k' => decide (r k < r k')) ⟨pos r j, pos_lt hr j⟩ = j :=
  pos_injective hr (pos_sortedFrom hr _)

end Cert.Counting

end
-- ==== Proof.Lanes.lean ====
/-
  One trip of the counting scatter, over plain vectors: sixteen lanes read their ranks, the running counts at those
  ranks and the lanes' own counts among themselves, write their score and their index at the position that gives, and
  the last lane of each rank writes the new count back.

  `Inv rk sc k ov oi cnt` is what holds before trip `k`; `inv_step` is the trip, `inv_end` what is left after all 128.
-/
module

public import proofs.«01_k».proof.Proof.Counting
public import Idealize.ShloMosaic.Lib.SparseCore

@[expose] public section

namespace Cert.Counting

open Idealize.ShloMosaic

variable {F : FTy → Type}

/-- The shapes of a row and of a lane vector. -/
abbrev SRow : Shape := ⟨1, ![2048]⟩
abbrev SLane : Shape := ⟨1, ![16]⟩

/-- Element `j` of a row. -/
abbrev at' (j : Fin 2048) : SRow.Idx := Shape.Idx.ofFin j

/-- Positions of a row by their numbers are distinct. -/
theorem at'_injective : Function.Injective at' := fun i j h => by
  have := congrFun h 0
  exact Fin.ext (congrArg (fun x : Fin 2048 => x.val) this)

/-- A position of a row is its number. -/
theorem eq_at' (x : SRow.Idx) : x = at' (x 0) := Shape.Idx.eq_ofFin x

/-- The ranks of a row, as numbers. -/
def ranks (rk : IVec SRow 32) (j : Fin 2048) : ℕ := (rk (at' j)).toNat

/-- The element of the row that lane `x` holds in trip `k`. -/
def lane (k : ℕ) (hk : k < 128) (x : SLane.Idx) : Fin 2048 := ⟨16 * k + (x 0).val, by have : (x 0).val < 16 := (x 0).isLt; omega⟩

/-! ## The indexed store, one element at a time -/

section StoreIdx

variable [FloatOps F] {s : Shape} {e : EltTy} {d : Fin 1 → Nat}

/-- What the fold of an indexed store leaves at `j`, when every lane that names `j` brings `y`. -/
theorem foldl_store_hit (l : List (Fin (d 0))) (idxs : Fin s.rank → IVec ⟨1, d⟩ 32) (v : Vec F ⟨1, d⟩ e) (mask : IVec ⟨1, d⟩ 1)
    (h : ∀ a x, (idxs a x).toNat < s.size a) (j : s.Idx) (y : Elt F e)
    (hy : ∀ x, mask x = 1 → idxAt idxs h x = j → v x = y) (f : Vec F s e)
    (hf : f j = y ∨ ∃ k ∈ l, mask (Shape.ofLane k) = 1 ∧ idxAt idxs h (Shape.ofLane k) = j) :
    l.foldl (fun g k =>
      let x := Shape.ofLane k
      if mask x = 1 then
        let i := idxAt idxs h x
        let y := if false then Elt.idxAdd e (g i) (v x) else v x
        fun j => if (∀ a, (j a).val = (i a).val) then y else g j
      else g) f j = y := by
  induction l generalizing f with
  | nil => rcases hf with hf | ⟨k, hk, -⟩; exacts [hf, absurd hk (List.not_mem_nil)]
  | cons k l ih =>
    rw [List.foldl_cons]
    apply ih
    by_cases hm : mask (Shape.ofLane k) = 1
    · simp only [hm, if_true, Bool.false_eq_true, if_false]
      by_cases hi : idxAt idxs h (Shape.ofLane k) = j
      · left
        rw [if_pos (fun a => by rw [hi])]
        exact hy _ hm hi
      · have : ¬ ∀ a, (j a).val = (idxAt idxs h (Shape.ofLane k) a).val := fun e => hi (funext fun a => Fin.ext (e a).symm)
        rw [if_neg this]
        rcases hf with hf | ⟨k', hk', h1, h2⟩
        · exact .inl hf
        · rcases List.mem_cons.mp hk' with rfl | hk'
          · exact absurd h2 hi
          · exact .inr ⟨k', hk', h1, h2⟩
    · simp only [hm, if_false]
      rcases hf with hf | ⟨k', hk', h1, h2⟩
      · exact .inl hf
      · rcases List.mem_cons.mp hk' with rfl | hk'
        · exact absurd h1 hm
        · exact .inr ⟨k', hk', h1, h2⟩

/-- A lane is its number. -/
theorem ofLane_zero (x : (⟨1, d⟩ : Shape).Idx) : Shape.ofLane (x 0) = x := by
  funext a
  have : a = 0 := Subsingleton.elim _ _
  subst this
  exact Fin.ext rfl

/-- An element that some lane names, every such lane bringing `y`, holds `y` after the store. -/
theorem storeIdx_hit (f : Vec F s e) (idxs : Fin s.rank → IVec ⟨1, d⟩ 32) (v : Vec F ⟨1, d⟩ e) (mask : IVec ⟨1, d⟩ 1)
    (h : ∀ a x, (idxs a x).toNat < s.size a) (j : s.Idx) (y : Elt F e)
    (hy : ∀ x, mask x = 1 → idxAt idxs h x = j → v x = y) (x : (⟨1, d⟩ : Shape).Idx) (hm : mask x = 1) (hx : idxAt idxs h x = j) :
    storeIdx f idxs v mask false h j = y := by
  unfold storeIdx
  exact foldl_store_hit _ idxs v mask h j y hy f (.inr ⟨x 0, List.mem_finRange _, by rw [ofLane_zero]; exact hm, by rw [ofLane_zero]; exact hx⟩)

/-- An element that no lane names keeps its value. -/
theorem storeIdx_miss (f : Vec F s e) (idxs : Fin s.rank → IVec ⟨1, d⟩ 32) (v : Vec F ⟨1, d⟩ e) (mask : IVec ⟨1, d⟩ 1)
    (h : ∀ a x, (idxs a x).toNat < s.size a) (j : s.Idx) (hy : ∀ x, mask x = 1 → idxAt idxs h x ≠ j) :
    storeIdx f idxs v mask false h j = f j := by
  unfold storeIdx
  exact foldl_store_hit _ idxs v mask h j (f j) (fun x hm hx => absurd hx (hy x hm)) f (.inl rfl)

end StoreIdx

/-! ## The counts of a block -/

section Block

variable (rk : IVec SRow 32) (k : ℕ) (hk : k < 128)

/-- The number of the element that a lane holds. -/
theorem lane_val (x : SLane.Idx) : (lane k hk x).val = 16 * k + (x 0).val := rfl

/-- There are sixteen lanes. -/
theorem lane_lt (x : SLane.Idx) : (x 0).val < 16 := (x 0).isLt

/-- Every element of the block is some lane's. -/
theorem exists_lane {j : Fin 2048} (h1 : 16 * k ≤ j.val) (h2 : j.val < 16 * k + 16) : ∃ x, lane k hk x = j :=
  ⟨Shape.Idx.ofFin (n := 16) ⟨j.val - 16 * k, by omega⟩, Fin.ext (show 16 * k + (j.val - 16 * k) = j.val by omega)⟩

/-- Two lanes hold two elements. -/
theorem lane_injective : Function.Injective (lane k hk) := fun x y h => by
  have h0 : 16 * k + (x 0).val = 16 * k + (y 0).val := congrArg Fin.val h
  funext a
  have : a = 0 := Subsingleton.elim _ _
  subst this
  exact Fin.ext (by omega)

/-- The running count past lane `x`: the count before the block, and the lanes up to `x` that hold the same rank. -/
theorem before_lane (x : SLane.Idx) (v : ℕ) :
    before (ranks rk) (16 * k + ((x 0).val + 1)) v = before (ranks rk) (16 * k) v
      + (Finset.univ.filter fun y : SLane.Idx => (y 0).val ≤ (x 0).val ∧ ranks rk (lane k hk y) = v).card := by
  rw [before_add]
  congr 1
  refine (Finset.card_bij (fun y _ => lane k hk y) ?_ ?_ ?_).symm
  · intro y hy
    simp only [Finset.mem_filter, Finset.mem_univ, true_and] at hy ⊢
    refine ⟨⟨?_, ?_⟩, hy.2⟩ <;> rw [lane_val] <;> omega
  · intro y _ z _ h; exact lane_injective k hk h
  · intro j hj
    simp only [Finset.mem_filter, Finset.mem_univ, true_and] at hj
    have := lane_lt x
    obtain ⟨y, rfl⟩ := exists_lane k hk (j := j) hj.1.1 (by omega)
    refine ⟨y, ?_, rfl⟩
    simp only [Finset.mem_filter, Finset.mem_univ, true_and]
    rw [lane_val] at hj
    exact ⟨by omega, hj.2⟩

/-- The element just counted is one more of its rank. -/
theorem before_succ {n : ℕ} (r : Fin n → ℕ) (j : Fin n) : before r (j.val + 1) (r j) = before r j.val (r j) + 1 := by
  rw [before_add]
  congr 1
  rw [Finset.card_eq_one]
  refine ⟨j, ?_⟩
  ext i
  simp only [Finset.mem_filter, Finset.mem_univ, true_and, Finset.mem_singleton]
  constructor
  · rintro ⟨⟨h1, h2⟩, -⟩; exact Fin.ext (by omega)
  · rintro rfl; exact ⟨⟨le_refl _, by omega⟩, rfl⟩

/-- Elements of other ranks do not change the count. -/
theorem before_of_none {n : ℕ} (r : Fin n → ℕ) {m l v : ℕ} (h : ∀ j : Fin n, m ≤ j.val → j.val < m + l → r j ≠ v) :
    before r (m + l) v = before r m v := by
  rw [before_add, Finset.card_eq_zero.mpr, Nat.add_zero]
  ext i
  simp only [Finset.mem_filter, Finset.mem_univ, true_and, Finset.notMem_empty, iff_false]
  rintro ⟨⟨h1, h2⟩, h3⟩
  exact h i h1 h2 h3

variable {rk} {k} {hk} {v17 : IVec SLane 32}

/-- The lanes' own counts: how many lanes up to `x` hold `x`'s rank. -/
theorem scanCount_count (hv : ∀ x, v17 x = rk (at' (lane k hk x))) (x : SLane.Idx) :
    (scanCount (fun _ => 1#1) v17).2 x
      = BitVec.ofNat 32 (Finset.univ.filter fun y : SLane.Idx => (y 0).val ≤ (x 0).val ∧ ranks rk (lane k hk y) = ranks rk (lane k hk x)).card := by
  unfold scanCount
  dsimp only
  rw [if_pos (show (1#1 : BitVec 1) = 1 from rfl)]
  congr 2
  ext y
  simp only [Finset.mem_filter, Finset.mem_univ, true_and, Shape.rowMajor_val_one, hv, ranks, BitVec.toNat_inj]
  exact and_congr_right fun _ => and_iff_right rfl

/-- The last lane of a rank is marked. -/
theorem scanCount_last (hv : ∀ x, v17 x = rk (at' (lane k hk x))) (x : SLane.Idx) :
    (scanCount (fun _ => 1#1) v17).1 x = 1
      ↔ ∀ y : SLane.Idx, (x 0).val < (y 0).val → ranks rk (lane k hk y) ≠ ranks rk (lane k hk x) := by
  unfold scanCount
  dsimp only
  simp only [Shape.rowMajor_val_one, hv, ranks, ne_eq, BitVec.toNat_inj, true_and]
  split
  · rename_i h; simpa using h
  · rename_i h; simpa using h

end Block

/-! ## The trip -/

section Trip

variable [FloatOps F]

/-- Before trip `k`: the counts are those of the first `16 k` elements, and these elements lie where they belong. -/
def Inv (rk : IVec SRow 32) (sc : Vec F SRow .f32) (k : ℕ) (ov : Vec F SRow .f32) (oi cnt : IVec SRow 32) : Prop :=
  (∀ v : Fin 2048, cnt (at' v) = BitVec.ofNat 32 (before (ranks rk) (16 * k) v.val))
    ∧ ∀ (j p : Fin 2048), j.val < 16 * k → pos (ranks rk) j = p.val → ov (at' p) = sc (at' j) ∧ oi (at' p) = BitVec.ofNat 32 j.val

/-- The row as the trips leave it: element `j` at its position, with its index. -/
def Scattered (rk : IVec SRow 32) (sc : Vec F SRow .f32) (ov : Vec F SRow .f32) (oi : IVec SRow 32) : Prop :=
  ∀ (j p : Fin 2048), pos (ranks rk) j = p.val → ov (at' p) = sc (at' j) ∧ oi (at' p) = BitVec.ofNat 32 j.val

/-- The invariant before the loop: every counter zero, nothing written. -/
theorem inv_zero (rk : IVec SRow 32) (sc : Vec F SRow .f32) (ov : Vec F SRow .f32) (oi cnt : IVec SRow 32)
    (h : ∀ v : Fin 2048, cnt (at' v) = 0#32) : Inv rk sc 0 ov oi cnt :=
  ⟨fun v => by rw [h, Nat.mul_zero, before_zero], fun j p hj => absurd hj (by omega)⟩

/-- The invariant after it: every element is in its place. -/
theorem inv_end {rk : IVec SRow 32} {sc : Vec F SRow .f32} {ov : Vec F SRow .f32} {oi cnt : IVec SRow 32}
    (h : Inv rk sc 128 ov oi cnt) : Scattered rk sc ov oi := fun j p => h.2 j p (by omega)

variable {rk : IVec SRow 32} {sc : Vec F SRow .f32} {k : ℕ} {hk : k < 128} {ov : Vec F SRow .f32} {oi cnt : IVec SRow 32}
  {v17 v24 : IVec SLane 32}

/-- Each rank a lane loads names a place of the row. -/
theorem rank_inb (hr : IsRanking (ranks rk)) (hv : ∀ x, v17 x = rk (at' (lane k hk x))) (x : SLane.Idx) : (v17 x).toNat < 2048 := by
  rw [hv]; exact rank_lt hr _

/-- The count that a lane gathers at its rank. -/
theorem gathered (hI : Inv rk sc k ov oi cnt) (hv : ∀ x, v17 x = rk (at' (lane k hk x)))
    (h : ∀ (a : Fin SRow.rank) x, ((![v17] : Fin 1 → IVec SLane 32) a x).toNat < SRow.size a) (x : SLane.Idx) :
    loadIdx (F := F) (e := .i32) cnt ![v17] h x = BitVec.ofNat 32 (before (ranks rk) (16 * k) (ranks rk (lane k hk x))) := by
  have h0 : (v17 x).toNat < 2048 := h 0 x
  have : idxAt (s := SRow) ![v17] h x = at' ⟨(v17 x).toNat, h0⟩ := by
    rw [eq_at' (idxAt _ h x)]; rfl
  unfold loadIdx
  rw [this, hI.1]
  congr 2
  show (v17 x).toNat = _
  rw [hv]; rfl

/-- The new count and the position that a lane computes. -/
theorem newCount_eq (hv : ∀ x, v17 x = rk (at' (lane k hk x)))
    (hg : ∀ x, v24 x = BitVec.ofNat 32 (before (ranks rk) (16 * k) (ranks rk (lane k hk x)))) (x : SLane.Idx) :
    v24 x + (scanCount (fun _ => 1#1) v17).2 x
      = BitVec.ofNat 32 (before (ranks rk) ((lane k hk x).val + 1) (ranks rk (lane k hk x))) := by
  rw [hg, scanCount_count hv, ← BitVec.ofNat_add, ← before_lane]
  rfl

/-- The position that a lane computes. -/
theorem position_eq (hv : ∀ x, v17 x = rk (at' (lane k hk x)))
    (hg : ∀ x, v24 x = BitVec.ofNat 32 (before (ranks rk) (16 * k) (ranks rk (lane k hk x)))) (x : SLane.Idx) :
    v17 x + v24 x + (scanCount (fun _ => 1#1) v17).2 x - 1#32 = BitVec.ofNat 32 (pos (ranks rk) (lane k hk x)) := by
  rw [BitVec.add_assoc, newCount_eq hv hg, before_succ, hv]
  unfold pos
  rw [← BitVec.toNat_inj]
  have h1 : (rk (at' (lane k hk x))).toNat = ranks rk (lane k hk x) := rfl
  have h2 := before_le (ranks rk) (lane k hk x).val (ranks rk (lane k hk x))
  have h3 := (rk (at' (lane k hk x))).isLt
  simp only [BitVec.toNat_sub, BitVec.toNat_add, BitVec.toNat_ofNat, h1]
  omega

/-- A position as a word loses nothing. -/
theorem position_toNat (hr : IsRanking (ranks rk)) (j : Fin 2048) : (BitVec.ofNat 32 (pos (ranks rk) j)).toNat = pos (ranks rk) j := by
  rw [BitVec.toNat_ofNat]
  have := pos_lt hr j
  exact Nat.mod_eq_of_lt (by omega)

/-- The trip: after the three indexed stores the invariant holds for one more block. -/
theorem inv_step (hr : IsRanking (ranks rk)) (hI : Inv rk sc k ov oi cnt)
    {v19 : Vec F SLane .f32} {v22 v28 v29 : IVec SLane 32} {last : IVec SLane 1}
    (hv : ∀ x, v17 x = rk (at' (lane k hk x))) (hs : ∀ x, v19 x = sc (at' (lane k hk x)))
    (hi : ∀ x, v22 x = BitVec.ofNat 32 (lane k hk x).val)
    (hg : ∀ x, v24 x = BitVec.ofNat 32 (before (ranks rk) (16 * k) (ranks rk (lane k hk x))))
    (h28 : ∀ x, v28 x = v17 x + v24 x + (scanCount (fun _ => 1#1) v17).2 x - 1#32)
    (h29 : ∀ x, v29 x = v24 x + (scanCount (fun _ => 1#1) v17).2 x)
    (hl : ∀ x, last x = (scanCount (fun _ => 1#1) v17).1 x)
    (h1 : ∀ (a : Fin SRow.rank) x, ((![v28] : Fin 1 → IVec SLane 32) a x).toNat < SRow.size a)
    (h2 : ∀ (a : Fin SRow.rank) x, ((![v17] : Fin 1 → IVec SLane 32) a x).toNat < SRow.size a) :
    Inv rk sc (k + 1) (storeIdx ov ![v28] v19 (fun _ => 1#1) false h1)
      (storeIdx (F := F) (e := .i32) oi ![v28] v22 (fun _ => 1#1) false h1)
      (storeIdx (F := F) (e := .i32) cnt ![v17] v29 last false h2) := by
  have hp : ∀ x, idxAt (s := SRow) ![v28] h1 x = at' (posFin hr (lane k hk x)) := fun x => by
    rw [eq_at' (idxAt _ h1 x)]; congr 1; apply Fin.ext
    show (v28 x).toNat = pos (ranks rk) (lane k hk x)
    rw [h28, position_eq hv hg, position_toNat hr]
  have hc : ∀ x, idxAt (s := SRow) ![v17] h2 x = at' ⟨ranks rk (lane k hk x), rank_lt hr _⟩ := fun x => by
    rw [eq_at' (idxAt _ h2 x)]; congr 1; apply Fin.ext
    show (v17 x).toNat = ranks rk (lane k hk x)
    rw [hv]; rfl
  refine ⟨fun v => ?_, fun j p hj hjp => ?_⟩
  · by_cases hex : ∃ x, last x = 1 ∧ ranks rk (lane k hk x) = v.val
    · obtain ⟨x, hlx, hxv⟩ := hex
      refine storeIdx_hit _ _ _ _ _ _ _ ?_ x hlx ?_
      · intro y hly hy
        have hyv : ranks rk (lane k hk y) = v.val := by
          rw [hc] at hy; exact congrArg Fin.val (at'_injective hy)
        rw [h29, newCount_eq hv hg, hyv]
        congr 1
        rw [hl, scanCount_last hv] at hly
        have h16 := lane_lt y
        have : 16 * (k + 1) = ((lane k hk y).val + 1) + (15 - (y 0).val) := by rw [lane_val]; omega
        rw [this]
        refine (before_of_none _ fun i hi1 hi2 => ?_).symm
        rw [lane_val] at hi1 hi2
        obtain ⟨z, rfl⟩ := exists_lane k hk (j := i) (by omega) (by omega)
        rw [lane_val] at hi1
        rw [← hyv]
        exact hly z (by omega)
      · rw [hc]; congr 1; exact Fin.ext hxv
    · have hnone : ∀ x, ranks rk (lane k hk x) ≠ v.val := by
        intro x hx
        -- the last lane holding this rank would be marked
        obtain ⟨y, hy, hmax⟩ := Finset.exists_max_image (Finset.univ.filter fun y : SLane.Idx => ranks rk (lane k hk y) = v.val)
          (fun y => (y 0).val) ⟨x, by simpa using hx⟩
        simp only [Finset.mem_filter, Finset.mem_univ, true_and] at hy hmax
        refine hex ⟨y, ?_, hy⟩
        rw [hl, scanCount_last hv]
        intro z hz hzy
        have := hmax z (hzy.trans hy)
        omega
      rw [storeIdx_miss _ _ _ _ _ _ (fun x _ hx => ?_), hI.1]
      · congr 1
        rw [Nat.mul_add, before_of_none]
        intro i hi1 hi2
        obtain ⟨z, rfl⟩ := exists_lane k hk (j := i) hi1 (by omega)
        exact hnone z
      · rw [hc] at hx
        exact hnone x (congrArg Fin.val (at'_injective hx))
  · have hsame : ∀ x, idxAt (s := SRow) ![v28] h1 x = at' p → lane k hk x = j := fun x hx => by
      rw [hp] at hx
      have : pos (ranks rk) (lane k hk x) = p.val := congrArg Fin.val (at'_injective hx)
      exact pos_injective hr (this.trans hjp.symm)
    by_cases hold : j.val < 16 * k
    · have hmiss : ∀ x : SLane.Idx, (fun _ : SLane.Idx => (1#1 : BitVec 1)) x = 1 → idxAt (s := SRow) ![v28] h1 x ≠ at' p := fun x _ hx => by
        have := congrArg Fin.val (hsame x hx)
        rw [lane_val] at this; omega
      rw [storeIdx_miss _ _ _ _ _ _ hmiss, storeIdx_miss _ _ _ _ _ _ hmiss]
      exact hI.2 j p hold hjp
    · obtain ⟨x, rfl⟩ := exists_lane k hk (j := j) (by omega) (by omega)
      have hx : idxAt (s := SRow) ![v28] h1 x = at' p := by rw [hp]; congr 1; exact Fin.ext hjp
      constructor
      · refine storeIdx_hit _ _ _ _ _ _ _ (fun y _ hy => ?_) x rfl hx
        rw [hs, hsame y hy]
      · refine storeIdx_hit _ _ _ _ _ _ _ (fun y _ hy => ?_) x rfl hx
        rw [hi, hsame y hy]

/-- The positions that the lanes compute are inside the row. -/
theorem position_inb (hr : IsRanking (ranks rk)) (hv : ∀ x, v17 x = rk (at' (lane k hk x)))
    (hg : ∀ x, v24 x = BitVec.ofNat 32 (before (ranks rk) (16 * k) (ranks rk (lane k hk x)))) (x : SLane.Idx) :
    (v17 x + v24 x + (scanCount (fun _ => 1#1) v17).2 x - 1#32).toNat < 2048 := by
  rw [position_eq hv hg, position_toNat hr]; exact pos_lt hr _

end Trip

end Cert.Counting

end
-- ==== Proof.Rows.lean ====
/-
  Which element of a row goes where: the order that a row's ranks give, and the two arrays that it makes of the scores.
-/
module

public import proofs.«01_k».proof.Proof.Lanes

@[expose] public section

noncomputable section

namespace Cert.Counting

open Idealize.ShloMosaic

abbrev SArr : Shape := ⟨2, ![64, 2048]⟩

/-- The index of element `k` of row `i`. -/
def ij (i : Fin 64) (k : Fin 2048) : SArr.Idx := fun a => match a with | 0 => i | 1 => k

/-- An index is its row and its column. -/
theorem eq_ij (x : SArr.Idx) : x = ij (x 0) (x 1) := by
  funext a
  match a with
  | 0 => rfl
  | 1 => rfl

/-- The ranks of row `i`, as numbers. -/
def ranksOf (fr : IVec SArr 32) (i : Fin 64) : Fin 2048 → ℕ := fun k => (fr (ij i k)).toNat

/-- The element of row `i` that a stable sort by rank puts at position `p`. -/
def order (fr : IVec SArr 32) (i : Fin 64) (p : Fin 2048) : Fin 2048 :=
  sortedFrom (fun k k' => decide (ranksOf fr i k < ranksOf fr i k')) p

variable {F : FTy → Type}

/-- The scores in the order of the ranks. -/
def valsOf (fs : Vec F SArr .f32) (fr : IVec SArr 32) : Vec F SArr .f32 := fun x => fs (ij (x 0) (order fr (x 0) (x 1)))

/-- The indices in the order of the ranks. -/
def idxOf (fr : IVec SArr 32) : IVec SArr 32 := fun x => BitVec.ofNat 32 (order fr (x 0) (x 1)).val

variable [FloatOps F]

/-- A scattered row holds its scores and its indices in the order of its ranks. -/
theorem scattered_row {fs : Vec F SArr .f32} {fr : IVec SArr 32} {i : Fin 64} {rk : IVec SRow 32} {sc ov : Vec F SRow .f32} {oi : IVec SRow 32}
    (hrk : ∀ k, rk (at' k) = fr (ij i k)) (hsc : ∀ k, sc (at' k) = fs (ij i k)) (hr : IsRanking (ranksOf fr i)) (h : Scattered rk sc ov oi) (p : Fin 2048) :
    ov (at' p) = valsOf fs fr (ij i p) ∧ oi (at' p) = idxOf fr (ij i p) := by
  have e : ranks rk = ranksOf fr i := funext fun k => congrArg BitVec.toNat (hrk k)
  have hp : pos (ranks rk) (order fr i p) = p.val := by rw [e]; exact pos_sortedFrom hr p
  obtain ⟨h1, h2⟩ := h _ _ hp
  exact ⟨h1.trans (hsc _), h2⟩

end Cert.Counting

end
-- ==== Proof.Tile.lean ====
/-
  What one task of the scatter does: two rows, each fetched with its ranks, its counts cleared, scattered block by block
  and written out.
-/
module

public import proofs.«01_k».proof.Defs
public import proofs.«01_k».proof.Proof.Rows
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.Scatter
public import proofs.«01_k».proof.Proof.Gen.Scatter.Skeleton

@[expose] public section

noncomputable section

namespace Cert.Proof.Scatter

open Cert.Scatter Cert.Scatter.Gen Cert.Counting

open Idealize.ShloMosaic
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

local notation "sSc" => (Memref.whole Cert.Scatter.cc0_scratch0 : Memref Cert.Scatter.sig Kind.scVector Space.vmem Cert.Scatter.S2048 EltTy.f32)
local notation "sRk" => (Memref.whole Cert.Scatter.cc0_scratch1 : Memref Cert.Scatter.sig Kind.scVector Space.vmem Cert.Scatter.S2048 EltTy.i32)
local notation "sOv" => (Memref.whole Cert.Scatter.cc0_scratch2 : Memref Cert.Scatter.sig Kind.scVector Space.vmem Cert.Scatter.S2048 EltTy.f32)
local notation "sOi" => (Memref.whole Cert.Scatter.cc0_scratch3 : Memref Cert.Scatter.sig Kind.scVector Space.vmem Cert.Scatter.S2048 EltTy.i32)
local notation "sCn" => (Memref.whole Cert.Scatter.cc0_scratch4 : Memref Cert.Scatter.sig Kind.scVector Space.vmem Cert.Scatter.S2048 EltTy.i32)
local notation "gSc" => (Memref.whole Cert.Scatter.main_arg0_scv : Memref Cert.Scatter.sig Kind.scVector Space.hbm Cert.Scatter.S64x2048 EltTy.f32)
local notation "gRk" => (Memref.whole Cert.Scatter.main_arg1_scv : Memref Cert.Scatter.sig Kind.scVector Space.hbm Cert.Scatter.S64x2048 EltTy.i32)
local notation "gOv" => (Memref.whole Cert.Scatter.main_v0_0_scv : Memref Cert.Scatter.sig Kind.scVector Space.hbm Cert.Scatter.S64x2048 EltTy.f32)
local notation "gOi" => (Memref.whole Cert.Scatter.main_v0_1_scv : Memref Cert.Scatter.sig Kind.scVector Space.hbm Cert.Scatter.S64x2048 EltTy.i32)

variable [FloatOps F]

/-- The loops of the two rows have one body. -/
theorem t2_eq : k0_t2_body (F := F) = k0_t4_body (F := F) := rfl

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- A trip's number is below 128. -/
theorem trip_lt (k : Fin k0_t4_loop.trips) : k.val < 128 := lt_of_lt_of_le k.isLt k0_t4_abs.2.1

/-- The element of the row that a trip's load reads for lane `x`. -/
theorem loadAt (k : Fin k0_t4_loop.trips) (x : S16.Idx) :
    (Rect.unit (s := S2048) (k0_off5 k) S16.size (k0_off5_inb k)).toLoadRect.idx x = at' (lane k.val (trip_lt k) x) := by
  funext a; apply Fin.ext
  have ha : a = 0 := Subsingleton.elim _ _
  subst ha
  rw [LoadRect.idx_apply]
  show k0_off5 k 0 + 1 * (x 0).val = 16 * k.val + (x 0).val
  rw [k0_off5_eq]; simp

/-- The indices that a trip stores. -/
theorem pay_iota (k : Fin k0_t4_loop.trips) (x : S16.Idx) : k0_pay1 k x = BitVec.ofNat 32 (lane k.val (trip_lt k) x).val := by
  have hx : (x 0).val < 16 := (x 0).isLt
  have hk := trip_lt k
  apply BitVec.eq_of_toNat_eq
  show (BitVec.ofNat 32 (0 * 16 + (x 0).val) + Scf.iv 0#32 1#32 k.val * 16#32).toNat = _
  simp only [Scf.iv, lane, BitVec.toNat_add, BitVec.toNat_mul, BitVec.toNat_ofNat]
  omega

omit [FloatOps F] in
/-- A buffer of the task held whole, as the indexed loads and stores name it. -/
theorem pts_access (b : Ref sig .scVector) (f : Buf (Elt F) ((thr d L).loc b)) :
    (((Memref.whole b).access (.whole _)).loc (thr d L) ↦{fullShare} f : sProp 𝕄) = (Memref.whole b).view.loc (thr d L) ↦{fullShare} f := rfl

omit [FloatOps F] in
/-- A scratch buffer held whole is held as its memref. -/
theorem pts_access_set (b : Ref sig .scVector) (f : Buf (Elt F) ((thr d L).loc b)) :
    (((Memref.whole b).access (.whole _)).loc (thr d L) ↦[((Memref.whole b).access (.whole _)).set]{fullShare} f : sProp 𝕄)
      = (Memref.whole b).view.loc (thr d L) ↦{fullShare} f := by
  rw [Memref.set_access_whole]

/-- The indexed load of the counts. -/
theorem gather_sCn {α : Type} {Q : α → sProp 𝕄} (f : Vec F SRow .i32) (idxs : Fin S2048.rank → IVec S16 32)
    (h : ∀ a x, (idxs a x).toNat < S2048.size a) (hl : (sCn).view.Loads)
    (k : Vec F S16 .i32 → Prog (TpuEff nD τ sig (Elt F) Λ₀ (thr d L).2) α) :
    (((sCn).view.loc (thr d L) ↦{fullShare} f) : sProp 𝕄)
      ⊢ iprop((((sCn).view.loc (thr d L) ↦{fullShare} f) -∗ wp frame (wpE (defs₀ (F := F)) 𝒱₀ (thr d L) none) Set.univ (k (loadIdx (F := F) (e := .i32) f idxs h)) Q)
        -∗ wp frame (wpE (defs₀ (F := F)) 𝒱₀ (thr d L) none) Set.univ (SparseCore.vectorLoadIdx sCn idxs h hl >>= k) Q) := by
  iintro H Hk
  ihave H := (Entails.of_eq (pts_access d L cc0_scratch4 _).symm) $$ H
  iapply (SparseCore.wp_vectorLoadIdx 𝒱₀ (thr d L) none Set.univ (base := sCn) (S := Finset.univ) (q := fullShare) (Finset.subset_univ _)) $$ H; iintro H
  rw [Memref.read_access_whole (Elt F) cc0_scratch4]
  iapply Hk
  iexact H

/-- The indexed store to `sOv`: the buffer is left at the scatter of its contents. -/
theorem scatter_sOv {α : Type} {Q : α → sProp 𝕄} (f : Vec F SRow .f32) (idxs : Fin S2048.rank → IVec S16 32) (v : Vec F S16 .f32) (mask : IVec S16 1)
    (h : ∀ a x, (idxs a x).toNat < S2048.size a) (hs : ((Memref.whole cc0_scratch2 : Memref sig .scVector .vmem S2048 .f32).access (.whole S2048)).Stores Finset.univ)
    (k : PUnit → Prog (TpuEff nD τ sig (Elt F) Λ₀ (thr d L).2) α) :
    (((sOv).view.loc (thr d L) ↦{fullShare} f) : sProp 𝕄)
      ⊢ iprop((((sOv).view.loc (thr d L) ↦{fullShare} storeIdx (F := F) (e := .f32) f idxs v mask false h) -∗ wp frame (wpE (defs₀ (F := F)) 𝒱₀ (thr d L) none) Set.univ (k ⟨⟩) Q)
        -∗ wp frame (wpE (defs₀ (F := F)) 𝒱₀ (thr d L) none) Set.univ (SparseCore.vectorStoreIdx sOv idxs v mask false h hs >>= k) Q) := by
  iintro H Hk
  ihave H := (Entails.of_eq (pts_access_set d L cc0_scratch2 _).symm) $$ H
  iapply (SparseCore.wp_vectorStoreIdx 𝒱₀ (thr d L) none Set.univ (base := sOv)) $$ H; iintro H
  iapply Hk
  ihave H := (Entails.of_eq (pts_access_set d L cc0_scratch2 _)) $$ H
  rw [Memref.write_access_whole_univ (Elt F) cc0_scratch2, Memref.read_access_whole (Elt F) cc0_scratch2]
  iexact H

/-- The indexed store to `sOi`: the buffer is left at the scatter of its contents. -/
theorem scatter_sOi {α : Type} {Q : α → sProp 𝕄} (f : Vec F SRow .i32) (idxs : Fin S2048.rank → IVec S16 32) (v : Vec F S16 .i32) (mask : IVec S16 1)
    (h : ∀ a x, (idxs a x).toNat < S2048.size a) (hs : ((Memref.whole cc0_scratch3 : Memref sig .scVector .vmem S2048 .i32).access (.whole S2048)).Stores Finset.univ)
    (k : PUnit → Prog (TpuEff nD τ sig (Elt F) Λ₀ (thr d L).2) α) :
    (((sOi).view.loc (thr d L) ↦{fullShare} f) : sProp 𝕄)
      ⊢ iprop((((sOi).view.loc (thr d L) ↦{fullShare} storeIdx (F := F) (e := .i32) f idxs v mask false h) -∗ wp frame (wpE (defs₀ (F := F)) 𝒱₀ (thr d L) none) Set.univ (k ⟨⟩) Q)
        -∗ wp frame (wpE (defs₀ (F := F)) 𝒱₀ (thr d L) none) Set.univ (SparseCore.vectorStoreIdx sOi idxs v mask false h hs >>= k) Q) := by
  iintro H Hk
  ihave H := (Entails.of_eq (pts_access_set d L cc0_scratch3 _).symm) $$ H
  iapply (SparseCore.wp_vectorStoreIdx 𝒱₀ (thr d L) none Set.univ (base := sOi)) $$ H; iintro H
  iapply Hk
  ihave H := (Entails.of_eq (pts_access_set d L cc0_scratch3 _)) $$ H
  rw [Memref.write_access_whole_univ (Elt F) cc0_scratch3, Memref.read_access_whole (Elt F) cc0_scratch3]
  iexact H

/-- The indexed store to `sCn`: the buffer is left at the scatter of its contents. -/
theorem scatter_sCn {α : Type} {Q : α → sProp 𝕄} (f : Vec F SRow .i32) (idxs : Fin S2048.rank → IVec S16 32) (v : Vec F S16 .i32) (mask : IVec S16 1)
    (h : ∀ a x, (idxs a x).toNat < S2048.size a) (hs : ((Memref.whole cc0_scratch4 : Memref sig .scVector .vmem S2048 .i32).access (.whole S2048)).Stores Finset.univ)
    (k : PUnit → Prog (TpuEff nD τ sig (Elt F) Λ₀ (thr d L).2) α) :
    (((sCn).view.loc (thr d L) ↦{fullShare} f) : sProp 𝕄)
      ⊢ iprop((((sCn).view.loc (thr d L) ↦{fullShare} storeIdx (F := F) (e := .i32) f idxs v mask false h) -∗ wp frame (wpE (defs₀ (F := F)) 𝒱₀ (thr d L) none) Set.univ (k ⟨⟩) Q)
        -∗ wp frame (wpE (defs₀ (F := F)) 𝒱₀ (thr d L) none) Set.univ (SparseCore.vectorStoreIdx sCn idxs v mask false h hs >>= k) Q) := by
  iintro H Hk
  ihave H := (Entails.of_eq (pts_access_set d L cc0_scratch4 _).symm) $$ H
  iapply (SparseCore.wp_vectorStoreIdx 𝒱₀ (thr d L) none Set.univ (base := sCn)) $$ H; iintro H
  iapply Hk
  ihave H := (Entails.of_eq (pts_access_set d L cc0_scratch4 _)) $$ H
  rw [Memref.write_access_whole_univ (Elt F) cc0_scratch4, Memref.read_access_whole (Elt F) cc0_scratch4]
  iexact H

/-- What the row's five buffers hold before trip `k`. -/
def rowInv (rk : IVec SRow 32) (sc : Vec F SRow .f32) (k : ℕ) : sProp 𝕄 :=
  iprop(((sSc).view.loc (thr d L) ↦{fullShare} sc) ∗ ((sRk).view.loc (thr d L) ↦{fullShare} rk)
    ∗ ∃ ov oi cnt, ⌜Inv rk sc k ov oi cnt⌝ ∗ ((sOv).view.loc (thr d L) ↦{fullShare} ov) ∗ ((sOi).view.loc (thr d L) ↦{fullShare} oi)
      ∗ ((sCn).view.loc (thr d L) ↦{fullShare} cnt))

/-- One trip of the counting scatter of row 1. -/
theorem trip (rk : IVec SRow 32) (sc : Vec F SRow .f32) (hr : IsRanking (ranks rk)) (k : Fin k0_t4_loop.trips) (a : BitVec 32)
    (a0 : _) (h0 : _) (a1 : _) (h1 : _) (a2 : _) (h2 : _) (a3 : _) (h3 : _) (q0 q1 q2 q3 q4 q5 q6 q7 : _) :
    rowInv d L rk sc k.val
      ⊢ wp frame (wpE (defs₀ (F := F)) 𝒱₀ (thr d L) none) Set.univ
          (k0_t4_body L a0 h0 a1 h1 a2 h2 a3 h3 sSc (Memref.isWhole_whole _) sRk (Memref.isWhole_whole _) sOv (Memref.isWhole_whole _)
            sOi (Memref.isWhole_whole _) sCn (Memref.isWhole_whole _) q0 q1 q2 q3 q4 q5 q6 q7 k a)
          fun _ => rowInv d L rk sc (k.val + 1) := by
  unfold k0_t4_body rowInv
  iintro ⟨Hsc, Hrk, %ov, %oi, %cnt, %hI, Hov, Hoi, Hcn⟩
  have hk := trip_lt k
  set v17 : IVec S16 32 := View.readAt (Elt F) (sRk).view (Rect.unit (s := S2048) (k0_off5 k) S16.size (k0_off5_inb k)).toLoadRect rk with hv17
  have hv : ∀ x, v17 x = rk (at' (lane k.val hk x)) := fun x => by
    rw [hv17]; simp only [View.readAt_apply, Memref.view_whole, View.read_whole]; rw [loadAt]
  have hw3 : k0_chk3 v17 := ⟨fun b x => by obtain rfl : b = 0 := Subsingleton.elim _ _; exact rank_inb hr hv x,
    fun b x => by obtain rfl : b = 0 := Subsingleton.elim _ _; exact rank_inb hr hv x⟩
  have hin : ∀ (b : Fin SRow.rank) x, ((![v17] : Fin 1 → IVec SLane 32) b x).toNat < SRow.size b := hw3.1
  have hg := gathered (F := F) hI hv hin
  have hw4 : k0_chk4 (k0_pay5 (F := F) v17 (loadIdx (F := F) (e := .i32) cnt ![v17] hin)) := by
    constructor <;> (intro b x; obtain rfl : b = 0 := Subsingleton.elim _ _; exact position_inb hr hv hg x)
  sl_exec
  iapply (gather_sCn d L _ _ _ _ _) $$ Hcn; iintro Hcn
  sl_exec
  iapply (scatter_sOv d L _ _ _ _ _ _ _) $$ Hov; iintro Hov
  iapply (scatter_sOi d L _ _ _ _ _ _ _) $$ Hoi; iintro Hoi
  iapply (scatter_sCn d L _ _ _ _ _ _ _) $$ Hcn; iintro Hcn
  rw [wp_pure]; imodintro
  have hstep := inv_step (F := F) hr hI (v19 := View.readAt (Elt F) (sSc).view (Rect.unit (s := S2048) (k0_off5 k) S16.size (k0_off5_inb k)).toLoadRect sc) hv
    (fun x => by simp only [View.readAt_apply, Memref.view_whole, View.read_whole]; rw [loadAt]) (pay_iota k) hg
    (v28 := k0_pay5 (F := F) v17 (loadIdx (F := F) (e := .i32) cnt ![v17] hin)) (v29 := k0_pay6 (F := F) v17 (loadIdx (F := F) (e := .i32) cnt ![v17] hin)) (last := k0_pay3 (F := F) v17)
    (fun x => rfl) (fun x => rfl) (fun x => rfl) hw4.1 hin
  isplitl [Hsc]; · iexact Hsc
  isplitl [Hrk]; · iexact Hrk
  iexists _, _, _
  isplitr [Hov Hoi Hcn]
  · ipureintro; exact hstep
  isplitl [Hov]; · iexact Hov
  isplitl [Hoi]; · iexact Hoi
  iexact Hcn

/-- The same trip of row 0's loop. -/
theorem trip2 (rk : IVec SRow 32) (sc : Vec F SRow .f32) (hr : IsRanking (ranks rk)) (k : Fin k0_t2_loop.trips) (a : BitVec 32)
    (a0 : _) (h0 : _) (a1 : _) (h1 : _) (a2 : _) (h2 : _) (a3 : _) (h3 : _) (q0 q1 q2 q3 q4 q5 q6 q7 : _) :
    rowInv d L rk sc k.val
      ⊢ wp frame (wpE (defs₀ (F := F)) 𝒱₀ (thr d L) none) Set.univ
          (k0_t2_body L a0 h0 a1 h1 a2 h2 a3 h3 sSc (Memref.isWhole_whole _) sRk (Memref.isWhole_whole _) sOv (Memref.isWhole_whole _)
            sOi (Memref.isWhole_whole _) sCn (Memref.isWhole_whole _) q0 q1 q2 q3 q4 q5 q6 q7 k a)
          fun _ => rowInv d L rk sc (k.val + 1) :=
  trip d L rk sc hr k a a0 h0 a1 h1 a2 h2 a3 h3 q0 q1 q2 q3 q4 q5 q6 q7

/-- What the counts hold before trip `k` of the clearing loop: the first `k` blocks are zero. -/
def zeroInv (k : ℕ) : sProp 𝕄 :=
  iprop(∃ cnt : IVec SRow 32, ⌜∀ v : Fin 2048, v.val < 16 * k → cnt (at' v) = 0#32⌝ ∗ ((sCn).view.loc (thr d L) ↦{fullShare} cnt))

/-- A block of zeros stored at `16 * k` extends the cleared part by one block. -/
theorem cleared (k : ℕ) (cnt : IVec SRow 32) (off : Fin S2048.rank → ℕ) (hoff : ∀ a, off a + S16.size a ≤ S2048.size a) (h0 : off 0 = 16 * k)
    (hz : ∀ v : Fin 2048, v.val < 16 * k → cnt (at' v) = 0#32) (v : Fin 2048) (hv : v.val < 16 * (k + 1)) :
    (sCn).view.writes (Elt F) cnt [⟨Rect.unit (s := S2048) off S16.size hoff, k0_pay7⟩] (at' v) = 0#32 := by
  show (sCn).view.read (Elt F) ((sCn).view.writes (Elt F) cnt [⟨Rect.unit (s := S2048) off S16.size hoff, k0_pay7⟩]) (at' v) = 0#32
  by_cases hlt : v.val < 16 * k
  · rw [View.read_writes_apply_of_forall_not_mem]
    · exact hz v hlt
    · intro p hp hm
      obtain rfl := List.mem_singleton.mp hp
      obtain ⟨x, hx⟩ : ∃ x, (Rect.unit (s := S2048) off S16.size hoff).emb x = at' v := (Rect.unit (s := S2048) off S16.size hoff).exists_idx_of_mem hm
      have := congrArg (fun i : S2048.Idx => (i 0).val) hx
      simp only [Rect.emb_apply] at this
      have h2 : off 0 + 1 * (x 0).val = v.val := this
      omega
  · have hx : (Rect.unit (s := S2048) off S16.size hoff).emb (Shape.Idx.ofFin (n := 16) ⟨v.val - 16 * k, by omega⟩) = at' v := by
      funext a; apply Fin.ext
      obtain rfl : a = 0 := Subsingleton.elim _ _
      rw [Rect.emb_apply]
      show off 0 + 1 * (v.val - 16 * k) = v.val
      omega
    rw [← hx, View.read_writes_cons_emb]
    rfl

/-- One trip of the clearing loop of row 0. -/
theorem clear1 (k : Fin k0_t1_loop.trips) (a : BitVec 32) (a0 : _) (h0 : _) (a1 : _) (h1 : _) (a2 : _) (h2 : _) (a3 : _) (h3 : _) (q0 q1 q2 q3 q4 q5 q6 q7 : _) :
    zeroInv (F := F) d L k.val
      ⊢ wp frame (wpE (defs₀ (F := F)) 𝒱₀ (thr d L) none) Set.univ
          (k0_t1_body L a0 h0 a1 h1 a2 h2 a3 h3 sSc (Memref.isWhole_whole _) sRk (Memref.isWhole_whole _) sOv (Memref.isWhole_whole _)
            sOi (Memref.isWhole_whole _) sCn (Memref.isWhole_whole _) q0 q1 q2 q3 q4 q5 q6 q7 k a)
          fun _ => zeroInv (F := F) d L (k.val + 1) := by
  unfold k0_t1_body zeroInv
  iintro ⟨%cnt, %hz, Hcn⟩
  sl_exec
  sl_step
  iexists _
  isplitr [Hcn]
  · ipureintro; exact cleared (F := F) k.val cnt (k0_off2 k) (k0_off2_inb k) (by rw [k0_off2_eq]; rfl) hz
  · iexact Hcn

/-- One trip of the clearing loop of row 1. -/
theorem clear3 (k : Fin k0_t3_loop.trips) (a : BitVec 32) (a0 : _) (h0 : _) (a1 : _) (h1 : _) (a2 : _) (h2 : _) (a3 : _) (h3 : _) (q0 q1 q2 q3 q4 q5 q6 q7 : _) (v1 : _) :
    zeroInv (F := F) d L k.val
      ⊢ wp frame (wpE (defs₀ (F := F)) 𝒱₀ (thr d L) none) Set.univ
          (k0_t3_body L a0 h0 a1 h1 a2 h2 a3 h3 sSc (Memref.isWhole_whole _) sRk (Memref.isWhole_whole _) sOv (Memref.isWhole_whole _)
            sOi (Memref.isWhole_whole _) sCn (Memref.isWhole_whole _) q0 q1 q2 q3 q4 q5 q6 q7 v1 k0_pay7 k a)
          fun _ => zeroInv (F := F) d L (k.val + 1) := by
  unfold k0_t3_body zeroInv
  iintro ⟨%cnt, %hz, Hcn⟩
  sl_exec
  sl_step
  iexists _
  isplitr [Hcn]
  · ipureintro; exact cleared (F := F) k.val cnt (k0_off4 k) (k0_off4_inb k) (by rw [k0_off4_eq]; rfl) hz
  · iexact Hcn

/-! ## The rows of a task, as it names them -/

abbrev rSc0 (L : grid0.Coords) : Memref sig .scVector .hbm S2048 .f32 :=
  ((gSc).slice (Rect.unit (s := S64x2048) (k0_off1 L 0#32) S1x2048.size (k0_off1_inb L 0)) (fun _ => rfl)).squeeze S2048 squeezes_S1x2048_S2048
abbrev rRk0 (L : grid0.Coords) : Memref sig .scVector .hbm S2048 .i32 :=
  ((gRk).slice (Rect.unit (s := S64x2048) (k0_off1 L 0#32) S1x2048.size (k0_off1_inb L 0)) (fun _ => rfl)).squeeze S2048 squeezes_S1x2048_S2048
abbrev rOv0 (L : grid0.Coords) : Memref sig .scVector .hbm S2048 .f32 :=
  ((gOv).slice (Rect.unit (s := S64x2048) (k0_off1 L 0#32) S1x2048.size (k0_off1_inb L 0)) (fun _ => rfl)).squeeze S2048 squeezes_S1x2048_S2048
abbrev rOi0 (L : grid0.Coords) : Memref sig .scVector .hbm S2048 .i32 :=
  ((gOi).slice (Rect.unit (s := S64x2048) (k0_off1 L 0#32) S1x2048.size (k0_off1_inb L 0)) (fun _ => rfl)).squeeze S2048 squeezes_S1x2048_S2048
abbrev rSc1 (L : grid0.Coords) : Memref sig .scVector .hbm S2048 .f32 :=
  ((gSc).slice (Rect.unit (s := S64x2048) (k0_off1 L 1#32) S1x2048.size (k0_off1_inb L 1)) (fun _ => rfl)).squeeze S2048 squeezes_S1x2048_S2048
abbrev rRk1 (L : grid0.Coords) : Memref sig .scVector .hbm S2048 .i32 :=
  ((gRk).slice (Rect.unit (s := S64x2048) (k0_off1 L 1#32) S1x2048.size (k0_off1_inb L 1)) (fun _ => rfl)).squeeze S2048 squeezes_S1x2048_S2048
abbrev rOv1 (L : grid0.Coords) : Memref sig .scVector .hbm S2048 .f32 :=
  ((gOv).slice (Rect.unit (s := S64x2048) (k0_off1 L 1#32) S1x2048.size (k0_off1_inb L 1)) (fun _ => rfl)).squeeze S2048 squeezes_S1x2048_S2048
abbrev rOi1 (L : grid0.Coords) : Memref sig .scVector .hbm S2048 .i32 :=
  ((gOi).slice (Rect.unit (s := S64x2048) (k0_off1 L 1#32) S1x2048.size (k0_off1_inb L 1)) (fun _ => rfl)).squeeze S2048 squeezes_S1x2048_S2048

/-- What a task holds of one row of an array. -/
abbrev rowPts {e : EltTy} (mm : Memref sig .scVector .hbm S2048 e) (f : Buf (Elt F) (mm.view.loc (thr d L))) : sProp 𝕄 :=
  mm.view.loc (thr d L) ↦[mm.view.set]{fullShare} f

/-- The counter of one of the task's copies. -/
abbrev cell (s : DmaSems sig S_) : GSem nD τ sig := (thr d L, SemLoc.dma s.sem)

/-- A buffer of the task, at some contents. -/
abbrev someBuf (b : Ref sig .scVector) : sProp 𝕄 := iprop(∃ f, (Memref.whole b).view.loc (thr d L) ↦{fullShare} f)

/-- The row that the task's `r`-th turn works on. -/
def rowOf (L : grid0.Coords) (r : Fin 2) : Fin 64 :=
  ⟨4 * (L 1).val + 2 * (L 0).val + r.val, by
    have h0 : (L 0).val < 2 := (L 0).isLt
    have h1 : (L 1).val < 16 := (L 1).isLt
    have := r.isLt
    omega⟩

/-- The element of the array that a row's element is. -/
theorem row_emb (off : Fin S64x2048.rank → ℕ) (inb : ∀ a, off a + S1x2048.size a ≤ S64x2048.size a) (i : Fin 64) (ho : off = ![i.val, 0])
    (h : S2048.numel = S1x2048.numel) (k : Fin 2048) :
    (Rect.unit (s := S64x2048) off S1x2048.size inb).emb (Shape.reshapeEquiv h (at' k)) = ij i k := by
  have e : Shape.reshapeEquiv h (at' k) = (Fin.cons ⟨0, Nat.one_pos⟩ (at' k) : S1x2048.Idx) := Shape.reshapeEquiv_cons_one h (at' k)
  rw [e]
  subst ho
  funext a; apply Fin.ext
  rw [Rect.emb_apply]
  match a with
  | 0 => show i.val + 1 * 0 = i.val; omega
  | 1 => show 0 + 1 * k.val = k.val; omega

omit [FloatOps F] in
/-- A row's memref reads that row. -/
theorem read_rSc0 (f : Vec F S64x2048 .f32) (k : Fin 2048) : (rSc0 L).view.read (Elt F) f (at' k) = f (ij (rowOf L 0) k) :=
  congrArg f (row_emb (k0_off1 L 0#32) (k0_off1_inb L 0) (rowOf L 0) (k0_off1_eq L 0) squeezes_S1x2048_S2048.numel_eq k)

omit [FloatOps F] in
/-- A row's memref reads that row. -/
theorem read_rRk0 (f : Vec F S64x2048 .i32) (k : Fin 2048) : (rRk0 L).view.read (Elt F) f (at' k) = f (ij (rowOf L 0) k) :=
  congrArg f (row_emb (k0_off1 L 0#32) (k0_off1_inb L 0) (rowOf L 0) (k0_off1_eq L 0) squeezes_S1x2048_S2048.numel_eq k)

omit [FloatOps F] in
/-- A row's memref reads that row. -/
theorem read_rOv0 (f : Vec F S64x2048 .f32) (k : Fin 2048) : (rOv0 L).view.read (Elt F) f (at' k) = f (ij (rowOf L 0) k) :=
  congrArg f (row_emb (k0_off1 L 0#32) (k0_off1_inb L 0) (rowOf L 0) (k0_off1_eq L 0) squeezes_S1x2048_S2048.numel_eq k)

omit [FloatOps F] in
/-- A row's memref reads that row. -/
theorem read_rOi0 (f : Vec F S64x2048 .i32) (k : Fin 2048) : (rOi0 L).view.read (Elt F) f (at' k) = f (ij (rowOf L 0) k) :=
  congrArg f (row_emb (k0_off1 L 0#32) (k0_off1_inb L 0) (rowOf L 0) (k0_off1_eq L 0) squeezes_S1x2048_S2048.numel_eq k)

omit [FloatOps F] in
/-- A row's memref reads that row. -/
theorem read_rSc1 (f : Vec F S64x2048 .f32) (k : Fin 2048) : (rSc1 L).view.read (Elt F) f (at' k) = f (ij (rowOf L 1) k) :=
  congrArg f (row_emb (k0_off1 L 1#32) (k0_off1_inb L 1) (rowOf L 1) (k0_off1_eq L 1) squeezes_S1x2048_S2048.numel_eq k)

omit [FloatOps F] in
/-- A row's memref reads that row. -/
theorem read_rRk1 (f : Vec F S64x2048 .i32) (k : Fin 2048) : (rRk1 L).view.read (Elt F) f (at' k) = f (ij (rowOf L 1) k) :=
  congrArg f (row_emb (k0_off1 L 1#32) (k0_off1_inb L 1) (rowOf L 1) (k0_off1_eq L 1) squeezes_S1x2048_S2048.numel_eq k)

omit [FloatOps F] in
/-- A row's memref reads that row. -/
theorem read_rOv1 (f : Vec F S64x2048 .f32) (k : Fin 2048) : (rOv1 L).view.read (Elt F) f (at' k) = f (ij (rowOf L 1) k) :=
  congrArg f (row_emb (k0_off1 L 1#32) (k0_off1_inb L 1) (rowOf L 1) (k0_off1_eq L 1) squeezes_S1x2048_S2048.numel_eq k)

omit [FloatOps F] in
/-- A row's memref reads that row. -/
theorem read_rOi1 (f : Vec F S64x2048 .i32) (k : Fin 2048) : (rOi1 L).view.read (Elt F) f (at' k) = f (ij (rowOf L 1) k) :=
  congrArg f (row_emb (k0_off1 L 1#32) (k0_off1_inb L 1) (rowOf L 1) (k0_off1_eq L 1) squeezes_S1x2048_S2048.numel_eq k)

omit [FloatOps F] in
/-- What a task holds of a row depends on what the row reads. -/
theorem rowPts_congr {e : EltTy} (mm : Memref sig .scVector .hbm S2048 e) (f g : Buf (Elt F) (mm.view.loc (thr d L)))
    (h : ∀ k, mm.view.read (Elt F) f (at' k) = mm.view.read (Elt F) g (at' k)) : rowPts d L mm f = rowPts d L mm g :=
  pointsTo_congr fun i hi => by
    obtain ⟨x, -, rfl⟩ := Finset.mem_map.mp hi
    have := h (x 0)
    rw [← eq_at' x, View.read_apply, View.read_apply] at this
    exact cast_inj _ |>.mp this

omit [FloatOps F] in
/-- A row that a copy has filled. -/
theorem rowPts_filled {e : EltTy} (mm : Memref sig .scVector .hbm S2048 e) (j g : Buf (Elt F) (mm.view.loc (thr d L))) (w : Vec F SRow e)
    (h : ∀ k, w (at' k) = mm.view.read (Elt F) g (at' k)) :
    (mm.view.loc (thr d L) ↦[mm.view.set]{fullShare} mm.view.writes (Elt F) j [⟨Rect.whole S2048, w⟩] : sProp 𝕄) = rowPts d L mm g :=
  rowPts_congr d L mm _ g fun k => by
    rw [← h, View.writes_singleton]
    have := View.read_writes_cons_emb (v := mm.view) (f := j) (Val := Elt F) (Rect.whole S2048) w [] (at' k)
    rw [Rect.emb_whole_apply] at this
    exact this

/-- The loop makes 128 trips. -/
theorem trips1 : k0_t1_loop.trips = 128 := by decide +kernel
/-- The loop makes 128 trips. -/
theorem trips2 : k0_t2_loop.trips = 128 := by decide +kernel
/-- The loop makes 128 trips. -/
theorem trips3 : k0_t3_loop.trips = 128 := by decide +kernel
/-- The loop makes 128 trips. -/
theorem trips4 : k0_t4_loop.trips = 128 := by decide +kernel

/-- One more wait of the task's own. -/
theorem fresh_insert {W W' : Waits sig (HIx 1)} {l : SemLoc sig} (h : ∀ p ∈ W', p ∈ W ∨ p.2 = none) :
    ∀ p ∈ insert ((l, (none : HIx 1)) : SemLoc sig × HIx 1) W', p ∈ W ∨ p.2 = none := fun p hp => by
  rcases Finset.mem_insert.mp hp with rfl | hp
  · exact .inr rfl
  · exact h p hp

/-- A buffer that a copy has filled holds what the copy read. -/
theorem pts_filled (b : Ref sig .scVector) (f : b.ty.Contents (Elt F)) (w : b.ty.Contents (Elt F)) :
    ((Memref.whole b).view.loc (thr d L) ↦{fullShare} (Memref.whole b).view.write (Elt F) f w Finset.univ : sProp 𝕄)
      = (Memref.whole b).view.loc (thr d L) ↦{fullShare} w := by
  rw [show (Memref.whole b).view.write (Elt F) f w Finset.univ = w from View.write_whole_univ _ _ _]

set_option maxHeartbeats 1000000 in
theorem tile_core (O : CellTallies nD τ sig (HIx 1)) (W : Waits sig (HIx 1)) (fs : Vec F S64x2048 .f32) (fr : IVec S64x2048 32)
    (fo0 fo1 : Vec F S64x2048 .f32) (fc0 fc1 : IVec S64x2048 32) (hr : ∀ i, IsRanking (ranksOf fr i)) :
    iprop(Transfers.MayWaits (thr d L) (none : HIx 1) O ∗ (rowPts d L (rSc0 L) fs ∗ rowPts d L (rRk0 L) fr ∗ rowPts d L (rOv0 L) fo0 ∗ rowPts d L (rOi0 L) fc0)
        ∗ (rowPts d L (rSc1 L) fs ∗ rowPts d L (rRk1 L) fr ∗ rowPts d L (rOv1 L) fo1 ∗ rowPts d L (rOi1 L) fc1)
        ∗ (someBuf d L cc0_scratch0 ∗ someBuf d L cc0_scratch1 ∗ someBuf d L cc0_scratch2 ∗ someBuf d L cc0_scratch3 ∗ someBuf d L cc0_scratch4)
        ∗ (semVal (cell d L cc0_scoped0) 0 ∗ semVal (cell d L cc0_scoped1) 0 ∗ semVal (cell d L cc0_scoped2) 0 ∗ semVal (cell d L cc0_scoped3) 0
          ∗ semVal (cell d L cc0_scoped4) 0 ∗ semVal (cell d L cc0_scoped5) 0 ∗ semVal (cell d L cc0_scoped6) 0 ∗ semVal (cell d L cc0_scoped7) 0)
        ∗ owes (thr d L) O W)
      ⊢ wp frame (wpE (defs₀ (F := F)) 𝒱₀ (thr d L) none) Set.univ
          (cc0__scatter_body L gSc (Memref.isWhole_whole _) gRk (Memref.isWhole_whole _) gOv (Memref.isWhole_whole _) gOi (Memref.isWhole_whole _)
            sSc (Memref.isWhole_whole _) sRk (Memref.isWhole_whole _) sOv (Memref.isWhole_whole _)
            sOi (Memref.isWhole_whole _) sCn (Memref.isWhole_whole _) cc0_scoped0 cc0_scoped1 cc0_scoped2 cc0_scoped3 cc0_scoped4 cc0_scoped5 cc0_scoped6 cc0_scoped7)
          fun _ => iprop((rowPts d L (rSc0 L) fs ∗ rowPts d L (rRk0 L) fr ∗ rowPts d L (rOv0 L) (valsOf fs fr) ∗ rowPts d L (rOi0 L) (idxOf fr))
            ∗ (rowPts d L (rSc1 L) fs ∗ rowPts d L (rRk1 L) fr ∗ rowPts d L (rOv1 L) (valsOf fs fr) ∗ rowPts d L (rOi1 L) (idxOf fr))
            ∗ (someBuf (F := F) d L cc0_scratch0 ∗ someBuf (F := F) d L cc0_scratch1 ∗ someBuf (F := F) d L cc0_scratch2 ∗ someBuf (F := F) d L cc0_scratch3 ∗ someBuf (F := F) d L cc0_scratch4)
            ∗ (semVal (cell d L cc0_scoped0) 0 ∗ semVal (cell d L cc0_scoped1) 0 ∗ semVal (cell d L cc0_scoped2) 0 ∗ semVal (cell d L cc0_scoped3) 0
              ∗ semVal (cell d L cc0_scoped4) 0 ∗ semVal (cell d L cc0_scoped5) 0 ∗ semVal (cell d L cc0_scoped6) 0 ∗ semVal (cell d L cc0_scoped7) 0)
            ∗ ∃ W', ⌜∀ p ∈ W', p ∈ W ∨ p.2 = none⌝ ∗ owes (thr d L) O W') := by
  have hr0 : IsRanking (ranks ((rRk0 L).view.read (Elt F) fr)) := (show ranks _ = ranksOf fr (rowOf L 0) from funext fun k => congrArg BitVec.toNat (read_rRk0 (F := F) L fr k)) ▸ hr _
  have hr1 : IsRanking (ranks ((rRk1 L).view.read (Elt F) fr)) := (show ranks _ = ranksOf fr (rowOf L 1) from funext fun k => congrArg BitVec.toNat (read_rRk1 (F := F) L fr k)) ▸ hr _
  simp only [cc0__scatter_body_eq_skeleton]; unfold cc0__scatter_body_skel
  simp only [k0_part1_eq_skeleton, k0_part2_eq_skeleton]; unfold k0_part1_skel k0_part2_skel
  simp only [bind_assoc, pure_bind]
  iintro ⟨Hmw, ⟨HSc0, HRk0, HOv0, HOi0⟩, ⟨HSc1, HRk1, HOv1, HOi1⟩, ⟨⟨%b0, Hb0⟩, ⟨%b1, Hb1⟩, ⟨%b2, Hb2⟩, ⟨%b3, Hb3⟩, ⟨%b4, Hb4⟩⟩, ⟨Hq0, Hq1, Hq2, Hq3, Hq4, Hq5, Hq6, Hq7⟩, HO⟩
  sl_exec
  ihave Hb0 := (Entails.of_eq (pts_filled d L cc0_scratch0 _ _)) $$ Hb0
  ihave Hb1 := (Entails.of_eq (pts_filled d L cc0_scratch1 _ _)) $$ Hb1
  sl_for (fun k _ => zeroInv d L k) $$ [Hb4]
  case region => exact fun k a => clear1 d L k a _ _ _ _ _ _ _ _ _ _ _ _ _ _ _ _
  · unfold zeroInv; iexists b4; isplitr; · ipureintro; exact fun v hv => absurd hv (by omega)
    iexact Hb4
  iintro %_ HI
  unfold zeroInv
  icases HI with ⟨%cnt, %hz, Hcn⟩
  sl_for (fun k _ => rowInv d L ((rRk0 L).view.read (Elt F) fr) ((rSc0 L).view.read (Elt F) fs) k) $$ [Hb0 Hb1 Hb2 Hb3 Hcn]
  case region => exact fun k a => trip2 d L _ _ hr0 k a _ _ _ _ _ _ _ _ _ _ _ _ _ _ _ _
  · unfold rowInv
    isplitl [Hb0]; · iexact Hb0
    isplitl [Hb1]; · iexact Hb1
    iexists b2, b3, cnt
    isplitr [Hb2 Hb3 Hcn]
    · ipureintro; exact inv_zero (F := F) _ _ _ _ _ (fun v => hz v (lt_of_lt_of_le v.isLt (le_of_eq (congrArg (16 * ·) trips1.symm))))
    isplitl [Hb2]; · iexact Hb2
    isplitl [Hb3]; · iexact Hb3
    iexact Hcn
  iintro %_ HI
  unfold rowInv
  icases HI with ⟨Hb0, Hb1, %ov0, %oi0, %cnt0, %hI0, Hb2, Hb3, Hb4⟩
  sl_exec
  ihave Hb0 := (Entails.of_eq (pts_filled d L cc0_scratch0 _ _)) $$ Hb0
  ihave Hb1 := (Entails.of_eq (pts_filled d L cc0_scratch1 _ _)) $$ Hb1
  sl_for (fun k _ => zeroInv d L k) $$ [Hb4]
  case region => exact fun k a => clear3 d L k a _ _ _ _ _ _ _ _ _ _ _ _ _ _ _ _ _
  · unfold zeroInv; iexists cnt0; isplitr; · ipureintro; exact fun v hv => absurd hv (by omega)
    iexact Hb4
  iintro %_ HI
  unfold zeroInv
  icases HI with ⟨%cnt', %hz', Hcn⟩
  sl_for (fun k _ => rowInv d L ((rRk1 L).view.read (Elt F) fr) ((rSc1 L).view.read (Elt F) fs) k) $$ [Hb0 Hb1 Hb2 Hb3 Hcn]
  case region => exact fun k a => trip d L _ _ hr1 k a _ _ _ _ _ _ _ _ _ _ _ _ _ _ _ _
  · unfold rowInv
    isplitl [Hb0]; · iexact Hb0
    isplitl [Hb1]; · iexact Hb1
    iexists ov0, oi0, cnt'
    isplitr [Hb2 Hb3 Hcn]
    · ipureintro; exact inv_zero (F := F) _ _ _ _ _ (fun v => hz' v (lt_of_lt_of_le v.isLt (le_of_eq (congrArg (16 * ·) trips3.symm))))
    isplitl [Hb2]; · iexact Hb2
    isplitl [Hb3]; · iexact Hb3
    iexact Hcn
  iintro %_ HI
  unfold rowInv
  icases HI with ⟨Hb0, Hb1, %ov1, %oi1, %cnt1, %hI1, Hb2, Hb3, Hb4⟩
  sl_exec
  sl_step
  have hS0 := inv_end (F := F) (by rw [show Scf.trips k0_t2_loop.lb k0_t2_loop.ub k0_t2_loop.st = 128 from trips2] at hI0; exact hI0)
  have hS1 := inv_end (F := F) (by rw [show Scf.trips k0_t4_loop.lb k0_t4_loop.ub k0_t4_loop.st = 128 from trips4] at hI1; exact hI1)
  have hR0 := scattered_row (F := F) (read_rRk0 (F := F) L fr) (read_rSc0 (F := F) L fs) (hr _) hS0
  have hR1 := scattered_row (F := F) (read_rRk1 (F := F) L fr) (read_rSc1 (F := F) L fs) (hr _) hS1
  isplitl [HSc0 HRk0 HOv0 HOi0]
  · isplitl [HSc0]; · iexact HSc0
    isplitl [HRk0]; · iexact HRk0
    isplitl [HOv0]
    · iapply (Entails.of_eq (rowPts_filled d L (rOv0 L) _ (valsOf fs fr) ov0 fun k => (hR0 k).1.trans (read_rOv0 (F := F) L _ k).symm)); iexact HOv0
    · iapply (Entails.of_eq (rowPts_filled d L (rOi0 L) _ (idxOf fr) oi0 fun k => (hR0 k).2.trans (read_rOi0 (F := F) L _ k).symm)); iexact HOi0
  isplitl [HSc1 HRk1 HOv1 HOi1]
  · isplitl [HSc1]; · iexact HSc1
    isplitl [HRk1]; · iexact HRk1
    isplitl [HOv1]
    · iapply (Entails.of_eq (rowPts_filled d L (rOv1 L) _ (valsOf fs fr) ov1 fun k => (hR1 k).1.trans (read_rOv1 (F := F) L _ k).symm)); iexact HOv1
    · iapply (Entails.of_eq (rowPts_filled d L (rOi1 L) _ (idxOf fr) oi1 fun k => (hR1 k).2.trans (read_rOi1 (F := F) L _ k).symm)); iexact HOi1
  isplitl [Hb0 Hb1 Hb2 Hb3 Hb4]
  · isplitl [Hb0]; · iexists _; iexact Hb0
    isplitl [Hb1]; · iexists _; iexact Hb1
    isplitl [Hb2]; · iexists _; iexact Hb2
    isplitl [Hb3]; · iexists _; iexact Hb3
    iexists _; iexact Hb4
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  iexists _
  isplitr [HO]
  rotate_left
  · iexact HO
  · ipureintro
    iterate 8 refine fresh_insert ?_
    exact fun p hp => .inl hp

end Tile

end Cert.Proof.Scatter

end
-- ==== Proof.Launch.lean ====
/-
  The call of the scatter: its arrays dealt row by row to the tasks, the tasks run, the rows joined again.
-/
module

public import proofs.«01_k».proof.Proof.Tile
public import Idealize.ShloMosaic.Lib.Pipeline.Kit

@[expose] public section

noncomputable section

namespace Cert.Proof.Scatter

open Cert.Scatter Cert.Scatter.Gen Cert.Counting

open Idealize.ShloMosaic
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sSc" => (Memref.whole Cert.Scatter.cc0_scratch0 : Memref Cert.Scatter.sig Kind.scVector Space.vmem Cert.Scatter.S2048 EltTy.f32)
local notation "sRk" => (Memref.whole Cert.Scatter.cc0_scratch1 : Memref Cert.Scatter.sig Kind.scVector Space.vmem Cert.Scatter.S2048 EltTy.i32)
local notation "sOv" => (Memref.whole Cert.Scatter.cc0_scratch2 : Memref Cert.Scatter.sig Kind.scVector Space.vmem Cert.Scatter.S2048 EltTy.f32)
local notation "sOi" => (Memref.whole Cert.Scatter.cc0_scratch3 : Memref Cert.Scatter.sig Kind.scVector Space.vmem Cert.Scatter.S2048 EltTy.i32)
local notation "sCn" => (Memref.whole Cert.Scatter.cc0_scratch4 : Memref Cert.Scatter.sig Kind.scVector Space.vmem Cert.Scatter.S2048 EltTy.i32)
local notation "gSc" => (Memref.whole Cert.Scatter.main_arg0_scv : Memref Cert.Scatter.sig Kind.scVector Space.hbm Cert.Scatter.S64x2048 EltTy.f32)
local notation "gRk" => (Memref.whole Cert.Scatter.main_arg1_scv : Memref Cert.Scatter.sig Kind.scVector Space.hbm Cert.Scatter.S64x2048 EltTy.i32)
local notation "gOv" => (Memref.whole Cert.Scatter.main_v0_0_scv : Memref Cert.Scatter.sig Kind.scVector Space.hbm Cert.Scatter.S64x2048 EltTy.f32)
local notation "gOi" => (Memref.whole Cert.Scatter.main_v0_1_scv : Memref Cert.Scatter.sig Kind.scVector Space.hbm Cert.Scatter.S64x2048 EltTy.i32)

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Sixteen tiles on each SparseCore. -/
theorem nSub_zero : (K (F := F)).nSub 0 = 16 := rfl
/-- Two SparseCores. -/
theorem nCore_zero : (K (F := F)).nCore 0 = 2 := rfl

/-- The handshakes' part of the launch's resources. -/
abbrev EH : Emb UH (MT nD τ sig (HIx 1) (Elt F) ℕ UU ℕ) := embL

/-! ## The rows of the arrays -/

/-- The four arrays of the call: the scores and their ranks, the values and the indices that the call writes. -/
abbrev sLoc (d : Dev nD) : Loc nD τ sig := (SparseCore.T d).loc main_arg0
abbrev kLoc (d : Dev nD) : Loc nD τ sig := (SparseCore.T d).loc main_arg1
abbrev vLoc (d : Dev nD) : Loc nD τ sig := (SparseCore.T d).loc main_v0_0
abbrev oLoc (d : Dev nD) : Loc nD τ sig := (SparseCore.T d).loc main_v0_1

/-- The array splits into its 64 rows. -/
theorem hdiv : 64 ∣ S64x2048.size 0 := ⟨1, rfl⟩

/-- The elements of row `i`. -/
abbrev rowSet (i : Fin 64) : Finset S64x2048.Idx := (Rect.part (s := S64x2048) (a₀ := 0) hdiv i).set

/-- The rows are disjoint. -/
theorem rows_disjoint : ∀ i ∈ (Finset.univ : Finset (Fin 64)), ∀ j ∈ (Finset.univ : Finset (Fin 64)), i ≠ j → Disjoint (rowSet i) (rowSet j) :=
  fun _ _ _ _ h => Rect.part_disjoint hdiv h
/-- They are the whole array. -/
theorem rows_cover : (Finset.univ : Finset (Fin 64)).biUnion rowSet = Finset.univ := Rect.biUnion_part hdiv

/-- The row that task `i` of core `c` works on in its turn `r`. -/
def rowIx (c : Fin 2) (i : Fin 16) (r : Fin 2) : Fin 64 := ⟨4 * i.val + 2 * c.val + r.val, by omega⟩

/-- Every row is one task's, in one turn. -/
def rowEquiv : Fin 2 × Fin 16 × Fin 2 ≃ Fin 64 where
  toFun x := rowIx x.1 x.2.1 x.2.2
  invFun n := (⟨n.val / 2 % 2, by omega⟩, ⟨n.val / 4, by omega⟩, ⟨n.val % 2, by omega⟩)
  left_inv := by
    rintro ⟨c, i, r⟩
    refine Prod.ext (Fin.ext ?_) (Prod.ext (Fin.ext ?_) (Fin.ext ?_)) <;> simp only [rowIx] <;> omega
  right_inv := by
    intro n; apply Fin.ext; simp only [rowIx]; omega

/-- What is held of row `i` of the four arrays. -/
abbrev rowFour (d : Dev nD) (i : Fin 64) (fs : Vec F S64x2048 .f32) (fr : IVec S64x2048 32) (fo : Vec F S64x2048 .f32) (fc : IVec S64x2048 32) : sProp 𝕄 :=
  iprop((sLoc d ↦[rowSet i]{fullShare} fs) ∗ (kLoc d ↦[rowSet i]{fullShare} fr) ∗ (vLoc d ↦[rowSet i]{fullShare} fo) ∗ oLoc d ↦[rowSet i]{fullShare} fc)

/-- What is held of a task's two rows. -/
abbrev rowsOf (d : Dev nD) (c : Fin 2) (i : Fin 16) (fs : Vec F S64x2048 .f32) (fr : IVec S64x2048 32) (fo : Vec F S64x2048 .f32) (fc : IVec S64x2048 32) : sProp 𝕄 :=
  iprop(rowFour d (rowIx c i 0) fs fr fo fc ∗ rowFour d (rowIx c i 1) fs fr fo fc)

/-- What is held of the four arrays whole. -/
abbrev wholeFour (d : Dev nD) (fs : Vec F S64x2048 .f32) (fr : IVec S64x2048 32) (fo : Vec F S64x2048 .f32) (fc : IVec S64x2048 32) : sProp 𝕄 :=
  iprop((sLoc d ↦{fullShare} fs) ∗ (kLoc d ↦{fullShare} fr) ∗ (vLoc d ↦{fullShare} fo) ∗ oLoc d ↦{fullShare} fc)

/-- A product over the two SparseCores. -/
theorem bigSep_two (Φ : Fin 2 → sProp 𝕄) : bigSep Finset.univ Φ = iprop(Φ 0 ∗ Φ 1) := BI.bigSep_fin_two Φ

/-- An array held whole is its rows held. -/
theorem sPts_rows (d : Dev nD) (f : Vec F S64x2048 .f32) :
    (sLoc d ↦{fullShare} f : sProp 𝕄) = bigSep Finset.univ fun i : Fin 64 => sLoc d ↦[rowSet i]{fullShare} f := by
  rw [← pointsTo_biUnion Finset.univ (ℓ := sLoc d) rowSet rows_disjoint, rows_cover]; try rfl
/-- The array of ranks is held row by row. -/
theorem kPts_rows (d : Dev nD) (f : IVec S64x2048 32) :
    (kLoc d ↦{fullShare} f : sProp 𝕄) = bigSep Finset.univ fun i : Fin 64 => kLoc d ↦[rowSet i]{fullShare} f := by
  rw [← pointsTo_biUnion Finset.univ (ℓ := kLoc d) rowSet rows_disjoint, rows_cover]; try rfl
/-- So is that of the scores in order. -/
theorem vPts_rows (d : Dev nD) (f : Vec F S64x2048 .f32) :
    (vLoc d ↦{fullShare} f : sProp 𝕄) = bigSep Finset.univ fun i : Fin 64 => vLoc d ↦[rowSet i]{fullShare} f := by
  rw [← pointsTo_biUnion Finset.univ (ℓ := vLoc d) rowSet rows_disjoint, rows_cover]; try rfl
/-- So is that of the elements in order. -/
theorem oPts_rows (d : Dev nD) (f : IVec S64x2048 32) :
    (oLoc d ↦{fullShare} f : sProp 𝕄) = bigSep Finset.univ fun i : Fin 64 => oLoc d ↦[rowSet i]{fullShare} f := by
  rw [← pointsTo_biUnion Finset.univ (ℓ := oLoc d) rowSet rows_disjoint, rows_cover]; try rfl

/-- The four arrays held whole are the tasks' rows held, core by core and task by task. -/
theorem whole_rows (d : Dev nD) (fs : Vec F S64x2048 .f32) (fr : IVec S64x2048 32) (fo : Vec F S64x2048 .f32) (fc : IVec S64x2048 32) :
    (wholeFour d fs fr fo fc : sProp 𝕄)
      = bigSep Finset.univ fun c : Fin 2 => bigSep Finset.univ fun i : Fin 16 => rowsOf d c i fs fr fo fc := by
  have h : (bigSep Finset.univ fun i : Fin 64 => (rowFour d i fs fr fo fc : sProp 𝕄)) = wholeFour d fs fr fo fc := by
    unfold rowFour wholeFour
    rw [bigSep_sep', bigSep_sep', bigSep_sep', sPts_rows, kPts_rows, vPts_rows, oPts_rows]
  rw [← h, BI.bigSep_univ_equiv rowEquiv, BI.bigSep_univ_prod]
  refine bigSep_congr fun c _ => ?_
  rw [BI.bigSep_univ_prod]
  exact bigSep_congr fun i _ => bigSep_two _

/-! ## What the handshakes carry -/

variable (fs : Dev nD → Vec F S64x2048 .f32) (fr : Dev nD → IVec S64x2048 32) (fo : Dev nD → Vec F S64x2048 .f32) (fc : Dev nD → IVec S64x2048 32)

/-- The call takes the four arrays, each core its tasks' rows and each task its two, and brings them back with the
    values and the indices in the order of the ranks. -/
def P : (K (F := F)).Pay (nD := nD) (Val := Elt F) (Name := ℕ) (U := UU) where
  st := fun q d c => match q with | 0 => bigSep Finset.univ fun i : Fin 16 => rowsOf d (Fin.cast nCore_zero c) i (fs d) (fr d) (fo d) (fc d)
  dn := fun q d c => match q with | 0 => bigSep Finset.univ fun i : Fin 16 => rowsOf d (Fin.cast nCore_zero c) i (fs d) (fr d) (valsOf (fs d) (fr d)) (idxOf (fr d))
  go := fun q d c i => match q with | 0 => rowsOf d (Fin.cast nCore_zero c) (Fin.cast nSub_zero i) (fs d) (fr d) (fo d) (fc d)
  td := fun q d c i => match q with | 0 => rowsOf d (Fin.cast nCore_zero c) (Fin.cast nSub_zero i) (fs d) (fr d) (valsOf (fs d) (fr d)) (idxOf (fr d))
  x := fun _ _ => iprop(emp)

instance P_storable : (P (F := F) fs fr fo fc).IsStorable where
  st q d c := match q with
    | 0 => (inferInstance : BI.Storable (upEmb : UEmb _ 𝕄) (bigSep Finset.univ fun i : Fin 16 => rowsOf d (Fin.cast nCore_zero c) i (fs d) (fr d) (fo d) (fc d)))
  dn q d c := match q with
    | 0 => (inferInstance : BI.Storable (upEmb : UEmb _ 𝕄)
        (bigSep Finset.univ fun i : Fin 16 => rowsOf d (Fin.cast nCore_zero c) i (fs d) (fr d) (valsOf (fs d) (fr d)) (idxOf (fr d))))
  go q d c i := match q with
    | 0 => (inferInstance : BI.Storable (upEmb : UEmb _ 𝕄) (rowsOf d (Fin.cast nCore_zero c) (Fin.cast nSub_zero i) (fs d) (fr d) (fo d) (fc d)))
  td q d c i := match q with
    | 0 => (inferInstance : BI.Storable (upEmb : UEmb _ 𝕄)
        (rowsOf d (Fin.cast nCore_zero c) (Fin.cast nSub_zero i) (fs d) (fr d) (valsOf (fs d) (fr d)) (idxOf (fr d))))

/-! ## A task's own buffers and counters -/

section Own

variable (d : Dev nD) (L : grid0.Coords)

/-- The counters of the task's eight copies are among its own. -/
theorem ownSems0_V :
    (ownSems0 (thr d L) : sProp 𝕄)
      = iprop(semVal (cell d L cc0_scoped0) 0 ∗ semVal (cell d L cc0_scoped1) 0 ∗ semVal (cell d L cc0_scoped2) 0 ∗ semVal (cell d L cc0_scoped3) 0
          ∗ semVal (cell d L cc0_scoped4) 0 ∗ semVal (cell d L cc0_scoped5) 0 ∗ semVal (cell d L cc0_scoped6) 0 ∗ semVal (cell d L cc0_scoped7) 0
          ∗ bigSep (((((((((ownCells (thr d L)).erase (cell d L cc0_scoped0)).erase (cell d L cc0_scoped1)).erase (cell d L cc0_scoped2)).erase (cell d L cc0_scoped3)).erase
              (cell d L cc0_scoped4)).erase (cell d L cc0_scoped5)).erase (cell d L cc0_scoped6)).erase (cell d L cc0_scoped7)) fun g => semVal g 0) := by
  have hm : ∀ s : DmaSems sig S_, (SemLoc.dma s.sem : SemLoc sig).isScoped .scVector = true → cell d L s ∈ ownCells (thr d L) :=
    fun s hs => (mem_ownCells (g := cell d L s)).mpr ⟨rfl, hs⟩
  have hn : ∀ s t : DmaSems sig S_, s.sem ≠ t.sem → cell d L s ≠ cell d L t := fun s t h e => h (by
    have := (Prod.mk.inj e).2; exact SemLoc.dma.inj this)
  unfold SparseCore.Cfg.ownSems0
  rw [SparseCore.bigSep_erase' (hm cc0_scoped0 (by decide)),
    SparseCore.bigSep_erase' (i := cell d L cc0_scoped1) (by
      repeat' refine Finset.mem_erase.mpr ⟨hn _ _ (by decide), ?_⟩
      exact hm _ (by decide)),
    SparseCore.bigSep_erase' (i := cell d L cc0_scoped2) (by
      repeat' refine Finset.mem_erase.mpr ⟨hn _ _ (by decide), ?_⟩
      exact hm _ (by decide)),
    SparseCore.bigSep_erase' (i := cell d L cc0_scoped3) (by
      repeat' refine Finset.mem_erase.mpr ⟨hn _ _ (by decide), ?_⟩
      exact hm _ (by decide)),
    SparseCore.bigSep_erase' (i := cell d L cc0_scoped4) (by
      repeat' refine Finset.mem_erase.mpr ⟨hn _ _ (by decide), ?_⟩
      exact hm _ (by decide)),
    SparseCore.bigSep_erase' (i := cell d L cc0_scoped5) (by
      repeat' refine Finset.mem_erase.mpr ⟨hn _ _ (by decide), ?_⟩
      exact hm _ (by decide)),
    SparseCore.bigSep_erase' (i := cell d L cc0_scoped6) (by
      repeat' refine Finset.mem_erase.mpr ⟨hn _ _ (by decide), ?_⟩
      exact hm _ (by decide)),
    SparseCore.bigSep_erase' (i := cell d L cc0_scoped7) (by
      repeat' refine Finset.mem_erase.mpr ⟨hn _ _ (by decide), ?_⟩
      exact hm _ (by decide))]

/-- One of the task's buffers, as the device names it. -/
abbrev bufOf (b : Ref sig .scVector) : DevRef τ sig := (Proc.scVector (cV L) (jV L)).devRef b

/-- The task's five buffers are among its own. -/
theorem ownBufs_V :
    (ownBufs (thr d L) : sProp 𝕄)
      = iprop(someBuf (F := F) d L cc0_scratch0 ∗ someBuf (F := F) d L cc0_scratch1 ∗ someBuf (F := F) d L cc0_scratch2 ∗ someBuf (F := F) d L cc0_scratch3
          ∗ someBuf (F := F) d L cc0_scratch4
          ∗ bigSep ((((((ownRefs (τ := τ) (.scVector (cV L) (jV L))).erase (bufOf L cc0_scratch0)).erase (bufOf L cc0_scratch1)).erase (bufOf L cc0_scratch2)).erase
              (bufOf L cc0_scratch3)).erase (bufOf L cc0_scratch4)) fun b => iprop(∃ f, ((d, b) : Loc nD τ sig) ↦{fullShare} f)) := by
  have hn : ∀ b b' : Ref sig .scVector, b ≠ b' → bufOf L b ≠ bufOf L b' := fun b b' h e => h (Proc.devRef_injective _ e)
  unfold SparseCore.Cfg.ownBufs
  refine (SparseCore.bigSep_erase' (SparseCore.Cfg.mem_ownRefs_of_owner (p := Proc.scVector (cV L) (jV L)) (b := bufOf L cc0_scratch0) rfl)).trans ?_
  rw [SparseCore.bigSep_erase' (i := bufOf L cc0_scratch1) (by
      repeat' refine Finset.mem_erase.mpr ⟨hn _ _ (by decide), ?_⟩
      exact SparseCore.Cfg.mem_ownRefs_of_owner (p := Proc.scVector (cV L) (jV L)) rfl),
    SparseCore.bigSep_erase' (i := bufOf L cc0_scratch2) (by
      repeat' refine Finset.mem_erase.mpr ⟨hn _ _ (by decide), ?_⟩
      exact SparseCore.Cfg.mem_ownRefs_of_owner (p := Proc.scVector (cV L) (jV L)) rfl),
    SparseCore.bigSep_erase' (i := bufOf L cc0_scratch3) (by
      repeat' refine Finset.mem_erase.mpr ⟨hn _ _ (by decide), ?_⟩
      exact SparseCore.Cfg.mem_ownRefs_of_owner (p := Proc.scVector (cV L) (jV L)) rfl),
    SparseCore.bigSep_erase' (i := bufOf L cc0_scratch4) (by
      repeat' refine Finset.mem_erase.mpr ⟨hn _ _ (by decide), ?_⟩
      exact SparseCore.Cfg.mem_ownRefs_of_owner (p := Proc.scVector (cV L) (jV L)) rfl)]

/-! ## A task's rows are rows of the arrays -/

/-- The rectangle that a task slices is a row. -/
theorem row_rect (off : Fin S64x2048.rank → ℕ) (inb : ∀ a, off a + S1x2048.size a ≤ S64x2048.size a) (i : Fin 64) (ho : off = ![i.val, 0]) :
    Rect.unit (s := S64x2048) off S1x2048.size inb = Rect.part (s := S64x2048) (a₀ := 0) hdiv i := by
  subst ho
  unfold Rect.part Rect.block
  congr 1 <;> funext a
  · match a with
    | 0 => simp [Shape.partIx, Shape.partSize]
    | 1 => simp [Shape.partIx, Shape.partSize]
  · match a with
    | 0 => simp [Shape.partSize]
    | 1 => simp [Shape.partSize]

/-- A row's memref holds that row of the array. -/
theorem pts_rSc0 (f : Vec F S64x2048 .f32) : (rowPts d L (rSc0 L) f : sProp 𝕄) = sLoc d ↦[rowSet (rowOf L 0)]{fullShare} f := by
  have e : (rSc0 L).view.set = rowSet (rowOf L 0) := by
    show (((gSc).view.slice (Rect.unit (s := S64x2048) (k0_off1 L 0#32) S1x2048.size (k0_off1_inb L 0))).reshape S2048 squeezes_S1x2048_S2048.numel_eq).set = _
    rw [View.set_reshape, View.set_slice]
    exact Finset.map_refl.trans (congrArg (fun q : Rect S64x2048 => q.set) (row_rect (k0_off1 L 0#32) (k0_off1_inb L 0) (rowOf L 0) (k0_off1_eq L 0)))
  show ((rSc0 L).view.loc (thr d L) ↦[(rSc0 L).view.set]{fullShare} f : sProp 𝕄) = _
  rw [e]
/-- A row's memref holds that row of the array. -/
theorem pts_rSc1 (f : Vec F S64x2048 .f32) : (rowPts d L (rSc1 L) f : sProp 𝕄) = sLoc d ↦[rowSet (rowOf L 1)]{fullShare} f := by
  have e : (rSc1 L).view.set = rowSet (rowOf L 1) := by
    show (((gSc).view.slice (Rect.unit (s := S64x2048) (k0_off1 L 1#32) S1x2048.size (k0_off1_inb L 1))).reshape S2048 squeezes_S1x2048_S2048.numel_eq).set = _
    rw [View.set_reshape, View.set_slice]
    exact Finset.map_refl.trans (congrArg (fun q : Rect S64x2048 => q.set) (row_rect (k0_off1 L 1#32) (k0_off1_inb L 1) (rowOf L 1) (k0_off1_eq L 1)))
  show ((rSc1 L).view.loc (thr d L) ↦[(rSc1 L).view.set]{fullShare} f : sProp 𝕄) = _
  rw [e]
/-- A row's memref holds that row of the array. -/
theorem pts_rRk0 (f : IVec S64x2048 32) : (rowPts d L (rRk0 L) f : sProp 𝕄) = kLoc d ↦[rowSet (rowOf L 0)]{fullShare} f := by
  have e : (rRk0 L).view.set = rowSet (rowOf L 0) := by
    show (((gRk).view.slice (Rect.unit (s := S64x2048) (k0_off1 L 0#32) S1x2048.size (k0_off1_inb L 0))).reshape S2048 squeezes_S1x2048_S2048.numel_eq).set = _
    rw [View.set_reshape, View.set_slice]
    exact Finset.map_refl.trans (congrArg (fun q : Rect S64x2048 => q.set) (row_rect (k0_off1 L 0#32) (k0_off1_inb L 0) (rowOf L 0) (k0_off1_eq L 0)))
  show ((rRk0 L).view.loc (thr d L) ↦[(rRk0 L).view.set]{fullShare} f : sProp 𝕄) = _
  rw [e]
/-- A row's memref holds that row of the array. -/
theorem pts_rRk1 (f : IVec S64x2048 32) : (rowPts d L (rRk1 L) f : sProp 𝕄) = kLoc d ↦[rowSet (rowOf L 1)]{fullShare} f := by
  have e : (rRk1 L).view.set = rowSet (rowOf L 1) := by
    show (((gRk).view.slice (Rect.unit (s := S64x2048) (k0_off1 L 1#32) S1x2048.size (k0_off1_inb L 1))).reshape S2048 squeezes_S1x2048_S2048.numel_eq).set = _
    rw [View.set_reshape, View.set_slice]
    exact Finset.map_refl.trans (congrArg (fun q : Rect S64x2048 => q.set) (row_rect (k0_off1 L 1#32) (k0_off1_inb L 1) (rowOf L 1) (k0_off1_eq L 1)))
  show ((rRk1 L).view.loc (thr d L) ↦[(rRk1 L).view.set]{fullShare} f : sProp 𝕄) = _
  rw [e]
/-- A row's memref holds that row of the array. -/
theorem pts_rOv0 (f : Vec F S64x2048 .f32) : (rowPts d L (rOv0 L) f : sProp 𝕄) = vLoc d ↦[rowSet (rowOf L 0)]{fullShare} f := by
  have e : (rOv0 L).view.set = rowSet (rowOf L 0) := by
    show (((gOv).view.slice (Rect.unit (s := S64x2048) (k0_off1 L 0#32) S1x2048.size (k0_off1_inb L 0))).reshape S2048 squeezes_S1x2048_S2048.numel_eq).set = _
    rw [View.set_reshape, View.set_slice]
    exact Finset.map_refl.trans (congrArg (fun q : Rect S64x2048 => q.set) (row_rect (k0_off1 L 0#32) (k0_off1_inb L 0) (rowOf L 0) (k0_off1_eq L 0)))
  show ((rOv0 L).view.loc (thr d L) ↦[(rOv0 L).view.set]{fullShare} f : sProp 𝕄) = _
  rw [e]
/-- A row's memref holds that row of the array. -/
theorem pts_rOv1 (f : Vec F S64x2048 .f32) : (rowPts d L (rOv1 L) f : sProp 𝕄) = vLoc d ↦[rowSet (rowOf L 1)]{fullShare} f := by
  have e : (rOv1 L).view.set = rowSet (rowOf L 1) := by
    show (((gOv).view.slice (Rect.unit (s := S64x2048) (k0_off1 L 1#32) S1x2048.size (k0_off1_inb L 1))).reshape S2048 squeezes_S1x2048_S2048.numel_eq).set = _
    rw [View.set_reshape, View.set_slice]
    exact Finset.map_refl.trans (congrArg (fun q : Rect S64x2048 => q.set) (row_rect (k0_off1 L 1#32) (k0_off1_inb L 1) (rowOf L 1) (k0_off1_eq L 1)))
  show ((rOv1 L).view.loc (thr d L) ↦[(rOv1 L).view.set]{fullShare} f : sProp 𝕄) = _
  rw [e]
/-- A row's memref holds that row of the array. -/
theorem pts_rOi0 (f : IVec S64x2048 32) : (rowPts d L (rOi0 L) f : sProp 𝕄) = oLoc d ↦[rowSet (rowOf L 0)]{fullShare} f := by
  have e : (rOi0 L).view.set = rowSet (rowOf L 0) := by
    show (((gOi).view.slice (Rect.unit (s := S64x2048) (k0_off1 L 0#32) S1x2048.size (k0_off1_inb L 0))).reshape S2048 squeezes_S1x2048_S2048.numel_eq).set = _
    rw [View.set_reshape, View.set_slice]
    exact Finset.map_refl.trans (congrArg (fun q : Rect S64x2048 => q.set) (row_rect (k0_off1 L 0#32) (k0_off1_inb L 0) (rowOf L 0) (k0_off1_eq L 0)))
  show ((rOi0 L).view.loc (thr d L) ↦[(rOi0 L).view.set]{fullShare} f : sProp 𝕄) = _
  rw [e]
/-- A row's memref holds that row of the array. -/
theorem pts_rOi1 (f : IVec S64x2048 32) : (rowPts d L (rOi1 L) f : sProp 𝕄) = oLoc d ↦[rowSet (rowOf L 1)]{fullShare} f := by
  have e : (rOi1 L).view.set = rowSet (rowOf L 1) := by
    show (((gOi).view.slice (Rect.unit (s := S64x2048) (k0_off1 L 1#32) S1x2048.size (k0_off1_inb L 1))).reshape S2048 squeezes_S1x2048_S2048.numel_eq).set = _
    rw [View.set_reshape, View.set_slice]
    exact Finset.map_refl.trans (congrArg (fun q : Rect S64x2048 => q.set) (row_rect (k0_off1 L 1#32) (k0_off1_inb L 1) (rowOf L 1) (k0_off1_eq L 1)))
  show ((rOi1 L).view.loc (thr d L) ↦[(rOi1 L).view.set]{fullShare} f : sProp 𝕄) = _
  rw [e]

variable [FloatOps F]

/-- A tile's task, as the launch asks for it. -/
theorem tile_body (hr : ∀ i, IsRanking (ranksOf (fr d) i)) (O : CellTallies nD τ sig (HIx 1)) (W : Waits sig (HIx 1)) (hO : ∀ g, O g none = 0)
    (c : Fin 2) (i : Fin 16) (h0 : ∀ r, rowOf L r = rowIx c i r) :
    iprop(levAts (K (F := F)).L (K (F := F)).lev ∗ emp ∗ rowsOf d c i (fs d) (fr d) (fo d) (fc d)
        ∗ scopedBufs (thr d L) ∗ scopedSems0 (thr d L) ∗ owes (thr d L) O W)
      ⊢ wp frame (wpE (defs₀ (F := F)) 𝒱₀ (thr d L) none) Set.univ
          (cc0__scatter_body L gSc (Memref.isWhole_whole _) gRk (Memref.isWhole_whole _) gOv (Memref.isWhole_whole _) gOi (Memref.isWhole_whole _)
            sSc (Memref.isWhole_whole _) sRk (Memref.isWhole_whole _) sOv (Memref.isWhole_whole _)
            sOi (Memref.isWhole_whole _) sCn (Memref.isWhole_whole _) cc0_scoped0 cc0_scoped1 cc0_scoped2 cc0_scoped3 cc0_scoped4 cc0_scoped5 cc0_scoped6 cc0_scoped7)
          fun _ => iprop(rowsOf d c i (fs d) (fr d) (valsOf (fs d) (fr d)) (idxOf (fr d)) ∗ scopedBufs (thr d L) ∗ scopedSems0 (thr d L)
            ∗ ∃ W', ⌜∀ p ∈ W', p ∈ W ∨ p.2 = none ∨ p.2 = some (0 : Fin 1)⌝ ∗ owes (thr d L) O W') := by
  have hcore := tile_core d L O W (fs d) (fr d) (fo d) (fo d) (fc d) (fc d) hr
  simp only [pts_rSc0, pts_rRk0, pts_rOv0, pts_rOi0, pts_rSc1, pts_rRk1, pts_rOv1, pts_rOi1, h0] at hcore
  rw [(K (F := F)).scopedBufs_V facts d (cV L) (jV L), SparseCore.Cfg.scopedSems0_V (Val := Elt F) d (cV L) (jV L), ownSems0_V, ownBufs_V]
  iintro ⟨#Hlv, -, ⟨Hr0, Hr1⟩, ⟨Hb0, Hb1, Hb2, Hb3, Hb4, Hbufs⟩, ⟨Hq0, Hq1, Hq2, Hq3, Hq4, Hq5, Hq6, Hq7, Hsems⟩, HO⟩
  ihave Hmw := ((K (F := F)).mayWaits_none (thr := thr d L) hO) $$ Hlv
  ihave Hw := hcore $$ [Hmw Hr0 Hr1 Hb0 Hb1 Hb2 Hb3 Hb4 Hq0 Hq1 Hq2 Hq3 Hq4 Hq5 Hq6 Hq7 HO]
  · isplitl [Hmw]; · iexact Hmw
    isplitl [Hr0]; · iexact Hr0
    isplitl [Hr1]; · iexact Hr1
    isplitl [Hb0 Hb1 Hb2 Hb3 Hb4]
    · isplitl [Hb0]; · iexact Hb0
      isplitl [Hb1]; · iexact Hb1
      isplitl [Hb2]; · iexact Hb2
      isplitl [Hb3]; · iexact Hb3
      iexact Hb4
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    iexact HO
  iapply (wp_wand frame _ _) $$ Hw
  iintro %_ ⟨Hr0, Hr1, ⟨Hb0, Hb1, Hb2, Hb3, Hb4⟩, ⟨Hq0, Hq1, Hq2, Hq3, Hq4, Hq5, Hq6, Hq7⟩, %W', %hW', HO⟩
  isplitl [Hr0 Hr1]
  · isplitl [Hr0]; · iexact Hr0
    iexact Hr1
  isplitl [Hb0 Hb1 Hb2 Hb3 Hb4 Hbufs]
  · isplitl [Hb0]; · iexact Hb0
    isplitl [Hb1]; · iexact Hb1
    isplitl [Hb2]; · iexact Hb2
    isplitl [Hb3]; · iexact Hb3
    isplitl [Hb4]; · iexact Hb4
    iexact Hbufs
  isplitl [Hq0 Hq1 Hq2 Hq3 Hq4 Hq5 Hq6 Hq7 Hsems]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hsems
  iexists W'; isplitr
  · ipureintro; exact fun p hp => (hW' p hp).imp_right Or.inl
  iexact HO

end Own

/-! ## The launch theorem's obligations -/

variable [FloatOps F]

/-- A task's place on the grid. -/
def coordsV (c : Fin (grid0.bound 0)) (s : Fin (grid0.bound 1)) : grid0.Coords :=
  fun | 0 => c | 1 => s | ⟨_ + 2, h⟩ => absurd h (Nat.not_lt.2 (Nat.le_add_left _ _))

/-- The task that a tile runs. -/
theorem defs₀_vector (c : Fin τ.nSC) (s : Fin τ.nSub) :
    defs₀ (F := F) (.scVector c s) 0 ()
      = SparseCore.onTile hcore0 hsub0 (fun c s => cc0__scatter_body (coordsV c s)
          gSc (Memref.isWhole_whole _) gRk (Memref.isWhole_whole _) gOv (Memref.isWhole_whole _) gOi (Memref.isWhole_whole _)
          sSc (Memref.isWhole_whole _) sRk (Memref.isWhole_whole _) sOv (Memref.isWhole_whole _)
          sOi (Memref.isWhole_whole _) sCn (Memref.isWhole_whole _) cc0_scoped0 cc0_scoped1 cc0_scoped2 cc0_scoped3 cc0_scoped4 cc0_scoped5 cc0_scoped6 cc0_scoped7) ⟨⟩ c s := rfl

/-- Every task does its rows, whenever each row's ranks are a ranking. -/
theorem tileObl (hr : ∀ d i, IsRanking (ranksOf (fr d) i)) : (K (F := F)).TileObl (D (F := F)) 𝒱 (P fs fr fo fc) v₀ 0 := by
  intro d c i O W hO _ _
  simp only [show (P fs fr fo fc).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body fs fr fo fc d (coordsV ⟨_, hc.1⟩ ⟨_, hc.2⟩) (hr d) O W hO (Fin.cast nCore_zero c) (Fin.cast nSub_zero i) (fun _ => rfl)

/-- The operands split among the tiles, and their results join. -/
theorem vecSplit : (K (F := F)).VecSplit' (P fs fr fo fc) 0 := by
  intro d c
  show (bigSep Finset.univ fun i : Fin 16 => rowsOf d (Fin.cast nCore_zero c) i (fs d) (fr d) (fo d) (fc d)) ⊢ |={Set.univ}=> iprop(
    (bigSep Finset.univ fun i : Fin 16 => rowsOf d (Fin.cast nCore_zero c) i (fs d) (fr d) (fo d) (fc d))
    ∗ ((bigSep Finset.univ fun i : Fin 16 => rowsOf d (Fin.cast nCore_zero c) i (fs d) (fr d) (valsOf (fs d) (fr d)) (idxOf (fr d)))
      -∗ (bigSep Finset.univ fun i : Fin 16 => rowsOf d (Fin.cast nCore_zero c) i (fs d) (fr d) (valsOf (fs d) (fr d)) (idxOf (fr d)))))
  iintro H; imodintro
  isplitl [H]; · iexact H
  iintro H; iexact H

/-! ## The launch's resources -/

/-- The ghost state at the start. -/
def u₀ : UU := (initOf (K (F := F)).hsCells (K (F := F)).hsToks, 1)

/-- A product of nothing is nothing. -/
theorem bigSep_none {I : Type} (s : Finset I) : (bigSep s fun _ => iprop(emp)) = (iprop(emp) : sProp 𝕄) := bigSep_emp_const s

/-- It splits into what the threads begin with. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fs fr fo fc).x q thr) := by
  unfold u₀
  iintro Hu
  ihave H := (ownU_pair _ _) $$ Hu
  icases H with ⟨HH, -⟩
  imodintro
  isplitl [HH]; · iexact HH
  isplitr; · rw [bigSep_none]; iempintro
  unfold P; dsimp only
  rw [show (bigSep Finset.univ fun _ : Thread nD τ => bigSep Finset.univ fun _ : Fin 1 => (iprop(emp) : sProp 𝕄)) = iprop(emp) from by
    rw [bigSep_congr fun _ _ => bigSep_none _, bigSep_none]]
  iempintro

/-- What the call takes, over the cores, is the four arrays whole. -/
theorem st0_eq (d : Dev nD) : (bigSep Finset.univ fun c : Fin ((K (F := F)).nCore 0) => (P fs fr fo fc).st 0 d c) = wholeFour d (fs d) (fr d) (fo d) (fc d) :=
  (whole_rows d (fs d) (fr d) (fo d) (fc d)).symm
/-- What all the tiles hand back. -/
theorem dn0_eq (d : Dev nD) : (bigSep Finset.univ fun c : Fin ((K (F := F)).nCore 0) => (P fs fr fo fc).dn 0 d c)
    = wholeFour d (fs d) (fr d) (valsOf (fs d) (fr d)) (idxOf (fr d)) :=
  (whole_rows d (fs d) (fr d) (valsOf (fs d) (fr d)) (idxOf (fr d))).symm

end Cert.Proof.Scatter

end
-- ==== Proof.Run.lean ====
/-
  The program of the scatter: its one call run, and what memory holds at the end.
-/
module

public import proofs.«01_k».proof.Proof.Launch

@[expose] public section

noncomputable section

namespace Cert.Proof.Scatter

open Cert.Scatter Cert.Scatter.Gen Cert.Counting

open Idealize.ShloMosaic
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- The arrays that outlive the call: the four. -/
theorem unscopedBufs_eq (d : Dev nD) (W : (b : Ref sig .tc) → Buf (Elt F) ((d.tc : Thread nD τ).loc b)) :
    (unscopedBufs d W : sProp 𝕄) = wholeFour d (W main_arg0) (W main_arg1) (W main_v0_0) (W main_v0_1) := by
  unfold unscopedBufs
  rw [show (Finset.univ.filter fun b : Ref sig .tc => ¬ b.isScoped) = {main_arg0, main_arg1, main_v0_0, main_v0_1} by decide,
    SparseCore.bigSep_insert' (by decide), SparseCore.bigSep_insert' (by decide), SparseCore.bigSep_insert' (by decide), bigSep_singleton]

/-- The values and the indices that the run leaves, from the arguments in memory. -/
abbrev outV (d : Dev nD) : Vec F S64x2048 .f32 := valsOf (m (sLoc d)) (m (kLoc d))
abbrev outI (d : Dev nD) : IVec S64x2048 32 := idxOf (m (kLoc d))

variable [FloatOps F]

/-- The payloads of the call, from the memory at launch. -/
abbrev Pm : (K (F := F)).Pay (nD := nD) (Val := Elt F) (Name := ℕ) (U := UU) :=
  P (fun d => m (sLoc d)) (fun d => m (kLoc d)) (fun d => m (vLoc d)) (fun d => m (oLoc d))

abbrev FIN (d : Dev nD) : sProp 𝕄 := wholeFour d (m (sLoc d)) (m (kLoc d)) (outV m d) (outI m d)

/-- The program on a device: its one call. -/
theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hw, Hts, -⟩, -⟩
  iapply ((K (F := F)).wp_run (D (F := F)) 𝒱 (EH := EH) (P := Pm m) κ d 0) $$ [Hst Hw Hb Hts]
  isplitr; · iexact Hctx
  isplitl [Hst]; · iexact Hst
  isplitl [Hw]
  · rw [st0_eq]; iexact Hw
  iintro ⟨Hst, Hdn⟩
  ihave Hdn' := (Entails.of_eq (dn0_eq _ _ _ _ d)) $$ Hdn
  imodintro
  isplitl [Hst]; · iexact Hst
  isplitl [Hdn']; · iexact Hdn'
  isplitl [Hb] <;> iassumption

/-- What the memory holds at the end. -/
def fq (d : Dev nD) (s' : Phys nD τ sig (Elt F)) : Prop :=
  s'.mem.mem (vLoc d) = outV m d ∧ s'.mem.mem (oLoc d) = outI m d ∧ s'.mem.mem (sLoc d) = m (sLoc d) ∧ s'.mem.mem (kLoc d) = m (kLoc d)

/-- What is held at the end says what the memory holds. -/
theorem hfin (d : Dev nD) (s' : Phys nD τ sig (Elt F)) : iprop(FIN m d ∗ SI s') ⊢ (⌜fq m d s'⌝ : sProp 𝕄) := by
  iintro ⟨⟨Hs, Hk, Hv, Ho⟩, HSI⟩
  ihave H := (persistent_entails_right (SI_pointsTo_agree (st := s') (ℓ := sLoc d) (I := Finset.univ) (q := fullShare) (f := m (sLoc d)))) $$ [HSI Hs]
  · isplitl [HSI] <;> iassumption
  icases H with ⟨%h1, HSI, -⟩
  ihave H := (persistent_entails_right (SI_pointsTo_agree (st := s') (ℓ := kLoc d) (I := Finset.univ) (q := fullShare) (f := m (kLoc d)))) $$ [HSI Hk]
  · isplitl [HSI] <;> iassumption
  icases H with ⟨%h2, HSI, -⟩
  ihave H := (persistent_entails_right (SI_pointsTo_agree (st := s') (ℓ := vLoc d) (I := Finset.univ) (q := fullShare) (f := outV m d))) $$ [HSI Hv]
  · isplitl [HSI] <;> iassumption
  icases H with ⟨%h3, HSI, -⟩
  ihave H := (SI_pointsTo_agree (st := s') (ℓ := oLoc d) (I := Finset.univ) (q := fullShare) (f := outI m d)) $$ [HSI Ho]
  · isplitl [HSI] <;> iassumption
  icases H with %h4
  ipureintro
  exact ⟨funext fun i => h3 i (Finset.mem_univ i), funext fun i => h4 i (Finset.mem_univ i),
    funext fun i => h1 i (Finset.mem_univ i), funext fun i => h2 i (Finset.mem_univ i)⟩

/-- What the run ends in: the results in the order of the ranks, the arguments unchanged, every counter at zero. -/
def QC : PUnit × MemSt nD τ sig (Elt F) → Prop := fun r =>
  (∀ c : Dev nD, r.2.mem (vLoc c) = outV m c ∧ r.2.mem (oLoc c) = outI m c ∧ r.2.mem (sLoc c) = m (sLoc c) ∧ r.2.mem (kLoc c) = m (kLoc c))
    ∧ r.2.sem = fun _ => 0

/-- The run of the scatter from ranks that are a ranking. -/
theorem run_main [∀ e, Nonempty (Elt F e)] (hr : ∀ d i, IsRanking (ranksOf (m (kLoc d)) i)) :
    θ_run (Cert.Scatter.defs (F := F)) (Cert.Scatter.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl _ _ _ _ hr)
    (fun q _ => match q with | 0 => SparseCore.Cfg.VecSplit.of_plain (vecSplit _ _ _ _))
    m ρ main (fun _ => iprop(emp)) (FIN m) (u₀ (F := F)) (sep_elim_left.trans (hu₀ _ _ _ _)) (hmain m ρ) (fq m) (hfin m) (QC m) (fun _ h hz => ⟨h, hz⟩)

end Cert.Proof.Scatter

end
-- ==== Proof.Ranking.lean ====
/-
  What the precondition says of the ranks: that each is the number of smaller ranks in its row.
-/
module

public import proofs.«01_k».proof.Proof.Rows
public import proofs.«01_k».proof.Proof.Gen.Pre_is_ranking
public import Idealize.ShloMosaic.Lib.StableHlo.Predicate
public import Idealize.ShloMosaic.Lib.WordCmp

@[expose] public section

noncomputable section

namespace Cert.Counting

open Idealize.ShloMosaic Cert.Pre_is_ranking
open Idealize.ShloMosaic.WordCmp (cmpi_slt_of_lt cmpi_eq_eq)
open Idealize.ShloMosaic.StableHlo.Predicate (toNat_fold_addi toNat_setWidth_bit)

/-- A bit is one exactly if its truth value is true. -/
theorem ofBool_one {b : Bool} : BitVec.ofBool b = 1#1 ↔ b = true := by cases b <;> decide

/-- Two ranks of a row compared, one beside the other: the mask that the precondition sums. -/
abbrev smaller (fr : IVec S64x2048 32) : IVec S64x2048x2048 1 :=
  cmpi .slt (broadcastInDim S64x2048x2048 ![0, 1, 2] Gen.bcast_S64x2048x1_S64x2048x2048_0_1_2
      (broadcastInDim S64x2048x1 ![0, 1] Gen.bcast_S64x2048_S64x2048x1_0_1 fr))
    (broadcastInDim S64x2048x2048 ![0, 1, 2] Gen.bcast_S64x1x2048_S64x2048x2048_0_1_2
      (broadcastInDim S64x1x2048 ![0, 2] Gen.bcast_S64x2048_S64x1x2048_0_2 fr))

/-- The comparison of two ranks of a row. -/
theorem smaller_apply (fr : IVec S64x2048 32) (y : S64x2048x2048.Idx) :
    smaller fr y = IntOp.cmpi .slt (fr (ij (y 0) (y 1))) (fr (ij (y 0) (y 2))) := by
  refine congrArg₂ (IntOp.cmpi .slt) (congrArg fr (funext fun a => ?_)) (congrArg fr (funext fun a => ?_))
  · match a with
    | 0 => rfl
    | 1 => rfl
  · match a with
    | 0 => rfl
    | 1 => rfl

/-- The sum runs over the middle axis. -/
theorem reduces_mid : S64x2048x2048.Reduces [1] S64x2048 := by decide

/-- The two ranks compared at a term of the sum. -/
theorem lift_mid (y : S64x2048.Idx) (k : Fin 2048) :
    ij (reduces_mid.lift y k 0) (reduces_mid.lift y k 1) = ij (y 0) k ∧ ij (reduces_mid.lift y k 0) (reduces_mid.lift y k 2) = y := by
  refine ⟨funext fun a => ?_, funext fun a => ?_⟩
  · match a with
    | 0 => rfl
    | 1 => rfl
  · match a with
    | 0 => rfl
    | 1 => rfl

/-- The precondition at one element: its rank, as a number, is how many ranks of the row are smaller in the signed order. -/
theorem count_of_pre {F : FTy → Type} [FloatOps F] {fs : FVec F S64x2048 .f32} {fr : IVec S64x2048 32}
    (h : fn (F := F) fs fr = fun _ => 1#1) (i : Fin 64) (j : Fin 2048) :
    ranksOf fr i j = (Finset.univ.filter fun k => IntOp.cmpi .slt (fr (ij i k)) (fr (ij i j)) = 1#1).card := by
  have e : fr (ij i j) = Finset.univ.fold IntOp.addi 0#32
      ((fun y => (smaller fr y).setWidth 32) ∘ reduces_mid.lift (ij i j)) := by
    have h' : IntOp.cmpi .eq (fr (ij i j)) (Host.reduce IntOp.addi (fun y => (smaller fr y).setWidth 32) (constantI S_ 32 0#32)
      Gen.reducesTo_S64x2048x2048_S64x2048_d1 Gen.h_S_ (ij i j)) = 1#1 := congrFun h (ij i j)
    rw [cmpi_eq_eq, ofBool_one, decide_eq_true_eq] at h'
    exact h'.trans (Host.reduce_eq_fold_single IntOp.addi _ _ _ reduces_mid _ _)
  have hf : ∀ k, (((fun y => (smaller fr y).setWidth 32) ∘ reduces_mid.lift (ij i j)) k).toNat
      = if IntOp.cmpi .slt (fr (ij i k)) (fr (ij i j)) = 1#1 then 1 else 0 := by
    intro k
    rw [Function.comp_apply, toNat_setWidth_bit, smaller_apply, (lift_mid (ij i j) k).1, (lift_mid (ij i j) k).2]
    rfl
  have hle : (Finset.univ.filter fun k : Fin 2048 => IntOp.cmpi .slt (fr (ij i k)) (fr (ij i j)) = 1#1).card ≤ 2048 :=
    (Finset.card_le_univ _).trans_eq (Fintype.card_fin _)
  have hs : (∑ k, (((fun y => (smaller fr y).setWidth 32) ∘ reduces_mid.lift (ij i j)) k).toNat)
      = (Finset.univ.filter fun k => IntOp.cmpi .slt (fr (ij i k)) (fr (ij i j)) = 1#1).card := by
    rw [Finset.card_filter]
    exact Finset.sum_congr rfl fun k _ => hf k
  exact (congrArg BitVec.toNat e).trans ((toNat_fold_addi _ _ (by rw [hs]; omega)).trans hs)

/-- An array that meets the precondition holds a ranking in each row. -/
theorem isRanking_of_pre {F : FTy → Type} [FloatOps F] {fs : FVec F S64x2048 .f32} {fr : IVec S64x2048 32}
    (h : fn (F := F) fs fr = fun _ => 1#1) (i : Fin 64) : IsRanking (ranksOf fr i) := by
  have hlt : ∀ k, (fr (ij i k)).toNat < 2 ^ (32 - 1) := fun k =>
    lt_of_le_of_lt (((count_of_pre h i k).le.trans (Finset.card_le_univ _)).trans_eq (Fintype.card_fin _)) (by decide)
  intro j
  refine (count_of_pre h i j).trans (congrArg Finset.card (Finset.filter_congr fun k _ => ?_))
  rw [cmpi_slt_of_lt (hlt k) (hlt j), ofBool_one, decide_eq_true_eq]
  rfl

end Cert.Counting

end
-- ==== Proof.Order.lean ====
/-
  What the reference computes: a stable argsort of the ranks, and the scores taken along it.
-/
module

public import proofs.«01_k».proof.Proof.Rows
public import proofs.«01_k».proof.Proof.Gen.ByRank.Run
public import Idealize.ShloMosaic.Lib.WordCmp
public import Idealize.ShloMosaic.PureOps.Reduce
public import Idealize.ShloMosaic.Lib.Pipeline.Value

@[expose] public section

noncomputable section

namespace Cert.Counting

open Idealize.ShloMosaic Cert.ByRank Cert.ByRank.Gen
open Idealize.ShloMosaic.WordCmp

/-- The reference's argsort of the ranks. -/
abbrev sorted (fr : IVec S64x2048 32) : IVec S64x2048 32 :=
  (Host.sort2 S64x2048 1 comparator_i32_i32_d1 fr (iotaInDim S64x2048 32 1)).2

/-- A position along the second axis of an index. -/
theorem along_eq (x : S64x2048.Idx) (k : Fin 2048) : x.along (1 : Fin S64x2048.rank) k = ij (x 0) k := by
  funext a
  match a with
  | 0 => rfl
  | 1 => rfl

/-- The second result of a sort by keys along the second axis. -/
theorem sort2_snd (cmp : BitVec 32 × BitVec 32 → BitVec 32 × BitVec 32 → BitVec 1) (u v : IVec S64x2048 32) (x : S64x2048.Idx) :
    (Host.sort2 S64x2048 1 cmp u v).2 x = v (x.along (1 : Fin S64x2048.rank) (sortedFrom (fun k k' =>
      cmp (u (x.along (1 : Fin S64x2048.rank) k), v (x.along (1 : Fin S64x2048.rank) k))
        (u (x.along (1 : Fin S64x2048.rank) k'), v (x.along (1 : Fin S64x2048.rank) k')) == 1#1) (x 1))) := by
  unfold Host.sort2
  rw [dif_pos (show 1 < S64x2048.rank by decide)]
  rfl

/-- The row of element numbers. -/
theorem iota_along (x : S64x2048.Idx) (k : Fin 2048) : iotaInDim S64x2048 32 1 (x.along (1 : Fin S64x2048.rank) k) = BitVec.ofNat 32 k.val :=
  congrArg (iotaInDim S64x2048 32 1) (along_eq x k)

/-- The argsort at an index: the position that the sort by signed comparison takes. -/
theorem sorted_apply (fr : IVec S64x2048 32) (x : S64x2048.Idx) :
    sorted fr x = BitVec.ofNat 32 (sortedFrom (n := 2048) (fun k k' =>
      IntOp.cmpi .slt (fr (x.along (1 : Fin S64x2048.rank) k)) (fr (x.along (1 : Fin S64x2048.rank) k')) == 1#1) (x 1)).val := by
  rw [sorted, sort2_snd]
  exact iota_along x _

/-- The elements in order, at a position. -/
theorem idxOf_apply (fr : IVec S64x2048 32) (x : S64x2048.Idx) :
    idxOf fr x = BitVec.ofNat 32 (sortedFrom (n := 2048) (fun k k' => decide (ranksOf fr (x 0) k < ranksOf fr (x 0) k')) (x 1)).val := rfl

/-- Of a ranking, the argsort is the order of the ranks. -/
theorem sorted_eq {fr : IVec S64x2048 32} (hr : ∀ i, IsRanking (ranksOf fr i)) : sorted fr = idxOf fr := by
  have hlt : ∀ i k, (fr (ij i k)).toNat < 2 ^ (32 - 1) := fun i k => lt_trans (rank_lt (hr i) k) (by decide)
  funext x
  rw [sorted_apply, idxOf_apply]
  refine congrArg (fun π : Fin 2048 → Fin 2048 → Bool => BitVec.ofNat 32 (sortedFrom π (x 1)).val) (funext fun k => funext fun k' => ?_)
  refine (congrArg₂ (fun a b => IntOp.cmpi .slt (fr a) (fr b) == 1#1) (along_eq x k) (along_eq x k')).trans ?_
  refine (congrArg (· == 1#1) (cmpi_slt_of_lt (hlt _ _) (hlt _ _))).trans ?_
  show (BitVec.ofBool (decide (ranksOf fr (x 0) k < ranksOf fr (x 0) k')) == 1#1) = decide (ranksOf fr (x 0) k < ranksOf fr (x 0) k')
  generalize decide (ranksOf fr (x 0) k < ranksOf fr (x 0) k') = b
  cases b <;> rfl

/-! ## Taking along the order -/

/-- The start indices of the take: the indices, a negative one counted from the end, each in a one-element vector. -/
abbrev starts (o : IVec S64x2048 32) : IVec S64x2048x1 32 :=
  shapeCast S64x2048x1 (select (cmpi .slt o (broadcastInDim S64x2048 ![] bcast_S_S64x2048 (constantI S_ 32 0#32)))
    (addi o (broadcastInDim S64x2048 ![] bcast_S_S64x2048 (constantI S_ 32 2048#32))) o) shapeCasts_S64x2048_S64x2048x1

/-- A start index of the take. -/
theorem starts_apply (o : IVec S64x2048 32) (y : S64x2048x1.Idx) (h : (o (ij (y 0) (y 1))).toNat < 2048) :
    starts o y = o (ij (y 0) (y 1)) := by
  unfold starts
  rw [shapeCast_apply _ shapeCasts_S64x2048_S64x2048x1 y (ij (y 0) (y 1)) (by
    rw [Shape.rowMajor_val_two, Shape.rowMajor_val_three]
    have : (y 2).val < 1 := (y 2).isLt
    show (y 0).val * 2048 + (y 1).val = ((y 0).val * 2048 + (y 1).val) * 1 + (y 2).val
    omega)]
  show Scalar.select (IntOp.cmpi .slt (o (ij (y 0) (y 1))) 0#32) _ _ = _
  rw [cmpi_slt_of_lt (lt_trans h (by decide)) (by decide)]
  rfl

/-- The mask of the indices within the row. -/
abbrev within (s : IVec S64x2048x1 32) : IVec S64x2048 1 :=
  Host.reduce IntOp.andi (andi (cmpi .sge s (broadcastInDim S64x2048x1 ![] bcast_S_S64x2048x1 (constantI S_ 32 0#32)))
    (cmpi .sle s (broadcastInDim S64x2048x1 ![0, 1, 2] bcast_S1x1x1_S64x2048x1_0_1_2 (broadcastInDim S1x1x1 ![2] bcast_S1_S1x1x1_2 (constantI S1 32 2047#32)))))
    (constantI S_ 1 1#1) reducesTo_S64x2048x1_S64x2048_d2 h_S_

/-- A conjunction of ones is one. -/
theorem foldl_ones {ι : Type} (x : ι → BitVec 1) (l : List ι) (h : ∀ i ∈ l, x i = 1#1) :
    l.foldl (fun r i => IntOp.andi r (x i)) 1#1 = 1#1 := by
  induction l with
  | nil => rfl
  | cons a l ih =>
    rw [List.foldl_cons, h a List.mem_cons_self]
    exact ih fun i hi => h i (List.mem_cons_of_mem _ hi)

/-- Every start lies within the row. -/
theorem within_eq (s : IVec S64x2048x1 32) (h : ∀ y, (s y).toNat < 2048) (x : S64x2048.Idx) : within s x = 1#1 := by
  unfold within
  rw [Host.reduce_eq_foldl]
  refine foldl_ones _ _ fun y _ => ?_
  show IntOp.andi (IntOp.cmpi .sge (s y) 0#32) (IntOp.cmpi .sle (s y) 2047#32) = 1#1
  have hy := h y
  rw [cmpi_sge_of_lt (lt_trans hy (by decide)) (by decide), cmpi_sle_of_lt (lt_trans hy (by decide)) (by decide),
    decide_eq_true (show (0#32).toNat ≤ (s y).toNat from Nat.zero_le _), decide_eq_true (show (s y).toNat ≤ (2047#32).toNat from Nat.le_of_lt_succ hy)]
  rfl

/-- Where the start index of element `x` stands. -/
def colIdx (x : S64x2048.Idx) : S64x2048x1.Idx := fun a => match a with | 0 => x 0 | 1 => x 1 | 2 => (0 : Fin 1)

/-- The take's gather, read at an index. -/
theorem gather_apply {α : Type} (v : S64x2048.Idx → α) (s : IVec S64x2048x1 32) (x : S64x2048.Idx) (k : Fin 2048) (h : (s (colIdx x)).toNat = k.val) :
    Host.gather gather_S64x2048_S64x2048x1_S64x2048_n_1_0_0_1_2_11 v s x
      = v (ij (x 0) k) := by
  unfold Host.gather
  congr 1
  funext a
  refine Fin.ext ?_
  show GatherDims.start gather_S64x2048_S64x2048x1_S64x2048_n_1_0_0_1_2_11 x s a + GatherDims.batchCoord gather_S64x2048_S64x2048x1_S64x2048_n_1_0_0_1_2_11 x a
      + GatherDims.offCoord gather_S64x2048_S64x2048x1_S64x2048_n_1_0_0_1_2_11 x a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S64x2048_S64x2048x1_S64x2048_n_1_0_0_1_2_11.operandBatchingDims from List.mem_singleton.mpr rfl)]
    rfl
  | 1 =>
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S64x2048_S64x2048x1_S64x2048_n_1_0_0_1_2_11.startIndexMap from List.mem_singleton.mpr rfl)]
    have hsi : GatherDims.siIdx gather_S64x2048_S64x2048x1_S64x2048_n_1_0_0_1_2_11 x ⟨List.idxOf (1 : Fin 2) gather_S64x2048_S64x2048x1_S64x2048_n_1_0_0_1_2_11.startIndexMap,
        List.idxOf_lt_length_iff.2 (List.mem_singleton.mpr rfl)⟩ = colIdx x := by
      funext b; refine Fin.ext ?_
      match b with
      | ⟨0, _⟩ => rfl
      | ⟨1, _⟩ => rfl
      | ⟨2, _⟩ => rfl
    rw [hsi]
    show min (s (colIdx x)).toInt.toNat 2047 = k.val
    rw [toInt_eq_toNat_of_lt_half (by rw [h]; exact lt_trans k.isLt (by decide)), Int.toNat_natCast, h]
    omega

variable {F : FTy → Type} [FloatOps F]

/-- The scores that the reference takes along the argsort. -/
abbrev taken (fs : FVec F S64x2048 .f32) (o : IVec S64x2048 32) : FVec F S64x2048 .f32 :=
  select (within (starts o)) (Host.gather gather_S64x2048_S64x2048x1_S64x2048_n_1_0_0_1_2_11 fs (starts o))
    (broadcastInDim S64x2048 ![] bcast_S_S64x2048 (constant S_ .f32 0x7FC00000#32))

/-- What the take reads. -/
theorem taken_apply (fs : FVec F S64x2048 .f32) (o : IVec S64x2048 32) (x : S64x2048.Idx) :
    taken fs o x = Scalar.select (within (starts o) x) (Host.gather gather_S64x2048_S64x2048x1_S64x2048_n_1_0_0_1_2_11 fs (starts o) x)
      (constant S_ .f32 0x7FC00000#32 (Shape.Idx.first h_S_)) := by
  unfold taken select
  exact congrArg (Scalar.select _ _) (congrArg (constant S_ .f32 0x7FC00000#32) (funext fun a => a.elim0))

/-- A choice whose condition holds. -/
theorem select_one {α : Type} (a b : α) : Scalar.select 1#1 a b = a := if_pos rfl

/-- The scores in order, at a position. -/
theorem valsOf_apply (fs : FVec F S64x2048 .f32) (fr : IVec S64x2048 32) (x : S64x2048.Idx) : valsOf fs fr x = fs (ij (x 0) (order fr (x 0) (x 1))) := rfl

/-- An index by its two coordinates. -/
theorem eq_take (x : S64x2048.Idx) : x = ij (colIdx x 0) (colIdx x 1) := by
  funext a
  match a with
  | 0 => rfl
  | 1 => rfl

/-- An element in order, as a number. -/
theorem idxOf_toNat (fr : IVec S64x2048 32) (x : S64x2048.Idx) : (idxOf fr x).toNat = (order fr (x 0) (x 1)).val := by
  unfold idxOf
  rw [BitVec.toNat_ofNat]
  exact Nat.mod_eq_of_lt (lt_trans (order fr (x 0) (x 1)).isLt (by decide))

/-- Taken along the order of the ranks, the scores stand in the order of the ranks. -/
theorem taken_eq (fs : FVec F S64x2048 .f32) (fr : IVec S64x2048 32) : taken fs (idxOf fr) = valsOf fs fr := by
  have ho : ∀ x, (idxOf fr x).toNat < 2048 := fun x => by rw [idxOf_toNat]; exact (order fr (x 0) (x 1)).isLt
  have hs : ∀ y, starts (idxOf fr) y = idxOf fr (ij (y 0) (y 1)) := fun y => starts_apply _ y (ho _)
  funext x
  have e : (starts (idxOf fr) (colIdx x)).toNat = (order fr (x 0) (x 1)).val :=
    (congrArg BitVec.toNat (hs _)).trans ((congrArg (fun z => (idxOf fr z).toNat) (eq_take x).symm).trans (idxOf_toNat fr x))
  rw [taken_apply, within_eq _ (fun y => by rw [hs]; exact ho _) x, gather_apply _ _ _ _ e, select_one, valsOf_apply]

end Cert.Counting

end
-- ==== Proof.Tasks.lean ====
/-
  What one task of the scatter does: two rows, each fetched with its ranks, its counts cleared, scattered block by block
  and written out.
-/
module

public import proofs.«01_k».proof.Defs
public import proofs.«01_k».proof.Proof.Rows
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton

@[expose] public section

noncomputable section

namespace Cert.Proof.Whole

open Cert.KernelIdeal Cert.KernelIdeal.Gen Cert.Counting

open Idealize.ShloMosaic
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := UH × (UP × Counters)

local notation "𝕄" => MT nD τ sig (HIx 1) (Elt F) ℕ UU ℕ

local notation "sSc" => (Memref.whole Cert.KernelIdeal.cc1_scratch0 : Memref Cert.KernelIdeal.sig Kind.scVector Space.vmem Cert.KernelIdeal.S2048 EltTy.f32)
local notation "sRk" => (Memref.whole Cert.KernelIdeal.cc1_scratch1 : Memref Cert.KernelIdeal.sig Kind.scVector Space.vmem Cert.KernelIdeal.S2048 EltTy.i32)
local notation "sOv" => (Memref.whole Cert.KernelIdeal.cc1_scratch2 : Memref Cert.KernelIdeal.sig Kind.scVector Space.vmem Cert.KernelIdeal.S2048 EltTy.f32)
local notation "sOi" => (Memref.whole Cert.KernelIdeal.cc1_scratch3 : Memref Cert.KernelIdeal.sig Kind.scVector Space.vmem Cert.KernelIdeal.S2048 EltTy.i32)
local notation "sCn" => (Memref.whole Cert.KernelIdeal.cc1_scratch4 : Memref Cert.KernelIdeal.sig Kind.scVector Space.vmem Cert.KernelIdeal.S2048 EltTy.i32)
local notation "gSc" => (Memref.whole Cert.KernelIdeal.main_v6_scv : Memref Cert.KernelIdeal.sig Kind.scVector Space.hbm Cert.KernelIdeal.S64x2048 EltTy.f32)
local notation "gRk" => (Memref.whole Cert.KernelIdeal.main_v7_scv : Memref Cert.KernelIdeal.sig Kind.scVector Space.hbm Cert.KernelIdeal.S64x2048 EltTy.i32)
local notation "gOv" => (Memref.whole Cert.KernelIdeal.main_v8_0_scv : Memref Cert.KernelIdeal.sig Kind.scVector Space.hbm Cert.KernelIdeal.S64x2048 EltTy.f32)
local notation "gOi" => (Memref.whole Cert.KernelIdeal.main_v8_1_scv : Memref Cert.KernelIdeal.sig Kind.scVector Space.hbm Cert.KernelIdeal.S64x2048 EltTy.i32)

variable [FloatOps F]

/-- The loops of the two rows have one body. -/
theorem t2_eq : k1_t2_body (F := F) = k1_t4_body (F := F) := rfl

section Tile

variable (d : Dev nD) (L : grid1.Coords)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- A trip's number is below 128. -/
theorem trip_lt (k : Fin k1_t4_loop.trips) : k.val < 128 := lt_of_lt_of_le k.isLt k1_t4_abs.2.1

/-- The element of the row that a trip's load reads for lane `x`. -/
theorem loadAt (k : Fin k1_t4_loop.trips) (x : S16.Idx) :
    (Rect.unit (s := S2048) (k1_off5 k) S16.size (k1_off5_inb k)).toLoadRect.idx x = at' (lane k.val (trip_lt k) x) := by
  funext a; apply Fin.ext
  have ha : a = 0 := Subsingleton.elim _ _
  subst ha
  rw [LoadRect.idx_apply]
  show k1_off5 k 0 + 1 * (x 0).val = 16 * k.val + (x 0).val
  rw [k1_off5_eq]; simp

/-- The indices that a trip stores. -/
theorem pay_iota (k : Fin k1_t4_loop.trips) (x : S16.Idx) : k1_pay1 k x = BitVec.ofNat 32 (lane k.val (trip_lt k) x).val := by
  have hx : (x 0).val < 16 := (x 0).isLt
  have hk := trip_lt k
  apply BitVec.eq_of_toNat_eq
  show (BitVec.ofNat 32 (0 * 16 + (x 0).val) + Scf.iv 0#32 1#32 k.val * 16#32).toNat = _
  simp only [Scf.iv, lane, BitVec.toNat_add, BitVec.toNat_mul, BitVec.toNat_ofNat]
  omega

omit [FloatOps F] in
/-- A buffer of the task held whole, as the indexed loads and stores name it. -/
theorem pts_access (b : Ref sig .scVector) (f : Buf (Elt F) ((thr d L).loc b)) :
    (((Memref.whole b).access (.whole _)).loc (thr d L) ↦{fullShare} f : sProp 𝕄) = (Memref.whole b).view.loc (thr d L) ↦{fullShare} f := rfl

omit [FloatOps F] in
/-- A scratch buffer held whole is held as its memref. -/
theorem pts_access_set (b : Ref sig .scVector) (f : Buf (Elt F) ((thr d L).loc b)) :
    (((Memref.whole b).access (.whole _)).loc (thr d L) ↦[((Memref.whole b).access (.whole _)).set]{fullShare} f : sProp 𝕄)
      = (Memref.whole b).view.loc (thr d L) ↦{fullShare} f := by
  rw [Memref.set_access_whole]

/-- The indexed load of the counts. -/
theorem gather_sCn {α : Type} {Q : α → sProp 𝕄} (f : Vec F SRow .i32) (idxs : Fin S2048.rank → IVec S16 32)
    (h : ∀ a x, (idxs a x).toNat < S2048.size a) (hl : (sCn).view.Loads)
    (k : Vec F S16 .i32 → Prog (TpuEff nD τ sig (Elt F) Λ₀ (thr d L).2) α) :
    (((sCn).view.loc (thr d L) ↦{fullShare} f) : sProp 𝕄)
      ⊢ iprop((((sCn).view.loc (thr d L) ↦{fullShare} f) -∗ wp frame (wpE (defs₀ (F := F)) 𝒱₀ (thr d L) none) Set.univ (k (loadIdx (F := F) (e := .i32) f idxs h)) Q)
        -∗ wp frame (wpE (defs₀ (F := F)) 𝒱₀ (thr d L) none) Set.univ (SparseCore.vectorLoadIdx sCn idxs h hl >>= k) Q) := by
  iintro H Hk
  ihave H := (Entails.of_eq (pts_access d L cc1_scratch4 _).symm) $$ H
  iapply (SparseCore.wp_vectorLoadIdx 𝒱₀ (thr d L) none Set.univ (base := sCn) (S := Finset.univ) (q := fullShare) (Finset.subset_univ _)) $$ H; iintro H
  rw [Memref.read_access_whole (Elt F) cc1_scratch4]
  iapply Hk
  iexact H

/-- The indexed store to `sOv`: the buffer is left at the scatter of its contents. -/
theorem scatter_sOv {α : Type} {Q : α → sProp 𝕄} (f : Vec F SRow .f32) (idxs : Fin S2048.rank → IVec S16 32) (v : Vec F S16 .f32) (mask : IVec S16 1)
    (h : ∀ a x, (idxs a x).toNat < S2048.size a) (hs : ((Memref.whole cc1_scratch2 : Memref sig .scVector .vmem S2048 .f32).access (.whole S2048)).Stores Finset.univ)
    (k : PUnit → Prog (TpuEff nD τ sig (Elt F) Λ₀ (thr d L).2) α) :
    (((sOv).view.loc (thr d L) ↦{fullShare} f) : sProp 𝕄)
      ⊢ iprop((((sOv).view.loc (thr d L) ↦{fullShare} storeIdx (F := F) (e := .f32) f idxs v mask false h) -∗ wp frame (wpE (defs₀ (F := F)) 𝒱₀ (thr d L) none) Set.univ (k ⟨⟩) Q)
        -∗ wp frame (wpE (defs₀ (F := F)) 𝒱₀ (thr d L) none) Set.univ (SparseCore.vectorStoreIdx sOv idxs v mask false h hs >>= k) Q) := by
  iintro H Hk
  ihave H := (Entails.of_eq (pts_access_set d L cc1_scratch2 _).symm) $$ H
  iapply (SparseCore.wp_vectorStoreIdx 𝒱₀ (thr d L) none Set.univ (base := sOv)) $$ H; iintro H
  iapply Hk
  ihave H := (Entails.of_eq (pts_access_set d L cc1_scratch2 _)) $$ H
  rw [Memref.write_access_whole_univ (Elt F) cc1_scratch2, Memref.read_access_whole (Elt F) cc1_scratch2]
  iexact H

/-- The indexed store to `sOi`: the buffer is left at the scatter of its contents. -/
theorem scatter_sOi {α : Type} {Q : α → sProp 𝕄} (f : Vec F SRow .i32) (idxs : Fin S2048.rank → IVec S16 32) (v : Vec F S16 .i32) (mask : IVec S16 1)
    (h : ∀ a x, (idxs a x).toNat < S2048.size a) (hs : ((Memref.whole cc1_scratch3 : Memref sig .scVector .vmem S2048 .i32).access (.whole S2048)).Stores Finset.univ)
    (k : PUnit → Prog (TpuEff nD τ sig (Elt F) Λ₀ (thr d L).2) α) :
    (((sOi).view.loc (thr d L) ↦{fullShare} f) : sProp 𝕄)
      ⊢ iprop((((sOi).view.loc (thr d L) ↦{fullShare} storeIdx (F := F) (e := .i32) f idxs v mask false h) -∗ wp frame (wpE (defs₀ (F := F)) 𝒱₀ (thr d L) none) Set.univ (k ⟨⟩) Q)
        -∗ wp frame (wpE (defs₀ (F := F)) 𝒱₀ (thr d L) none) Set.univ (SparseCore.vectorStoreIdx sOi idxs v mask false h hs >>= k) Q) := by
  iintro H Hk
  ihave H := (Entails.of_eq (pts_access_set d L cc1_scratch3 _).symm) $$ H
  iapply (SparseCore.wp_vectorStoreIdx 𝒱₀ (thr d L) none Set.univ (base := sOi)) $$ H; iintro H
  iapply Hk
  ihave H := (Entails.of_eq (pts_access_set d L cc1_scratch3 _)) $$ H
  rw [Memref.write_access_whole_univ (Elt F) cc1_scratch3, Memref.read_access_whole (Elt F) cc1_scratch3]
  iexact H

/-- The indexed store to `sCn`: the buffer is left at the scatter of its contents. -/
theorem scatter_sCn {α : Type} {Q : α → sProp 𝕄} (f : Vec F SRow .i32) (idxs : Fin S2048.rank → IVec S16 32) (v : Vec F S16 .i32) (mask : IVec S16 1)
    (h : ∀ a x, (idxs a x).toNat < S2048.size a) (hs : ((Memref.whole cc1_scratch4 : Memref sig .scVector .vmem S2048 .i32).access (.whole S2048)).Stores Finset.univ)
    (k : PUnit → Prog (TpuEff nD τ sig (Elt F) Λ₀ (thr d L).2) α) :
    (((sCn).view.loc (thr d L) ↦{fullShare} f) : sProp 𝕄)
      ⊢ iprop((((sCn).view.loc (thr d L) ↦{fullShare} storeIdx (F := F) (e := .i32) f idxs v mask false h) -∗ wp frame (wpE (defs₀ (F := F)) 𝒱₀ (thr d L) none) Set.univ (k ⟨⟩) Q)
        -∗ wp frame (wpE (defs₀ (F := F)) 𝒱₀ (thr d L) none) Set.univ (SparseCore.vectorStoreIdx sCn idxs v mask false h hs >>= k) Q) := by
  iintro H Hk
  ihave H := (Entails.of_eq (pts_access_set d L cc1_scratch4 _).symm) $$ H
  iapply (SparseCore.wp_vectorStoreIdx 𝒱₀ (thr d L) none Set.univ (base := sCn)) $$ H; iintro H
  iapply Hk
  ihave H := (Entails.of_eq (pts_access_set d L cc1_scratch4 _)) $$ H
  rw [Memref.write_access_whole_univ (Elt F) cc1_scratch4, Memref.read_access_whole (Elt F) cc1_scratch4]
  iexact H

/-- What the row's five buffers hold before trip `k`. -/
def rowInv (rk : IVec SRow 32) (sc : Vec F SRow .f32) (k : ℕ) : sProp 𝕄 :=
  iprop(((sSc).view.loc (thr d L) ↦{fullShare} sc) ∗ ((sRk).view.loc (thr d L) ↦{fullShare} rk)
    ∗ ∃ ov oi cnt, ⌜Inv rk sc k ov oi cnt⌝ ∗ ((sOv).view.loc (thr d L) ↦{fullShare} ov) ∗ ((sOi).view.loc (thr d L) ↦{fullShare} oi)
      ∗ ((sCn).view.loc (thr d L) ↦{fullShare} cnt))

/-- One trip of the counting scatter of row 1. -/
theorem trip (rk : IVec SRow 32) (sc : Vec F SRow .f32) (hr : IsRanking (ranks rk)) (k : Fin k1_t4_loop.trips) (a : BitVec 32)
    (a0 : _) (h0 : _) (a1 : _) (h1 : _) (a2 : _) (h2 : _) (a3 : _) (h3 : _) (q0 q1 q2 q3 q4 q5 q6 q7 : _) :
    rowInv d L rk sc k.val
      ⊢ wp frame (wpE (defs₀ (F := F)) 𝒱₀ (thr d L) none) Set.univ
          (k1_t4_body L a0 h0 a1 h1 a2 h2 a3 h3 sSc (Memref.isWhole_whole _) sRk (Memref.isWhole_whole _) sOv (Memref.isWhole_whole _)
            sOi (Memref.isWhole_whole _) sCn (Memref.isWhole_whole _) q0 q1 q2 q3 q4 q5 q6 q7 k a)
          fun _ => rowInv d L rk sc (k.val + 1) := by
  unfold k1_t4_body rowInv
  iintro ⟨Hsc, Hrk, %ov, %oi, %cnt, %hI, Hov, Hoi, Hcn⟩
  have hk := trip_lt k
  set v17 : IVec S16 32 := View.readAt (Elt F) (sRk).view (Rect.unit (s := S2048) (k1_off5 k) S16.size (k1_off5_inb k)).toLoadRect rk with hv17
  have hv : ∀ x, v17 x = rk (at' (lane k.val hk x)) := fun x => by
    rw [hv17]; simp only [View.readAt_apply, Memref.view_whole, View.read_whole]; rw [loadAt]
  have hw3 : k1_chk3 v17 := ⟨fun b x => by obtain rfl : b = 0 := Subsingleton.elim _ _; exact rank_inb hr hv x,
    fun b x => by obtain rfl : b = 0 := Subsingleton.elim _ _; exact rank_inb hr hv x⟩
  have hin : ∀ (b : Fin SRow.rank) x, ((![v17] : Fin 1 → IVec SLane 32) b x).toNat < SRow.size b := hw3.1
  have hg := gathered (F := F) hI hv hin
  have hw4 : k1_chk4 (k1_pay5 (F := F) v17 (loadIdx (F := F) (e := .i32) cnt ![v17] hin)) := by
    constructor <;> (intro b x; obtain rfl : b = 0 := Subsingleton.elim _ _; exact position_inb hr hv hg x)
  sl_exec
  iapply (gather_sCn d L _ _ _ _ _) $$ Hcn; iintro Hcn
  sl_exec
  iapply (scatter_sOv d L _ _ _ _ _ _ _) $$ Hov; iintro Hov
  iapply (scatter_sOi d L _ _ _ _ _ _ _) $$ Hoi; iintro Hoi
  iapply (scatter_sCn d L _ _ _ _ _ _ _) $$ Hcn; iintro Hcn
  rw [wp_pure]; imodintro
  have hstep := inv_step (F := F) hr hI (v19 := View.readAt (Elt F) (sSc).view (Rect.unit (s := S2048) (k1_off5 k) S16.size (k1_off5_inb k)).toLoadRect sc) hv
    (fun x => by simp only [View.readAt_apply, Memref.view_whole, View.read_whole]; rw [loadAt]) (pay_iota k) hg
    (v28 := k1_pay5 (F := F) v17 (loadIdx (F := F) (e := .i32) cnt ![v17] hin)) (v29 := k1_pay6 (F := F) v17 (loadIdx (F := F) (e := .i32) cnt ![v17] hin)) (last := k1_pay3 (F := F) v17)
    (fun x => rfl) (fun x => rfl) (fun x => rfl) hw4.1 hin
  isplitl [Hsc]; · iexact Hsc
  isplitl [Hrk]; · iexact Hrk
  iexists _, _, _
  isplitr [Hov Hoi Hcn]
  · ipureintro; exact hstep
  isplitl [Hov]; · iexact Hov
  isplitl [Hoi]; · iexact Hoi
  iexact Hcn

/-- The same trip of row 0's loop. -/
theorem trip2 (rk : IVec SRow 32) (sc : Vec F SRow .f32) (hr : IsRanking (ranks rk)) (k : Fin k1_t2_loop.trips) (a : BitVec 32)
    (a0 : _) (h0 : _) (a1 : _) (h1 : _) (a2 : _) (h2 : _) (a3 : _) (h3 : _) (q0 q1 q2 q3 q4 q5 q6 q7 : _) :
    rowInv d L rk sc k.val
      ⊢ wp frame (wpE (defs₀ (F := F)) 𝒱₀ (thr d L) none) Set.univ
          (k1_t2_body L a0 h0 a1 h1 a2 h2 a3 h3 sSc (Memref.isWhole_whole _) sRk (Memref.isWhole_whole _) sOv (Memref.isWhole_whole _)
            sOi (Memref.isWhole_whole _) sCn (Memref.isWhole_whole _) q0 q1 q2 q3 q4 q5 q6 q7 k a)
          fun _ => rowInv d L rk sc (k.val + 1) :=
  trip d L rk sc hr k a a0 h0 a1 h1 a2 h2 a3 h3 q0 q1 q2 q3 q4 q5 q6 q7

/-- What the counts hold before trip `k` of the clearing loop: the first `k` blocks are zero. -/
def zeroInv (k : ℕ) : sProp 𝕄 :=
  iprop(∃ cnt : IVec SRow 32, ⌜∀ v : Fin 2048, v.val < 16 * k → cnt (at' v) = 0#32⌝ ∗ ((sCn).view.loc (thr d L) ↦{fullShare} cnt))

/-- A block of zeros stored at `16 * k` extends the cleared part by one block. -/
theorem cleared (k : ℕ) (cnt : IVec SRow 32) (off : Fin S2048.rank → ℕ) (hoff : ∀ a, off a + S16.size a ≤ S2048.size a) (h0 : off 0 = 16 * k)
    (hz : ∀ v : Fin 2048, v.val < 16 * k → cnt (at' v) = 0#32) (v : Fin 2048) (hv : v.val < 16 * (k + 1)) :
    (sCn).view.writes (Elt F) cnt [⟨Rect.unit (s := S2048) off S16.size hoff, k1_pay7⟩] (at' v) = 0#32 := by
  show (sCn).view.read (Elt F) ((sCn).view.writes (Elt F) cnt [⟨Rect.unit (s := S2048) off S16.size hoff, k1_pay7⟩]) (at' v) = 0#32
  by_cases hlt : v.val < 16 * k
  · rw [View.read_writes_apply_of_forall_not_mem]
    · exact hz v hlt
    · intro p hp hm
      obtain rfl := List.mem_singleton.mp hp
      obtain ⟨x, hx⟩ : ∃ x, (Rect.unit (s := S2048) off S16.size hoff).emb x = at' v := (Rect.unit (s := S2048) off S16.size hoff).exists_idx_of_mem hm
      have := congrArg (fun i : S2048.Idx => (i 0).val) hx
      simp only [Rect.emb_apply] at this
      have h2 : off 0 + 1 * (x 0).val = v.val := this
      omega
  · have hx : (Rect.unit (s := S2048) off S16.size hoff).emb (Shape.Idx.ofFin (n := 16) ⟨v.val - 16 * k, by omega⟩) = at' v := by
      funext a; apply Fin.ext
      obtain rfl : a = 0 := Subsingleton.elim _ _
      rw [Rect.emb_apply]
      show off 0 + 1 * (v.val - 16 * k) = v.val
      omega
    rw [← hx, View.read_writes_cons_emb]
    rfl

/-- One trip of the clearing loop of row 0. -/
theorem clear1 (k : Fin k1_t1_loop.trips) (a : BitVec 32) (a0 : _) (h0 : _) (a1 : _) (h1 : _) (a2 : _) (h2 : _) (a3 : _) (h3 : _) (q0 q1 q2 q3 q4 q5 q6 q7 : _) :
    zeroInv (F := F) d L k.val
      ⊢ wp frame (wpE (defs₀ (F := F)) 𝒱₀ (thr d L) none) Set.univ
          (k1_t1_body L a0 h0 a1 h1 a2 h2 a3 h3 sSc (Memref.isWhole_whole _) sRk (Memref.isWhole_whole _) sOv (Memref.isWhole_whole _)
            sOi (Memref.isWhole_whole _) sCn (Memref.isWhole_whole _) q0 q1 q2 q3 q4 q5 q6 q7 k a)
          fun _ => zeroInv (F := F) d L (k.val + 1) := by
  unfold k1_t1_body zeroInv
  iintro ⟨%cnt, %hz, Hcn⟩
  sl_exec
  sl_step
  iexists _
  isplitr [Hcn]
  · ipureintro; exact cleared (F := F) k.val cnt (k1_off2 k) (k1_off2_inb k) (by rw [k1_off2_eq]; rfl) hz
  · iexact Hcn

/-- One trip of the clearing loop of row 1. -/
theorem clear3 (k : Fin k1_t3_loop.trips) (a : BitVec 32) (a0 : _) (h0 : _) (a1 : _) (h1 : _) (a2 : _) (h2 : _) (a3 : _) (h3 : _) (q0 q1 q2 q3 q4 q5 q6 q7 : _) (v1 : _) :
    zeroInv (F := F) d L k.val
      ⊢ wp frame (wpE (defs₀ (F := F)) 𝒱₀ (thr d L) none) Set.univ
          (k1_t3_body L a0 h0 a1 h1 a2 h2 a3 h3 sSc (Memref.isWhole_whole _) sRk (Memref.isWhole_whole _) sOv (Memref.isWhole_whole _)
            sOi (Memref.isWhole_whole _) sCn (Memref.isWhole_whole _) q0 q1 q2 q3 q4 q5 q6 q7 v1 k1_pay7 k a)
          fun _ => zeroInv (F := F) d L (k.val + 1) := by
  unfold k1_t3_body zeroInv
  iintro ⟨%cnt, %hz, Hcn⟩
  sl_exec
  sl_step
  iexists _
  isplitr [Hcn]
  · ipureintro; exact cleared (F := F) k.val cnt (k1_off4 k) (k1_off4_inb k) (by rw [k1_off4_eq]; rfl) hz
  · iexact Hcn

/-! ## The rows of a task, as it names them -/

abbrev rSc0 (L : grid1.Coords) : Memref sig .scVector .hbm S2048 .f32 :=
  ((gSc).slice (Rect.unit (s := S64x2048) (k1_off1 L 0#32) S1x2048.size (k1_off1_inb L 0)) (fun _ => rfl)).squeeze S2048 squeezes_S1x2048_S2048
abbrev rRk0 (L : grid1.Coords) : Memref sig .scVector .hbm S2048 .i32 :=
  ((gRk).slice (Rect.unit (s := S64x2048) (k1_off1 L 0#32) S1x2048.size (k1_off1_inb L 0)) (fun _ => rfl)).squeeze S2048 squeezes_S1x2048_S2048
abbrev rOv0 (L : grid1.Coords) : Memref sig .scVector .hbm S2048 .f32 :=
  ((gOv).slice (Rect.unit (s := S64x2048) (k1_off1 L 0#32) S1x2048.size (k1_off1_inb L 0)) (fun _ => rfl)).squeeze S2048 squeezes_S1x2048_S2048
abbrev rOi0 (L : grid1.Coords) : Memref sig .scVector .hbm S2048 .i32 :=
  ((gOi).slice (Rect.unit (s := S64x2048) (k1_off1 L 0#32) S1x2048.size (k1_off1_inb L 0)) (fun _ => rfl)).squeeze S2048 squeezes_S1x2048_S2048
abbrev rSc1 (L : grid1.Coords) : Memref sig .scVector .hbm S2048 .f32 :=
  ((gSc).slice (Rect.unit (s := S64x2048) (k1_off1 L 1#32) S1x2048.size (k1_off1_inb L 1)) (fun _ => rfl)).squeeze S2048 squeezes_S1x2048_S2048
abbrev rRk1 (L : grid1.Coords) : Memref sig .scVector .hbm S2048 .i32 :=
  ((gRk).slice (Rect.unit (s := S64x2048) (k1_off1 L 1#32) S1x2048.size (k1_off1_inb L 1)) (fun _ => rfl)).squeeze S2048 squeezes_S1x2048_S2048
abbrev rOv1 (L : grid1.Coords) : Memref sig .scVector .hbm S2048 .f32 :=
  ((gOv).slice (Rect.unit (s := S64x2048) (k1_off1 L 1#32) S1x2048.size (k1_off1_inb L 1)) (fun _ => rfl)).squeeze S2048 squeezes_S1x2048_S2048
abbrev rOi1 (L : grid1.Coords) : Memref sig .scVector .hbm S2048 .i32 :=
  ((gOi).slice (Rect.unit (s := S64x2048) (k1_off1 L 1#32) S1x2048.size (k1_off1_inb L 1)) (fun _ => rfl)).squeeze S2048 squeezes_S1x2048_S2048

/-- What a task holds of one row of an array. -/
abbrev rowPts {e : EltTy} (mm : Memref sig .scVector .hbm S2048 e) (f : Buf (Elt F) (mm.view.loc (thr d L))) : sProp 𝕄 :=
  mm.view.loc (thr d L) ↦[mm.view.set]{fullShare} f

/-- The counter of one of the task's copies. -/
abbrev cell (s : DmaSems sig S_) : GSem nD τ sig := (thr d L, SemLoc.dma s.sem)

/-- A buffer of the task, at some contents. -/
abbrev someBuf (b : Ref sig .scVector) : sProp 𝕄 := iprop(∃ f, (Memref.whole b).view.loc (thr d L) ↦{fullShare} f)

/-- The row that the task's `r`-th turn works on. -/
def rowOf (L : grid1.Coords) (r : Fin 2) : Fin 64 :=
  ⟨4 * (L 1).val + 2 * (L 0).val + r.val, by
    have h0 : (L 0).val < 2 := (L 0).isLt
    have h1 : (L 1).val < 16 := (L 1).isLt
    have := r.isLt
    omega⟩

/-- The element of the array that a row's element is. -/
theorem row_emb (off : Fin S64x2048.rank → ℕ) (inb : ∀ a, off a + S1x2048.size a ≤ S64x2048.size a) (i : Fin 64) (ho : off = ![i.val, 0])
    (h : S2048.numel = S1x2048.numel) (k : Fin 2048) :
    (Rect.unit (s := S64x2048) off S1x2048.size inb).emb (Shape.reshapeEquiv h (at' k)) = ij i k := by
  have e : Shape.reshapeEquiv h (at' k) = (Fin.cons ⟨0, Nat.one_pos⟩ (at' k) : S1x2048.Idx) := Shape.reshapeEquiv_cons_one h (at' k)
  rw [e]
  subst ho
  funext a; apply Fin.ext
  rw [Rect.emb_apply]
  match a with
  | 0 => show i.val + 1 * 0 = i.val; omega
  | 1 => show 0 + 1 * k.val = k.val; omega

omit [FloatOps F] in
/-- A row's memref reads that row. -/
theorem read_rSc0 (f : Vec F S64x2048 .f32) (k : Fin 2048) : (rSc0 L).view.read (Elt F) f (at' k) = f (ij (rowOf L 0) k) :=
  congrArg f (row_emb (k1_off1 L 0#32) (k1_off1_inb L 0) (rowOf L 0) (k1_off1_eq L 0) squeezes_S1x2048_S2048.numel_eq k)

omit [FloatOps F] in
/-- A row's memref reads that row. -/
theorem read_rRk0 (f : Vec F S64x2048 .i32) (k : Fin 2048) : (rRk0 L).view.read (Elt F) f (at' k) = f (ij (rowOf L 0) k) :=
  congrArg f (row_emb (k1_off1 L 0#32) (k1_off1_inb L 0) (rowOf L 0) (k1_off1_eq L 0) squeezes_S1x2048_S2048.numel_eq k)

omit [FloatOps F] in
/-- A row's memref reads that row. -/
theorem read_rOv0 (f : Vec F S64x2048 .f32) (k : Fin 2048) : (rOv0 L).view.read (Elt F) f (at' k) = f (ij (rowOf L 0) k) :=
  congrArg f (row_emb (k1_off1 L 0#32) (k1_off1_inb L 0) (rowOf L 0) (k1_off1_eq L 0) squeezes_S1x2048_S2048.numel_eq k)

omit [FloatOps F] in
/-- A row's memref reads that row. -/
theorem read_rOi0 (f : Vec F S64x2048 .i32) (k : Fin 2048) : (rOi0 L).view.read (Elt F) f (at' k) = f (ij (rowOf L 0) k) :=
  congrArg f (row_emb (k1_off1 L 0#32) (k1_off1_inb L 0) (rowOf L 0) (k1_off1_eq L 0) squeezes_S1x2048_S2048.numel_eq k)

omit [FloatOps F] in
/-- A row's memref reads that row. -/
theorem read_rSc1 (f : Vec F S64x2048 .f32) (k : Fin 2048) : (rSc1 L).view.read (Elt F) f (at' k) = f (ij (rowOf L 1) k) :=
  congrArg f (row_emb (k1_off1 L 1#32) (k1_off1_inb L 1) (rowOf L 1) (k1_off1_eq L 1) squeezes_S1x2048_S2048.numel_eq k)

omit [FloatOps F] in
/-- A row's memref reads that row. -/
theorem read_rRk1 (f : Vec F S64x2048 .i32) (k : Fin 2048) : (rRk1 L).view.read (Elt F) f (at' k) = f (ij (rowOf L 1) k) :=
  congrArg f (row_emb (k1_off1 L 1#32) (k1_off1_inb L 1) (rowOf L 1) (k1_off1_eq L 1) squeezes_S1x2048_S2048.numel_eq k)

omit [FloatOps F] in
/-- A row's memref reads that row. -/
theorem read_rOv1 (f : Vec F S64x2048 .f32) (k : Fin 2048) : (rOv1 L).view.read (Elt F) f (at' k) = f (ij (rowOf L 1) k) :=
  congrArg f (row_emb (k1_off1 L 1#32) (k1_off1_inb L 1) (rowOf L 1) (k1_off1_eq L 1) squeezes_S1x2048_S2048.numel_eq k)

omit [FloatOps F] in
/-- A row's memref reads that row. -/
theorem read_rOi1 (f : Vec F S64x2048 .i32) (k : Fin 2048) : (rOi1 L).view.read (Elt F) f (at' k) = f (ij (rowOf L 1) k) :=
  congrArg f (row_emb (k1_off1 L 1#32) (k1_off1_inb L 1) (rowOf L 1) (k1_off1_eq L 1) squeezes_S1x2048_S2048.numel_eq k)

omit [FloatOps F] in
/-- What a task holds of a row depends on what the row reads. -/
theorem rowPts_congr {e : EltTy} (mm : Memref sig .scVector .hbm S2048 e) (f g : Buf (Elt F) (mm.view.loc (thr d L)))
    (h : ∀ k, mm.view.read (Elt F) f (at' k) = mm.view.read (Elt F) g (at' k)) : rowPts d L mm f = rowPts d L mm g :=
  pointsTo_congr fun i hi => by
    obtain ⟨x, -, rfl⟩ := Finset.mem_map.mp hi
    have := h (x 0)
    rw [← eq_at' x, View.read_apply, View.read_apply] at this
    exact cast_inj _ |>.mp this

omit [FloatOps F] in
/-- A row that a copy has filled. -/
theorem rowPts_filled {e : EltTy} (mm : Memref sig .scVector .hbm S2048 e) (j g : Buf (Elt F) (mm.view.loc (thr d L))) (w : Vec F SRow e)
    (h : ∀ k, w (at' k) = mm.view.read (Elt F) g (at' k)) :
    (mm.view.loc (thr d L) ↦[mm.view.set]{fullShare} mm.view.writes (Elt F) j [⟨Rect.whole S2048, w⟩] : sProp 𝕄) = rowPts d L mm g :=
  rowPts_congr d L mm _ g fun k => by
    rw [← h, View.writes_singleton]
    have := View.read_writes_cons_emb (v := mm.view) (f := j) (Val := Elt F) (Rect.whole S2048) w [] (at' k)
    rw [Rect.emb_whole_apply] at this
    exact this

/-- The loop makes 128 trips. -/
theorem trips1 : k1_t1_loop.trips = 128 := by decide +kernel
/-- The loop makes 128 trips. -/
theorem trips2 : k1_t2_loop.trips = 128 := by decide +kernel
/-- The loop makes 128 trips. -/
theorem trips3 : k1_t3_loop.trips = 128 := by decide +kernel
/-- The loop makes 128 trips. -/
theorem trips4 : k1_t4_loop.trips = 128 := by decide +kernel

/-- One more wait of the task's own. -/
theorem fresh_insert {W W' : Waits sig (HIx 1)} {l : SemLoc sig} (h : ∀ p ∈ W', p ∈ W ∨ p.2 = none) :
    ∀ p ∈ insert ((l, (none : HIx 1)) : SemLoc sig × HIx 1) W', p ∈ W ∨ p.2 = none := fun p hp => by
  rcases Finset.mem_insert.mp hp with rfl | hp
  · exact .inr rfl
  · exact h p hp

/-- A buffer that a copy has filled holds what the copy read. -/
theorem pts_filled (b : Ref sig .scVector) (f : b.ty.Contents (Elt F)) (w : b.ty.Contents (Elt F)) :
    ((Memref.whole b).view.loc (thr d L) ↦{fullShare} (Memref.whole b).view.write (Elt F) f w Finset.univ : sProp 𝕄)
      = (Memref.whole b).view.loc (thr d L) ↦{fullShare} w := by
  rw [show (Memref.whole b).view.write (Elt F) f w Finset.univ = w from View.write_whole_univ _ _ _]

set_option maxHeartbeats 1000000 in
theorem tile_core (O : CellTallies nD τ sig (HIx 1)) (W : Waits sig (HIx 1)) (fs : Vec F S64x2048 .f32) (fr : IVec S64x2048 32)
    (fo0 fo1 : Vec F S64x2048 .f32) (fc0 fc1 : IVec S64x2048 32) (hr : ∀ i, IsRanking (ranksOf fr i)) :
    iprop(Transfers.MayWaits (thr d L) (none : HIx 1) O ∗ (rowPts d L (rSc0 L) fs ∗ rowPts d L (rRk0 L) fr ∗ rowPts d L (rOv0 L) fo0 ∗ rowPts d L (rOi0 L) fc0)
        ∗ (rowPts d L (rSc1 L) fs ∗ rowPts d L (rRk1 L) fr ∗ rowPts d L (rOv1 L) fo1 ∗ rowPts d L (rOi1 L) fc1)
        ∗ (someBuf d L cc1_scratch0 ∗ someBuf d L cc1_scratch1 ∗ someBuf d L cc1_scratch2 ∗ someBuf d L cc1_scratch3 ∗ someBuf d L cc1_scratch4)
        ∗ (semVal (cell d L cc1_scoped0) 0 ∗ semVal (cell d L cc1_scoped1) 0 ∗ semVal (cell d L cc1_scoped2) 0 ∗ semVal (cell d L cc1_scoped3) 0
          ∗ semVal (cell d L cc1_scoped4) 0 ∗ semVal (cell d L cc1_scoped5) 0 ∗ semVal (cell d L cc1_scoped6) 0 ∗ semVal (cell d L cc1_scoped7) 0)
        ∗ owes (thr d L) O W)
      ⊢ wp frame (wpE (defs₀ (F := F)) 𝒱₀ (thr d L) none) Set.univ
          (cc1__scatter_body L gSc (Memref.isWhole_whole _) gRk (Memref.isWhole_whole _) gOv (Memref.isWhole_whole _) gOi (Memref.isWhole_whole _)
            sSc (Memref.isWhole_whole _) sRk (Memref.isWhole_whole _) sOv (Memref.isWhole_whole _)
            sOi (Memref.isWhole_whole _) sCn (Memref.isWhole_whole _) cc1_scoped0 cc1_scoped1 cc1_scoped2 cc1_scoped3 cc1_scoped4 cc1_scoped5 cc1_scoped6 cc1_scoped7)
          fun _ => iprop((rowPts d L (rSc0 L) fs ∗ rowPts d L (rRk0 L) fr ∗ rowPts d L (rOv0 L) (valsOf fs fr) ∗ rowPts d L (rOi0 L) (idxOf fr))
            ∗ (rowPts d L (rSc1 L) fs ∗ rowPts d L (rRk1 L) fr ∗ rowPts d L (rOv1 L) (valsOf fs fr) ∗ rowPts d L (rOi1 L) (idxOf fr))
            ∗ (someBuf (F := F) d L cc1_scratch0 ∗ someBuf (F := F) d L cc1_scratch1 ∗ someBuf (F := F) d L cc1_scratch2 ∗ someBuf (F := F) d L cc1_scratch3 ∗ someBuf (F := F) d L cc1_scratch4)
            ∗ (semVal (cell d L cc1_scoped0) 0 ∗ semVal (cell d L cc1_scoped1) 0 ∗ semVal (cell d L cc1_scoped2) 0 ∗ semVal (cell d L cc1_scoped3) 0
              ∗ semVal (cell d L cc1_scoped4) 0 ∗ semVal (cell d L cc1_scoped5) 0 ∗ semVal (cell d L cc1_scoped6) 0 ∗ semVal (cell d L cc1_scoped7) 0)
            ∗ ∃ W', ⌜∀ p ∈ W', p ∈ W ∨ p.2 = none⌝ ∗ owes (thr d L) O W') := by
  have hr0 : IsRanking (ranks ((rRk0 L).view.read (Elt F) fr)) := (show ranks _ = ranksOf fr (rowOf L 0) from funext fun k => congrArg BitVec.toNat (read_rRk0 (F := F) L fr k)) ▸ hr _
  have hr1 : IsRanking (ranks ((rRk1 L).view.read (Elt F) fr)) := (show ranks _ = ranksOf fr (rowOf L 1) from funext fun k => congrArg BitVec.toNat (read_rRk1 (F := F) L fr k)) ▸ hr _
  simp only [cc1__scatter_body_eq_skeleton]; unfold cc1__scatter_body_skel
  simp only [k1_part1_eq_skeleton, k1_part2_eq_skeleton]; unfold k1_part1_skel k1_part2_skel
  simp only [bind_assoc, pure_bind]
  iintro ⟨Hmw, ⟨HSc0, HRk0, HOv0, HOi0⟩, ⟨HSc1, HRk1, HOv1, HOi1⟩, ⟨⟨%b0, Hb0⟩, ⟨%b1, Hb1⟩, ⟨%b2, Hb2⟩, ⟨%b3, Hb3⟩, ⟨%b4, Hb4⟩⟩, ⟨Hq0, Hq1, Hq2, Hq3, Hq4, Hq5, Hq6, Hq7⟩, HO⟩
  sl_exec
  ihave Hb0 := (Entails.of_eq (pts_filled d L cc1_scratch0 _ _)) $$ Hb0
  ihave Hb1 := (Entails.of_eq (pts_filled d L cc1_scratch1 _ _)) $$ Hb1
  sl_for (fun k _ => zeroInv d L k) $$ [Hb4]
  case region => exact fun k a => clear1 d L k a _ _ _ _ _ _ _ _ _ _ _ _ _ _ _ _
  · unfold zeroInv; iexists b4; isplitr; · ipureintro; exact fun v hv => absurd hv (by omega)
    iexact Hb4
  iintro %_ HI
  unfold zeroInv
  icases HI with ⟨%cnt, %hz, Hcn⟩
  sl_for (fun k _ => rowInv d L ((rRk0 L).view.read (Elt F) fr) ((rSc0 L).view.read (Elt F) fs) k) $$ [Hb0 Hb1 Hb2 Hb3 Hcn]
  case region => exact fun k a => trip2 d L _ _ hr0 k a _ _ _ _ _ _ _ _ _ _ _ _ _ _ _ _
  · unfold rowInv
    isplitl [Hb0]; · iexact Hb0
    isplitl [Hb1]; · iexact Hb1
    iexists b2, b3, cnt
    isplitr [Hb2 Hb3 Hcn]
    · ipureintro; exact inv_zero (F := F) _ _ _ _ _ (fun v => hz v (lt_of_lt_of_le v.isLt (le_of_eq (congrArg (16 * ·) trips1.symm))))
    isplitl [Hb2]; · iexact Hb2
    isplitl [Hb3]; · iexact Hb3
    iexact Hcn
  iintro %_ HI
  unfold rowInv
  icases HI with ⟨Hb0, Hb1, %ov0, %oi0, %cnt0, %hI0, Hb2, Hb3, Hb4⟩
  sl_exec
  ihave Hb0 := (Entails.of_eq (pts_filled d L cc1_scratch0 _ _)) $$ Hb0
  ihave Hb1 := (Entails.of_eq (pts_filled d L cc1_scratch1 _ _)) $$ Hb1
  sl_for (fun k _ => zeroInv d L k) $$ [Hb4]
  case region => exact fun k a => clear3 d L k a _ _ _ _ _ _ _ _ _ _ _ _ _ _ _ _ _
  · unfold zeroInv; iexists cnt0; isplitr; · ipureintro; exact fun v hv => absurd hv (by omega)
    iexact Hb4
  iintro %_ HI
  unfold zeroInv
  icases HI with ⟨%cnt', %hz', Hcn⟩
  sl_for (fun k _ => rowInv d L ((rRk1 L).view.read (Elt F) fr) ((rSc1 L).view.read (Elt F) fs) k) $$ [Hb0 Hb1 Hb2 Hb3 Hcn]
  case region => exact fun k a => trip d L _ _ hr1 k a _ _ _ _ _ _ _ _ _ _ _ _ _ _ _ _
  · unfold rowInv
    isplitl [Hb0]; · iexact Hb0
    isplitl [Hb1]; · iexact Hb1
    iexists ov0, oi0, cnt'
    isplitr [Hb2 Hb3 Hcn]
    · ipureintro; exact inv_zero (F := F) _ _ _ _ _ (fun v => hz' v (lt_of_lt_of_le v.isLt (le_of_eq (congrArg (16 * ·) trips3.symm))))
    isplitl [Hb2]; · iexact Hb2
    isplitl [Hb3]; · iexact Hb3
    iexact Hcn
  iintro %_ HI
  unfold rowInv
  icases HI with ⟨Hb0, Hb1, %ov1, %oi1, %cnt1, %hI1, Hb2, Hb3, Hb4⟩
  sl_exec
  sl_step
  have hS0 := inv_end (F := F) (by rw [show Scf.trips k1_t2_loop.lb k1_t2_loop.ub k1_t2_loop.st = 128 from trips2] at hI0; exact hI0)
  have hS1 := inv_end (F := F) (by rw [show Scf.trips k1_t4_loop.lb k1_t4_loop.ub k1_t4_loop.st = 128 from trips4] at hI1; exact hI1)
  have hR0 := scattered_row (F := F) (read_rRk0 (F := F) L fr) (read_rSc0 (F := F) L fs) (hr _) hS0
  have hR1 := scattered_row (F := F) (read_rRk1 (F := F) L fr) (read_rSc1 (F := F) L fs) (hr _) hS1
  isplitl [HSc0 HRk0 HOv0 HOi0]
  · isplitl [HSc0]; · iexact HSc0
    isplitl [HRk0]; · iexact HRk0
    isplitl [HOv0]
    · iapply (Entails.of_eq (rowPts_filled d L (rOv0 L) _ (valsOf fs fr) ov0 fun k => (hR0 k).1.trans (read_rOv0 (F := F) L _ k).symm)); iexact HOv0
    · iapply (Entails.of_eq (rowPts_filled d L (rOi0 L) _ (idxOf fr) oi0 fun k => (hR0 k).2.trans (read_rOi0 (F := F) L _ k).symm)); iexact HOi0
  isplitl [HSc1 HRk1 HOv1 HOi1]
  · isplitl [HSc1]; · iexact HSc1
    isplitl [HRk1]; · iexact HRk1
    isplitl [HOv1]
    · iapply (Entails.of_eq (rowPts_filled d L (rOv1 L) _ (valsOf fs fr) ov1 fun k => (hR1 k).1.trans (read_rOv1 (F := F) L _ k).symm)); iexact HOv1
    · iapply (Entails.of_eq (rowPts_filled d L (rOi1 L) _ (idxOf fr) oi1 fun k => (hR1 k).2.trans (read_rOi1 (F := F) L _ k).symm)); iexact HOi1
  isplitl [Hb0 Hb1 Hb2 Hb3 Hb4]
  · isplitl [Hb0]; · iexists _; iexact Hb0
    isplitl [Hb1]; · iexists _; iexact Hb1
    isplitl [Hb2]; · iexists _; iexact Hb2
    isplitl [Hb3]; · iexists _; iexact Hb3
    iexists _; iexact Hb4
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  iexists _
  isplitr [HO]
  rotate_left
  · iexact HO
  · ipureintro
    iterate 8 refine fresh_insert ?_
    exact fun p hp => .inl hp

end Tile

end Cert.Proof.Whole

end
-- ==== Proof.Deal.lean ====
/-
  The call of the scatter: its arrays dealt row by row to the tasks, the tasks run, the rows joined again.
-/
module

public import proofs.«01_k».proof.Proof.Tasks
public import Idealize.ShloMosaic.Lib.Pipeline.Kit

@[expose] public section

noncomputable section

namespace Cert.Proof.Whole

open Cert.KernelIdeal Cert.KernelIdeal.Gen Cert.Counting

open Idealize.ShloMosaic
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sSc" => (Memref.whole Cert.KernelIdeal.cc1_scratch0 : Memref Cert.KernelIdeal.sig Kind.scVector Space.vmem Cert.KernelIdeal.S2048 EltTy.f32)
local notation "sRk" => (Memref.whole Cert.KernelIdeal.cc1_scratch1 : Memref Cert.KernelIdeal.sig Kind.scVector Space.vmem Cert.KernelIdeal.S2048 EltTy.i32)
local notation "sOv" => (Memref.whole Cert.KernelIdeal.cc1_scratch2 : Memref Cert.KernelIdeal.sig Kind.scVector Space.vmem Cert.KernelIdeal.S2048 EltTy.f32)
local notation "sOi" => (Memref.whole Cert.KernelIdeal.cc1_scratch3 : Memref Cert.KernelIdeal.sig Kind.scVector Space.vmem Cert.KernelIdeal.S2048 EltTy.i32)
local notation "sCn" => (Memref.whole Cert.KernelIdeal.cc1_scratch4 : Memref Cert.KernelIdeal.sig Kind.scVector Space.vmem Cert.KernelIdeal.S2048 EltTy.i32)
local notation "gSc" => (Memref.whole Cert.KernelIdeal.main_v6_scv : Memref Cert.KernelIdeal.sig Kind.scVector Space.hbm Cert.KernelIdeal.S64x2048 EltTy.f32)
local notation "gRk" => (Memref.whole Cert.KernelIdeal.main_v7_scv : Memref Cert.KernelIdeal.sig Kind.scVector Space.hbm Cert.KernelIdeal.S64x2048 EltTy.i32)
local notation "gOv" => (Memref.whole Cert.KernelIdeal.main_v8_0_scv : Memref Cert.KernelIdeal.sig Kind.scVector Space.hbm Cert.KernelIdeal.S64x2048 EltTy.f32)
local notation "gOi" => (Memref.whole Cert.KernelIdeal.main_v8_1_scv : Memref Cert.KernelIdeal.sig Kind.scVector Space.hbm Cert.KernelIdeal.S64x2048 EltTy.i32)

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Sixteen tiles on each SparseCore. -/
theorem nSub_zero : (K (F := F)).nSub 0 = 16 := rfl
/-- Two SparseCores. -/
theorem nCore_zero : (K (F := F)).nCore 0 = 2 := rfl

/-- The handshakes' part of the launch's resources. -/
abbrev EH : Emb UH (MT nD τ sig (HIx 1) (Elt F) ℕ UU ℕ) := embL

/-! ## The rows of the arrays -/

/-- The four arrays of the call: the scores and their ranks, the values and the indices that the call writes. -/
abbrev sLoc (d : Dev nD) : Loc nD τ sig := (SparseCore.T d).loc main_v6
abbrev kLoc (d : Dev nD) : Loc nD τ sig := (SparseCore.T d).loc main_v7
abbrev vLoc (d : Dev nD) : Loc nD τ sig := (SparseCore.T d).loc main_v8_0
abbrev oLoc (d : Dev nD) : Loc nD τ sig := (SparseCore.T d).loc main_v8_1

/-- The array splits into its 64 rows. -/
theorem hdiv : 64 ∣ S64x2048.size 0 := ⟨1, rfl⟩

/-- The elements of row `i`. -/
abbrev rowSet (i : Fin 64) : Finset S64x2048.Idx := (Rect.part (s := S64x2048) (a₀ := 0) hdiv i).set

/-- The rows are disjoint. -/
theorem rows_disjoint : ∀ i ∈ (Finset.univ : Finset (Fin 64)), ∀ j ∈ (Finset.univ : Finset (Fin 64)), i ≠ j → Disjoint (rowSet i) (rowSet j) :=
  fun _ _ _ _ h => Rect.part_disjoint hdiv h
/-- They are the whole array. -/
theorem rows_cover : (Finset.univ : Finset (Fin 64)).biUnion rowSet = Finset.univ := Rect.biUnion_part hdiv

/-- The row that task `i` of core `c` works on in its turn `r`. -/
def rowIx (c : Fin 2) (i : Fin 16) (r : Fin 2) : Fin 64 := ⟨4 * i.val + 2 * c.val + r.val, by omega⟩

/-- Every row is one task's, in one turn. -/
def rowEquiv : Fin 2 × Fin 16 × Fin 2 ≃ Fin 64 where
  toFun x := rowIx x.1 x.2.1 x.2.2
  invFun n := (⟨n.val / 2 % 2, by omega⟩, ⟨n.val / 4, by omega⟩, ⟨n.val % 2, by omega⟩)
  left_inv := by
    rintro ⟨c, i, r⟩
    refine Prod.ext (Fin.ext ?_) (Prod.ext (Fin.ext ?_) (Fin.ext ?_)) <;> simp only [rowIx] <;> omega
  right_inv := by
    intro n; apply Fin.ext; simp only [rowIx]; omega

/-- What is held of row `i` of the four arrays. -/
abbrev rowFour (d : Dev nD) (i : Fin 64) (fs : Vec F S64x2048 .f32) (fr : IVec S64x2048 32) (fo : Vec F S64x2048 .f32) (fc : IVec S64x2048 32) : sProp 𝕄 :=
  iprop((sLoc d ↦[rowSet i]{fullShare} fs) ∗ (kLoc d ↦[rowSet i]{fullShare} fr) ∗ (vLoc d ↦[rowSet i]{fullShare} fo) ∗ oLoc d ↦[rowSet i]{fullShare} fc)

/-- What is held of a task's two rows. -/
abbrev rowsOf (d : Dev nD) (c : Fin 2) (i : Fin 16) (fs : Vec F S64x2048 .f32) (fr : IVec S64x2048 32) (fo : Vec F S64x2048 .f32) (fc : IVec S64x2048 32) : sProp 𝕄 :=
  iprop(rowFour d (rowIx c i 0) fs fr fo fc ∗ rowFour d (rowIx c i 1) fs fr fo fc)

/-- What is held of the four arrays whole. -/
abbrev wholeFour (d : Dev nD) (fs : Vec F S64x2048 .f32) (fr : IVec S64x2048 32) (fo : Vec F S64x2048 .f32) (fc : IVec S64x2048 32) : sProp 𝕄 :=
  iprop((sLoc d ↦{fullShare} fs) ∗ (kLoc d ↦{fullShare} fr) ∗ (vLoc d ↦{fullShare} fo) ∗ oLoc d ↦{fullShare} fc)

/-- A product over the two SparseCores. -/
theorem bigSep_two (Φ : Fin 2 → sProp 𝕄) : bigSep Finset.univ Φ = iprop(Φ 0 ∗ Φ 1) := BI.bigSep_fin_two Φ

/-- An array held whole is its rows held. -/
theorem sPts_rows (d : Dev nD) (f : Vec F S64x2048 .f32) :
    (sLoc d ↦{fullShare} f : sProp 𝕄) = bigSep Finset.univ fun i : Fin 64 => sLoc d ↦[rowSet i]{fullShare} f := by
  rw [← pointsTo_biUnion Finset.univ (ℓ := sLoc d) rowSet rows_disjoint, rows_cover]; try rfl
/-- The array of ranks is held row by row. -/
theorem kPts_rows (d : Dev nD) (f : IVec S64x2048 32) :
    (kLoc d ↦{fullShare} f : sProp 𝕄) = bigSep Finset.univ fun i : Fin 64 => kLoc d ↦[rowSet i]{fullShare} f := by
  rw [← pointsTo_biUnion Finset.univ (ℓ := kLoc d) rowSet rows_disjoint, rows_cover]; try rfl
/-- So is that of the scores in order. -/
theorem vPts_rows (d : Dev nD) (f : Vec F S64x2048 .f32) :
    (vLoc d ↦{fullShare} f : sProp 𝕄) = bigSep Finset.univ fun i : Fin 64 => vLoc d ↦[rowSet i]{fullShare} f := by
  rw [← pointsTo_biUnion Finset.univ (ℓ := vLoc d) rowSet rows_disjoint, rows_cover]; try rfl
/-- So is that of the elements in order. -/
theorem oPts_rows (d : Dev nD) (f : IVec S64x2048 32) :
    (oLoc d ↦{fullShare} f : sProp 𝕄) = bigSep Finset.univ fun i : Fin 64 => oLoc d ↦[rowSet i]{fullShare} f := by
  rw [← pointsTo_biUnion Finset.univ (ℓ := oLoc d) rowSet rows_disjoint, rows_cover]; try rfl

/-- The four arrays held whole are the tasks' rows held, core by core and task by task. -/
theorem whole_rows (d : Dev nD) (fs : Vec F S64x2048 .f32) (fr : IVec S64x2048 32) (fo : Vec F S64x2048 .f32) (fc : IVec S64x2048 32) :
    (wholeFour d fs fr fo fc : sProp 𝕄)
      = bigSep Finset.univ fun c : Fin 2 => bigSep Finset.univ fun i : Fin 16 => rowsOf d c i fs fr fo fc := by
  have h : (bigSep Finset.univ fun i : Fin 64 => (rowFour d i fs fr fo fc : sProp 𝕄)) = wholeFour d fs fr fo fc := by
    unfold rowFour wholeFour
    rw [bigSep_sep', bigSep_sep', bigSep_sep', sPts_rows, kPts_rows, vPts_rows, oPts_rows]
  rw [← h, BI.bigSep_univ_equiv rowEquiv, BI.bigSep_univ_prod]
  refine bigSep_congr fun c _ => ?_
  rw [BI.bigSep_univ_prod]
  exact bigSep_congr fun i _ => bigSep_two _

/-! ## What the handshakes carry -/

variable (fs : Dev nD → Vec F S64x2048 .f32) (fr : Dev nD → IVec S64x2048 32) (fo : Dev nD → Vec F S64x2048 .f32) (fc : Dev nD → IVec S64x2048 32)

/-- The call takes the four arrays, each core its tasks' rows and each task its two, and brings them back with the
    values and the indices in the order of the ranks. -/
def P : (K (F := F)).Pay (nD := nD) (Val := Elt F) (Name := ℕ) (U := UU) where
  st := fun q d c => match q with | 0 => bigSep Finset.univ fun i : Fin 16 => rowsOf d (Fin.cast nCore_zero c) i (fs d) (fr d) (fo d) (fc d)
  dn := fun q d c => match q with | 0 => bigSep Finset.univ fun i : Fin 16 => rowsOf d (Fin.cast nCore_zero c) i (fs d) (fr d) (valsOf (fs d) (fr d)) (idxOf (fr d))
  go := fun q d c i => match q with | 0 => rowsOf d (Fin.cast nCore_zero c) (Fin.cast nSub_zero i) (fs d) (fr d) (fo d) (fc d)
  td := fun q d c i => match q with | 0 => rowsOf d (Fin.cast nCore_zero c) (Fin.cast nSub_zero i) (fs d) (fr d) (valsOf (fs d) (fr d)) (idxOf (fr d))
  x := fun _ _ => iprop(emp)

instance P_storable : (P (F := F) fs fr fo fc).IsStorable where
  st q d c := match q with
    | 0 => (inferInstance : BI.Storable (upEmb : UEmb _ 𝕄) (bigSep Finset.univ fun i : Fin 16 => rowsOf d (Fin.cast nCore_zero c) i (fs d) (fr d) (fo d) (fc d)))
  dn q d c := match q with
    | 0 => (inferInstance : BI.Storable (upEmb : UEmb _ 𝕄)
        (bigSep Finset.univ fun i : Fin 16 => rowsOf d (Fin.cast nCore_zero c) i (fs d) (fr d) (valsOf (fs d) (fr d)) (idxOf (fr d))))
  go q d c i := match q with
    | 0 => (inferInstance : BI.Storable (upEmb : UEmb _ 𝕄) (rowsOf d (Fin.cast nCore_zero c) (Fin.cast nSub_zero i) (fs d) (fr d) (fo d) (fc d)))
  td q d c i := match q with
    | 0 => (inferInstance : BI.Storable (upEmb : UEmb _ 𝕄)
        (rowsOf d (Fin.cast nCore_zero c) (Fin.cast nSub_zero i) (fs d) (fr d) (valsOf (fs d) (fr d)) (idxOf (fr d))))

/-! ## A task's own buffers and counters -/

section Own

variable (d : Dev nD) (L : grid1.Coords)

/-- The counters of the task's eight copies are among its own. -/
theorem ownSems0_V :
    (ownSems0 (thr d L) : sProp 𝕄)
      = iprop(semVal (cell d L cc1_scoped0) 0 ∗ semVal (cell d L cc1_scoped1) 0 ∗ semVal (cell d L cc1_scoped2) 0 ∗ semVal (cell d L cc1_scoped3) 0
          ∗ semVal (cell d L cc1_scoped4) 0 ∗ semVal (cell d L cc1_scoped5) 0 ∗ semVal (cell d L cc1_scoped6) 0 ∗ semVal (cell d L cc1_scoped7) 0
          ∗ bigSep (((((((((ownCells (thr d L)).erase (cell d L cc1_scoped0)).erase (cell d L cc1_scoped1)).erase (cell d L cc1_scoped2)).erase (cell d L cc1_scoped3)).erase
              (cell d L cc1_scoped4)).erase (cell d L cc1_scoped5)).erase (cell d L cc1_scoped6)).erase (cell d L cc1_scoped7)) fun g => semVal g 0) := by
  have hm : ∀ s : DmaSems sig S_, (SemLoc.dma s.sem : SemLoc sig).isScoped .scVector = true → cell d L s ∈ ownCells (thr d L) :=
    fun s hs => (mem_ownCells (g := cell d L s)).mpr ⟨rfl, hs⟩
  have hn : ∀ s t : DmaSems sig S_, s.sem ≠ t.sem → cell d L s ≠ cell d L t := fun s t h e => h (by
    have := (Prod.mk.inj e).2; exact SemLoc.dma.inj this)
  unfold SparseCore.Cfg.ownSems0
  rw [SparseCore.bigSep_erase' (hm cc1_scoped0 (by decide)),
    SparseCore.bigSep_erase' (i := cell d L cc1_scoped1) (by
      repeat' refine Finset.mem_erase.mpr ⟨hn _ _ (by decide), ?_⟩
      exact hm _ (by decide)),
    SparseCore.bigSep_erase' (i := cell d L cc1_scoped2) (by
      repeat' refine Finset.mem_erase.mpr ⟨hn _ _ (by decide), ?_⟩
      exact hm _ (by decide)),
    SparseCore.bigSep_erase' (i := cell d L cc1_scoped3) (by
      repeat' refine Finset.mem_erase.mpr ⟨hn _ _ (by decide), ?_⟩
      exact hm _ (by decide)),
    SparseCore.bigSep_erase' (i := cell d L cc1_scoped4) (by
      repeat' refine Finset.mem_erase.mpr ⟨hn _ _ (by decide), ?_⟩
      exact hm _ (by decide)),
    SparseCore.bigSep_erase' (i := cell d L cc1_scoped5) (by
      repeat' refine Finset.mem_erase.mpr ⟨hn _ _ (by decide), ?_⟩
      exact hm _ (by decide)),
    SparseCore.bigSep_erase' (i := cell d L cc1_scoped6) (by
      repeat' refine Finset.mem_erase.mpr ⟨hn _ _ (by decide), ?_⟩
      exact hm _ (by decide)),
    SparseCore.bigSep_erase' (i := cell d L cc1_scoped7) (by
      repeat' refine Finset.mem_erase.mpr ⟨hn _ _ (by decide), ?_⟩
      exact hm _ (by decide))]

/-- One of the task's buffers, as the device names it. -/
abbrev bufOf (b : Ref sig .scVector) : DevRef τ sig := (Proc.scVector (cV L) (jV L)).devRef b

/-- The task's five buffers are among its own. -/
theorem ownBufs_V :
    (ownBufs (thr d L) : sProp 𝕄)
      = iprop(someBuf (F := F) d L cc1_scratch0 ∗ someBuf (F := F) d L cc1_scratch1 ∗ someBuf (F := F) d L cc1_scratch2 ∗ someBuf (F := F) d L cc1_scratch3
          ∗ someBuf (F := F) d L cc1_scratch4
          ∗ bigSep ((((((ownRefs (τ := τ) (.scVector (cV L) (jV L))).erase (bufOf L cc1_scratch0)).erase (bufOf L cc1_scratch1)).erase (bufOf L cc1_scratch2)).erase
              (bufOf L cc1_scratch3)).erase (bufOf L cc1_scratch4)) fun b => iprop(∃ f, ((d, b) : Loc nD τ sig) ↦{fullShare} f)) := by
  have hn : ∀ b b' : Ref sig .scVector, b ≠ b' → bufOf L b ≠ bufOf L b' := fun b b' h e => h (Proc.devRef_injective _ e)
  unfold SparseCore.Cfg.ownBufs
  refine (SparseCore.bigSep_erase' (SparseCore.Cfg.mem_ownRefs_of_owner (p := Proc.scVector (cV L) (jV L)) (b := bufOf L cc1_scratch0) rfl)).trans ?_
  rw [SparseCore.bigSep_erase' (i := bufOf L cc1_scratch1) (by
      repeat' refine Finset.mem_erase.mpr ⟨hn _ _ (by decide), ?_⟩
      exact SparseCore.Cfg.mem_ownRefs_of_owner (p := Proc.scVector (cV L) (jV L)) rfl),
    SparseCore.bigSep_erase' (i := bufOf L cc1_scratch2) (by
      repeat' refine Finset.mem_erase.mpr ⟨hn _ _ (by decide), ?_⟩
      exact SparseCore.Cfg.mem_ownRefs_of_owner (p := Proc.scVector (cV L) (jV L)) rfl),
    SparseCore.bigSep_erase' (i := bufOf L cc1_scratch3) (by
      repeat' refine Finset.mem_erase.mpr ⟨hn _ _ (by decide), ?_⟩
      exact SparseCore.Cfg.mem_ownRefs_of_owner (p := Proc.scVector (cV L) (jV L)) rfl),
    SparseCore.bigSep_erase' (i := bufOf L cc1_scratch4) (by
      repeat' refine Finset.mem_erase.mpr ⟨hn _ _ (by decide), ?_⟩
      exact SparseCore.Cfg.mem_ownRefs_of_owner (p := Proc.scVector (cV L) (jV L)) rfl)]

/-! ## A task's rows are rows of the arrays -/

/-- The rectangle that a task slices is a row. -/
theorem row_rect (off : Fin S64x2048.rank → ℕ) (inb : ∀ a, off a + S1x2048.size a ≤ S64x2048.size a) (i : Fin 64) (ho : off = ![i.val, 0]) :
    Rect.unit (s := S64x2048) off S1x2048.size inb = Rect.part (s := S64x2048) (a₀ := 0) hdiv i := by
  subst ho
  unfold Rect.part Rect.block
  congr 1 <;> funext a
  · match a with
    | 0 => simp [Shape.partIx, Shape.partSize]
    | 1 => simp [Shape.partIx, Shape.partSize]
  · match a with
    | 0 => simp [Shape.partSize]
    | 1 => simp [Shape.partSize]

/-- A row's memref holds that row of the array. -/
theorem pts_rSc0 (f : Vec F S64x2048 .f32) : (rowPts d L (rSc0 L) f : sProp 𝕄) = sLoc d ↦[rowSet (rowOf L 0)]{fullShare} f := by
  have e : (rSc0 L).view.set = rowSet (rowOf L 0) := by
    show (((gSc).view.slice (Rect.unit (s := S64x2048) (k1_off1 L 0#32) S1x2048.size (k1_off1_inb L 0))).reshape S2048 squeezes_S1x2048_S2048.numel_eq).set = _
    rw [View.set_reshape, View.set_slice]
    exact Finset.map_refl.trans (congrArg (fun q : Rect S64x2048 => q.set) (row_rect (k1_off1 L 0#32) (k1_off1_inb L 0) (rowOf L 0) (k1_off1_eq L 0)))
  show ((rSc0 L).view.loc (thr d L) ↦[(rSc0 L).view.set]{fullShare} f : sProp 𝕄) = _
  rw [e]
/-- A row's memref holds that row of the array. -/
theorem pts_rSc1 (f : Vec F S64x2048 .f32) : (rowPts d L (rSc1 L) f : sProp 𝕄) = sLoc d ↦[rowSet (rowOf L 1)]{fullShare} f := by
  have e : (rSc1 L).view.set = rowSet (rowOf L 1) := by
    show (((gSc).view.slice (Rect.unit (s := S64x2048) (k1_off1 L 1#32) S1x2048.size (k1_off1_inb L 1))).reshape S2048 squeezes_S1x2048_S2048.numel_eq).set = _
    rw [View.set_reshape, View.set_slice]
    exact Finset.map_refl.trans (congrArg (fun q : Rect S64x2048 => q.set) (row_rect (k1_off1 L 1#32) (k1_off1_inb L 1) (rowOf L 1) (k1_off1_eq L 1)))
  show ((rSc1 L).view.loc (thr d L) ↦[(rSc1 L).view.set]{fullShare} f : sProp 𝕄) = _
  rw [e]
/-- A row's memref holds that row of the array. -/
theorem pts_rRk0 (f : IVec S64x2048 32) : (rowPts d L (rRk0 L) f : sProp 𝕄) = kLoc d ↦[rowSet (rowOf L 0)]{fullShare} f := by
  have e : (rRk0 L).view.set = rowSet (rowOf L 0) := by
    show (((gRk).view.slice (Rect.unit (s := S64x2048) (k1_off1 L 0#32) S1x2048.size (k1_off1_inb L 0))).reshape S2048 squeezes_S1x2048_S2048.numel_eq).set = _
    rw [View.set_reshape, View.set_slice]
    exact Finset.map_refl.trans (congrArg (fun q : Rect S64x2048 => q.set) (row_rect (k1_off1 L 0#32) (k1_off1_inb L 0) (rowOf L 0) (k1_off1_eq L 0)))
  show ((rRk0 L).view.loc (thr d L) ↦[(rRk0 L).view.set]{fullShare} f : sProp 𝕄) = _
  rw [e]
/-- A row's memref holds that row of the array. -/
theorem pts_rRk1 (f : IVec S64x2048 32) : (rowPts d L (rRk1 L) f : sProp 𝕄) = kLoc d ↦[rowSet (rowOf L 1)]{fullShare} f := by
  have e : (rRk1 L).view.set = rowSet (rowOf L 1) := by
    show (((gRk).view.slice (Rect.unit (s := S64x2048) (k1_off1 L 1#32) S1x2048.size (k1_off1_inb L 1))).reshape S2048 squeezes_S1x2048_S2048.numel_eq).set = _
    rw [View.set_reshape, View.set_slice]
    exact Finset.map_refl.trans (congrArg (fun q : Rect S64x2048 => q.set) (row_rect (k1_off1 L 1#32) (k1_off1_inb L 1) (rowOf L 1) (k1_off1_eq L 1)))
  show ((rRk1 L).view.loc (thr d L) ↦[(rRk1 L).view.set]{fullShare} f : sProp 𝕄) = _
  rw [e]
/-- A row's memref holds that row of the array. -/
theorem pts_rOv0 (f : Vec F S64x2048 .f32) : (rowPts d L (rOv0 L) f : sProp 𝕄) = vLoc d ↦[rowSet (rowOf L 0)]{fullShare} f := by
  have e : (rOv0 L).view.set = rowSet (rowOf L 0) := by
    show (((gOv).view.slice (Rect.unit (s := S64x2048) (k1_off1 L 0#32) S1x2048.size (k1_off1_inb L 0))).reshape S2048 squeezes_S1x2048_S2048.numel_eq).set = _
    rw [View.set_reshape, View.set_slice]
    exact Finset.map_refl.trans (congrArg (fun q : Rect S64x2048 => q.set) (row_rect (k1_off1 L 0#32) (k1_off1_inb L 0) (rowOf L 0) (k1_off1_eq L 0)))
  show ((rOv0 L).view.loc (thr d L) ↦[(rOv0 L).view.set]{fullShare} f : sProp 𝕄) = _
  rw [e]
/-- A row's memref holds that row of the array. -/
theorem pts_rOv1 (f : Vec F S64x2048 .f32) : (rowPts d L (rOv1 L) f : sProp 𝕄) = vLoc d ↦[rowSet (rowOf L 1)]{fullShare} f := by
  have e : (rOv1 L).view.set = rowSet (rowOf L 1) := by
    show (((gOv).view.slice (Rect.unit (s := S64x2048) (k1_off1 L 1#32) S1x2048.size (k1_off1_inb L 1))).reshape S2048 squeezes_S1x2048_S2048.numel_eq).set = _
    rw [View.set_reshape, View.set_slice]
    exact Finset.map_refl.trans (congrArg (fun q : Rect S64x2048 => q.set) (row_rect (k1_off1 L 1#32) (k1_off1_inb L 1) (rowOf L 1) (k1_off1_eq L 1)))
  show ((rOv1 L).view.loc (thr d L) ↦[(rOv1 L).view.set]{fullShare} f : sProp 𝕄) = _
  rw [e]
/-- A row's memref holds that row of the array. -/
theorem pts_rOi0 (f : IVec S64x2048 32) : (rowPts d L (rOi0 L) f : sProp 𝕄) = oLoc d ↦[rowSet (rowOf L 0)]{fullShare} f := by
  have e : (rOi0 L).view.set = rowSet (rowOf L 0) := by
    show (((gOi).view.slice (Rect.unit (s := S64x2048) (k1_off1 L 0#32) S1x2048.size (k1_off1_inb L 0))).reshape S2048 squeezes_S1x2048_S2048.numel_eq).set = _
    rw [View.set_reshape, View.set_slice]
    exact Finset.map_refl.trans (congrArg (fun q : Rect S64x2048 => q.set) (row_rect (k1_off1 L 0#32) (k1_off1_inb L 0) (rowOf L 0) (k1_off1_eq L 0)))
  show ((rOi0 L).view.loc (thr d L) ↦[(rOi0 L).view.set]{fullShare} f : sProp 𝕄) = _
  rw [e]
/-- A row's memref holds that row of the array. -/
theorem pts_rOi1 (f : IVec S64x2048 32) : (rowPts d L (rOi1 L) f : sProp 𝕄) = oLoc d ↦[rowSet (rowOf L 1)]{fullShare} f := by
  have e : (rOi1 L).view.set = rowSet (rowOf L 1) := by
    show (((gOi).view.slice (Rect.unit (s := S64x2048) (k1_off1 L 1#32) S1x2048.size (k1_off1_inb L 1))).reshape S2048 squeezes_S1x2048_S2048.numel_eq).set = _
    rw [View.set_reshape, View.set_slice]
    exact Finset.map_refl.trans (congrArg (fun q : Rect S64x2048 => q.set) (row_rect (k1_off1 L 1#32) (k1_off1_inb L 1) (rowOf L 1) (k1_off1_eq L 1)))
  show ((rOi1 L).view.loc (thr d L) ↦[(rOi1 L).view.set]{fullShare} f : sProp 𝕄) = _
  rw [e]

variable [FloatOps F]

/-- A tile's task, as the launch asks for it. -/
theorem tile_body (hr : ∀ i, IsRanking (ranksOf (fr d) i)) (O : CellTallies nD τ sig (HIx 1)) (W : Waits sig (HIx 1)) (hO : ∀ g, O g none = 0)
    (c : Fin 2) (i : Fin 16) (h0 : ∀ r, rowOf L r = rowIx c i r) :
    iprop(levAts (K (F := F)).L (K (F := F)).lev ∗ emp ∗ rowsOf d c i (fs d) (fr d) (fo d) (fc d)
        ∗ scopedBufs (thr d L) ∗ scopedSems0 (thr d L) ∗ owes (thr d L) O W)
      ⊢ wp frame (wpE (defs₀ (F := F)) 𝒱₀ (thr d L) none) Set.univ
          (cc1__scatter_body L gSc (Memref.isWhole_whole _) gRk (Memref.isWhole_whole _) gOv (Memref.isWhole_whole _) gOi (Memref.isWhole_whole _)
            sSc (Memref.isWhole_whole _) sRk (Memref.isWhole_whole _) sOv (Memref.isWhole_whole _)
            sOi (Memref.isWhole_whole _) sCn (Memref.isWhole_whole _) cc1_scoped0 cc1_scoped1 cc1_scoped2 cc1_scoped3 cc1_scoped4 cc1_scoped5 cc1_scoped6 cc1_scoped7)
          fun _ => iprop(rowsOf d c i (fs d) (fr d) (valsOf (fs d) (fr d)) (idxOf (fr d)) ∗ scopedBufs (thr d L) ∗ scopedSems0 (thr d L)
            ∗ ∃ W', ⌜∀ p ∈ W', p ∈ W ∨ p.2 = none ∨ p.2 = some (0 : Fin 1)⌝ ∗ owes (thr d L) O W') := by
  have hcore := tile_core d L O W (fs d) (fr d) (fo d) (fo d) (fc d) (fc d) hr
  simp only [pts_rSc0, pts_rRk0, pts_rOv0, pts_rOi0, pts_rSc1, pts_rRk1, pts_rOv1, pts_rOi1, h0] at hcore
  rw [(K (F := F)).scopedBufs_V facts d (cV L) (jV L), SparseCore.Cfg.scopedSems0_V (Val := Elt F) d (cV L) (jV L), ownSems0_V, ownBufs_V]
  iintro ⟨#Hlv, -, ⟨Hr0, Hr1⟩, ⟨Hb0, Hb1, Hb2, Hb3, Hb4, Hbufs⟩, ⟨Hq0, Hq1, Hq2, Hq3, Hq4, Hq5, Hq6, Hq7, Hsems⟩, HO⟩
  ihave Hmw := ((K (F := F)).mayWaits_none (thr := thr d L) hO) $$ Hlv
  ihave Hw := hcore $$ [Hmw Hr0 Hr1 Hb0 Hb1 Hb2 Hb3 Hb4 Hq0 Hq1 Hq2 Hq3 Hq4 Hq5 Hq6 Hq7 HO]
  · isplitl [Hmw]; · iexact Hmw
    isplitl [Hr0]; · iexact Hr0
    isplitl [Hr1]; · iexact Hr1
    isplitl [Hb0 Hb1 Hb2 Hb3 Hb4]
    · isplitl [Hb0]; · iexact Hb0
      isplitl [Hb1]; · iexact Hb1
      isplitl [Hb2]; · iexact Hb2
      isplitl [Hb3]; · iexact Hb3
      iexact Hb4
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    iexact HO
  iapply (wp_wand frame _ _) $$ Hw
  iintro %_ ⟨Hr0, Hr1, ⟨Hb0, Hb1, Hb2, Hb3, Hb4⟩, ⟨Hq0, Hq1, Hq2, Hq3, Hq4, Hq5, Hq6, Hq7⟩, %W', %hW', HO⟩
  isplitl [Hr0 Hr1]
  · isplitl [Hr0]; · iexact Hr0
    iexact Hr1
  isplitl [Hb0 Hb1 Hb2 Hb3 Hb4 Hbufs]
  · isplitl [Hb0]; · iexact Hb0
    isplitl [Hb1]; · iexact Hb1
    isplitl [Hb2]; · iexact Hb2
    isplitl [Hb3]; · iexact Hb3
    isplitl [Hb4]; · iexact Hb4
    iexact Hbufs
  isplitl [Hq0 Hq1 Hq2 Hq3 Hq4 Hq5 Hq6 Hq7 Hsems]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hsems
  iexists W'; isplitr
  · ipureintro; exact fun p hp => (hW' p hp).imp_right Or.inl
  iexact HO

end Own

/-! ## The launch theorem's obligations -/

variable [FloatOps F]

/-- A task's place on the grid. -/
def coordsV (c : Fin (grid1.bound 0)) (s : Fin (grid1.bound 1)) : grid1.Coords :=
  fun | 0 => c | 1 => s | ⟨_ + 2, h⟩ => absurd h (Nat.not_lt.2 (Nat.le_add_left _ _))

/-- The task that a tile runs. -/
theorem defs₀_vector (c : Fin τ.nSC) (s : Fin τ.nSub) :
    defs₀ (F := F) (.scVector c s) 1 ()
      = SparseCore.onTile hcore1 hsub1 (fun c s => cc1__scatter_body (coordsV c s)
          gSc (Memref.isWhole_whole _) gRk (Memref.isWhole_whole _) gOv (Memref.isWhole_whole _) gOi (Memref.isWhole_whole _)
          sSc (Memref.isWhole_whole _) sRk (Memref.isWhole_whole _) sOv (Memref.isWhole_whole _)
          sOi (Memref.isWhole_whole _) sCn (Memref.isWhole_whole _) cc1_scoped0 cc1_scoped1 cc1_scoped2 cc1_scoped3 cc1_scoped4 cc1_scoped5 cc1_scoped6 cc1_scoped7) ⟨⟩ c s := rfl

/-- Every task does its rows, whenever each row's ranks are a ranking. -/
theorem tileObl (hr : ∀ d i, IsRanking (ranksOf (fr d) i)) : (K (F := F)).TileObl (D (F := F)) 𝒱 (P fs fr fo fc) v₀ 0 := by
  intro d c i O W hO _ _
  simp only [show (P fs fr fo fc).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact tile_body fs fr fo fc d (coordsV ⟨_, hc.1⟩ ⟨_, hc.2⟩) (hr d) O W hO (Fin.cast nCore_zero c) (Fin.cast nSub_zero i) (fun _ => rfl)

/-- The operands split among the tiles, and their results join. -/
theorem vecSplit : (K (F := F)).VecSplit' (P fs fr fo fc) 0 := by
  intro d c
  show (bigSep Finset.univ fun i : Fin 16 => rowsOf d (Fin.cast nCore_zero c) i (fs d) (fr d) (fo d) (fc d)) ⊢ |={Set.univ}=> iprop(
    (bigSep Finset.univ fun i : Fin 16 => rowsOf d (Fin.cast nCore_zero c) i (fs d) (fr d) (fo d) (fc d))
    ∗ ((bigSep Finset.univ fun i : Fin 16 => rowsOf d (Fin.cast nCore_zero c) i (fs d) (fr d) (valsOf (fs d) (fr d)) (idxOf (fr d)))
      -∗ (bigSep Finset.univ fun i : Fin 16 => rowsOf d (Fin.cast nCore_zero c) i (fs d) (fr d) (valsOf (fs d) (fr d)) (idxOf (fr d)))))
  iintro H; imodintro
  isplitl [H]; · iexact H
  iintro H; iexact H

/-! ## The launch's resources -/

/-- The pipelines' part of the launch's resources. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

/-- A product of nothing is nothing. -/
theorem bigSep_none {I : Type} (s : Finset I) : (bigSep s fun _ => iprop(emp)) = (iprop(emp) : sProp 𝕄) := bigSep_emp_const s

/-- What the call takes, over the cores, is the four arrays whole. -/
theorem st0_eq (d : Dev nD) : (bigSep Finset.univ fun c : Fin ((K (F := F)).nCore 0) => (P fs fr fo fc).st 0 d c) = wholeFour d (fs d) (fr d) (fo d) (fc d) :=
  (whole_rows d (fs d) (fr d) (fo d) (fc d)).symm
/-- What all the tiles hand back. -/
theorem dn0_eq (d : Dev nD) : (bigSep Finset.univ fun c : Fin ((K (F := F)).nCore 0) => (P fs fr fo fc).dn 0 d c)
    = wholeFour d (fs d) (fr d) (valsOf (fs d) (fr d)) (idxOf (fr d)) :=
  (whole_rows d (fs d) (fr d) (valsOf (fs d) (fr d)) (idxOf (fr d))).symm

end Cert.Proof.Whole

end
-- ==== Proof.Scores.lean ====
/-
  The first call of the kernel: the scores of a row and the number of scores above each.
-/
module

public import proofs.«01_k».proof.Proof.Deal
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionArraysS
public import Idealize.ShloMosaic.Lib.Ring
public import Idealize.ShloMosaic.Lib.WritesUnit

@[expose] public section

set_option maxRecDepth 16384

noncomputable section

namespace Cert.Proof.Whole

open Cert.KernelIdeal Cert.KernelIdeal.Gen Cert.Counting

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-! ## Counting the scores above a threshold -/

/-- Which of sixteen rows of scores lie above the thresholds of their columns. -/
def hits (th : FVec F S1x128 .f32) (v : Vec F S16x128 .f32) : IVec S16x128 32 :=
  extui 32 (cmpf .ogt v (broadcastTo S16x128 th broadcasts_S1x128_S16x128)) natLt_1_32

/-- A chunk lies within the scores. -/
theorem chunk_inb (c : ℕ) (h : c < 128) : ∀ a : Fin 2, (![16 * c, 0] : Fin 2 → ℕ) a + S16x128.size a ≤ S2048x128.size a := by
  intro a
  fin_cases a
  · show 16 * c + 16 ≤ 2048; omega
  · show 0 + 128 ≤ 128; omega

/-- Sixteen rows of the scores, the `c`-th such. -/
def chunk (rep : Vec F S2048x128 .f32) (c : ℕ) : Vec F S16x128 .f32 :=
  if h : c < 128 then View.ld rep (Rect.unit (s := S2048x128) ![16 * c, 0] S16x128.size (chunk_inb c h)) else fun y => rep (fun a => ⟨(y a).val, by
    have := (y a).isLt
    revert this
    fin_cases a
    · show _ < 16 → _ < 2048; omega
    · show _ < 128 → _ < 128; omega⟩)

/-- The running count of accumulator `j` after `n` rounds, four accumulators taking turns. -/
def tally (th : FVec F S1x128 .f32) (rep : Vec F S2048x128 .f32) (j : ℕ) : ℕ → IVec S16x128 32
  | 0 => broadcast S16x128 0#32
  | n + 1 => addi (tally th rep j n) (hits th (chunk rep (4 * n + j)))

/-- A row of ranks: the counts of all the rows, added. -/
def rankRow (th : FVec F S1x128 .f32) (rep : Vec F S2048x128 .f32) : IVec S1x1x128 32 :=
  shapeCast S1x1x128 (shapeCast S1x128 (multiReductionI .add [0] S128
    (addi (addi (addi (tally th rep 0 32) (tally th rep 1 32)) (tally th rep 2 32)) (tally th rep 3 32)) 0#32 reduces_S16x128_S128 rfl)
    shapeCasts_S128_S1x128) shapeCasts_S1x128_S1x1x128

set_option maxHeartbeats 4000000 in
/-- A trip of the counting loop writes its row of ranks. -/
theorem scoreTrip (c : Dev nD) (E : Set ℕ) (i : grid0.Coords) (arg1 : Memref sig .tc .vmem S1x2048x128 .f32) (harg1 : arg1.IsWhole) (arg2 : Memref sig .tc .vmem S1x128 .f32) (harg2 : arg2.IsWhole) (arg3 : Memref sig .tc .vmem S128x128 .f32) (harg3 : arg3.IsWhole) (arg4 : Memref sig .tc .smem S1x1 .f32) (harg4 : arg4.IsWhole) (arg5 : Memref sig .tc .vmem S1x1x2048 .f32) (harg5 : arg5.IsWhole) (arg6 : Memref sig .tc .vmem S1x1x2048 .i32) (harg6 : arg6.IsWhole) (arg7 : Memref sig .tc .vmem S2048x128 .f32) (harg7 : arg7.IsWhole) (arg8 : Memref sig .tc .vmem S16x1x128 .f32) (harg8 : arg8.IsWhole) (arg9 : Memref sig .tc .vmem S16x1x128 .i32) (harg9 : arg9.IsWhole) (v8 : FVec F S1x2048 .f32) (v58 : FVec F S1x128 .f32)
    (X7 : BufTy.Contents (Elt F) arg7.view.ty) (X8 : BufTy.Contents (Elt F) arg8.view.ty) (k : Fin k0_t1_loop.trips) (f : BufTy.Contents (Elt F) arg9.view.ty) :
    iprop((arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f))
      ⊢ (wp frame (wpE (defs₀ (F := F)) 𝒱₀ (c : Thread nD τ) none) E (k0_t1_body (F := F) i arg1 harg1 arg2 harg2 arg3 harg3 arg4 harg4 arg5 harg5 arg6 harg6 arg7 harg7 arg8 harg8 arg9 harg9 v8 v58 k PUnit.unit)
        (fun _ => iprop((arg7.view.loc (c : Thread nD τ) ↦[arg7.view.set]{fullShare} X7) ∗ (arg8.view.loc (c : Thread nD τ) ↦[arg8.view.set]{fullShare} X8)
          ∗ (arg9.view.loc (c : Thread nD τ) ↦[arg9.view.set]{fullShare} arg9.view.writes (Elt F) f [⟨Rect.unit (s := S16x1x128) (k0_off1 k) S1x1x128.size (k0_off1_inb k), rankRow (k0_pay2 (View.readAt (Elt F) arg8.view (Rect.unit (s := S16x1x128) (k0_off1 k) S1x1x128.size (k0_off1_inb k)).toLoadRect X8)) (arg7.view.read (Elt F) X7)⟩]))) : sProp 𝕄) := by
  have hk : k.val < 16 := Nat.lt_of_lt_of_le k.isLt k0_t1_abs.2.1
  unfold k0_t1_body
  iintro ⟨H7, H8, H9⟩
  sl_exec
  sl_step
  isplitl [H7]; · iexact H7
  isplitl [H8]; · iexact H8
  iexact H9

/-- All the rows of ranks. -/
def rankAll (th : Vec F S16x1x128 .f32) (rep : Vec F S2048x128 .f32) : Vec F S16x1x128 .i32 := fun y =>
  rankRow (k0_pay2 (View.ld th (Rect.unit (s := S16x1x128) (k0_off1 ⟨(y 0).val, (y 0).isLt⟩) S1x1x128.size (k0_off1_inb _)))) rep
    (fun a => ⟨(![0, 0, (y 2).val] : Fin 3 → ℕ) a, by
      have := (y 2).isLt
      revert this
      fin_cases a
      · intro _; show 0 < 1; omega
      · intro _; show 0 < 1; omega
      · exact fun h => h⟩)

/-- Before trip `k` the rows before it hold their ranks. -/
def loopInv0 (c : Dev nD) (arg7 : Memref sig .tc .vmem S2048x128 .f32) (arg8 : Memref sig .tc .vmem S16x1x128 .f32) (arg9 : Memref sig .tc .vmem S16x1x128 .i32)
    (th : Vec F S16x1x128 .f32) (rep : Vec F S2048x128 .f32) (k : ℕ) : sProp 𝕄 :=
  iprop(∃ (g7 : BufTy.Contents (Elt F) arg7.view.ty) (g8 : BufTy.Contents (Elt F) arg8.view.ty) (g9 : BufTy.Contents (Elt F) arg9.view.ty),
    ⌜arg7.view.read (Elt F) g7 = rep ∧ arg8.view.read (Elt F) g8 = th ∧ ∀ y : S16x1x128.Idx, (y 0).val < k → arg9.view.read (Elt F) g9 y = rankAll th rep y⌝
    ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9))

/-! ## The body -/

abbrev rXs : Rect S1x2048x128 := Rect.unit (s := S1x2048x128) ![0, 0, 0] S1x2048x128.size inb_S1x2048x128_S1x2048x128_0_0_0
abbrev rWs : Rect S1x128 := Rect.unit (s := S1x128) ![0, 0] S1x128.size inb_S1x128_S1x128_0_0
abbrev rWr : Rect S128x128 := Rect.unit (s := S128x128) ![0, 0] S128x128.size inb_S128x128_S128x128_0_0
abbrev rBs : Rect S1x1 := Rect.unit (s := S1x1) ![0, 0] S1x1.size inb_S1x1_S1x1_0_0
abbrev rRep : Rect S2048x128 := Rect.unit (s := S2048x128) ![0, 0] S2048x128.size inb_S2048x128_S2048x128_0_0
abbrev rOut : Rect S1x1x2048 := Rect.unit (s := S1x1x2048) ![0, 0, 0] S1x1x2048.size inb_S1x1x2048_S1x1x2048_0_0_0

/-- The bias the body reads. -/
def biasOf (x3 : Vec F S1x1 .f32) : F .f32 := View.ld x3 rBs (Shape.Idx.first (s := S1x1) (by decide))

/-- The scores along columns: one a row, all columns alike. -/
def repPieces (w0 : Vec F S1x2048x128 .f32) (w2 : Vec F S128x128 .f32) (b : F .f32) : List (View.Piece (Elt F) S2048x128 .f32) :=
  [⟨rRep, k0_pay73 w0 w2 b⟩]

/-- The scores a row of thresholds at a time. -/
def thPieces (w0 : Vec F S1x2048x128 .f32) (w1 : Vec F S1x128 .f32) (b : F .f32) : List (View.Piece (Elt F) S16x1x128 .f32) :=
  [⟨Rect.unit (s := S16x1x128) ![15, 0, 0] S1x1x128.size inb_S16x1x128_S1x1x128_15_0_0, k0_pay90 (k0_pay71 w0 w1 b)⟩,
    ⟨Rect.unit (s := S16x1x128) ![14, 0, 0] S1x1x128.size inb_S16x1x128_S1x1x128_14_0_0, k0_pay89 (k0_pay71 w0 w1 b)⟩,
    ⟨Rect.unit (s := S16x1x128) ![13, 0, 0] S1x1x128.size inb_S16x1x128_S1x1x128_13_0_0, k0_pay88 (k0_pay71 w0 w1 b)⟩,
    ⟨Rect.unit (s := S16x1x128) ![12, 0, 0] S1x1x128.size inb_S16x1x128_S1x1x128_12_0_0, k0_pay87 (k0_pay71 w0 w1 b)⟩,
    ⟨Rect.unit (s := S16x1x128) ![11, 0, 0] S1x1x128.size inb_S16x1x128_S1x1x128_11_0_0, k0_pay86 (k0_pay71 w0 w1 b)⟩,
    ⟨Rect.unit (s := S16x1x128) ![10, 0, 0] S1x1x128.size inb_S16x1x128_S1x1x128_10_0_0, k0_pay85 (k0_pay84 (k0_pay71 w0 w1 b))⟩,
    ⟨Rect.unit (s := S16x1x128) ![9, 0, 0] S1x1x128.size inb_S16x1x128_S1x1x128_9_0_0, k0_pay83 (k0_pay71 w0 w1 b)⟩,
    ⟨Rect.unit (s := S16x1x128) ![8, 0, 0] S1x1x128.size inb_S16x1x128_S1x1x128_8_0_0, k0_pay82 (k0_pay71 w0 w1 b)⟩,
    ⟨Rect.unit (s := S16x1x128) ![7, 0, 0] S1x1x128.size inb_S16x1x128_S1x1x128_7_0_0, k0_pay81 (k0_pay71 w0 w1 b)⟩,
    ⟨Rect.unit (s := S16x1x128) ![6, 0, 0] S1x1x128.size inb_S16x1x128_S1x1x128_6_0_0, k0_pay80 (k0_pay71 w0 w1 b)⟩,
    ⟨Rect.unit (s := S16x1x128) ![5, 0, 0] S1x1x128.size inb_S16x1x128_S1x1x128_5_0_0, k0_pay79 (k0_pay71 w0 w1 b)⟩,
    ⟨Rect.unit (s := S16x1x128) ![4, 0, 0] S1x1x128.size inb_S16x1x128_S1x1x128_4_0_0, k0_pay78 (k0_pay71 w0 w1 b)⟩,
    ⟨Rect.unit (s := S16x1x128) ![3, 0, 0] S1x1x128.size inb_S16x1x128_S1x1x128_3_0_0, k0_pay77 (k0_pay71 w0 w1 b)⟩,
    ⟨Rect.unit (s := S16x1x128) ![2, 0, 0] S1x1x128.size inb_S16x1x128_S1x1x128_2_0_0, k0_pay76 w0 w1 b⟩,
    ⟨Rect.unit (s := S16x1x128) ![1, 0, 0] S1x1x128.size inb_S16x1x128_S1x1x128_1_0_0, k0_pay75 w0 w1 b⟩,
    ⟨Rect.unit (s := S16x1x128) ![0, 0, 0] S1x1x128.size inb_S16x1x128_S1x1x128_0_0_0, k0_pay74 w0 w1 b⟩]

/-- The scores as the first output takes them. -/
def scorePieces (w0 : Vec F S1x2048x128 .f32) (w1 : Vec F S1x128 .f32) (b : F .f32) : List (View.Piece (Elt F) S1x1x2048 .f32) :=
  [⟨rOut, k0_pay72 w0 w1 b⟩]

/-- The rows of ranks side by side. -/
def rankPieces (x9 : Vec F S16x1x128 .i32) : List (View.Piece (Elt F) S1x1x2048 .i32) :=
  [⟨rOut, k0_pay1 (k0_pay92 (View.ld x9 (Rect.unit (s := S16x1x128) ![0, 0, 0] S1x1x128.size inb_S16x1x128_S1x1x128_0_0_0))) (k0_pay93 (View.ld x9 (Rect.unit (s := S16x1x128) ![1, 0, 0] S1x1x128.size inb_S16x1x128_S1x1x128_1_0_0))) (k0_pay94 (View.ld x9 (Rect.unit (s := S16x1x128) ![2, 0, 0] S1x1x128.size inb_S16x1x128_S1x1x128_2_0_0))) (k0_pay95 (View.ld x9 (Rect.unit (s := S16x1x128) ![3, 0, 0] S1x1x128.size inb_S16x1x128_S1x1x128_3_0_0))) (k0_pay96 (View.ld x9 (Rect.unit (s := S16x1x128) ![4, 0, 0] S1x1x128.size inb_S16x1x128_S1x1x128_4_0_0))) (k0_pay97 (View.ld x9 (Rect.unit (s := S16x1x128) ![5, 0, 0] S1x1x128.size inb_S16x1x128_S1x1x128_5_0_0))) (k0_pay98 (View.ld x9 (Rect.unit (s := S16x1x128) ![6, 0, 0] S1x1x128.size inb_S16x1x128_S1x1x128_6_0_0))) (k0_pay99 (View.ld x9 (Rect.unit (s := S16x1x128) ![7, 0, 0] S1x1x128.size inb_S16x1x128_S1x1x128_7_0_0))) (k0_pay100 (View.ld x9 (Rect.unit (s := S16x1x128) ![8, 0, 0] S1x1x128.size inb_S16x1x128_S1x1x128_8_0_0))) (k0_pay101 (View.ld x9 (Rect.unit (s := S16x1x128) ![9, 0, 0] S1x1x128.size inb_S16x1x128_S1x1x128_9_0_0))) (k0_pay102 (View.ld x9 (Rect.unit (s := S16x1x128) ![10, 0, 0] S1x1x128.size inb_S16x1x128_S1x1x128_10_0_0))) (k0_pay103 (View.ld x9 (Rect.unit (s := S16x1x128) ![11, 0, 0] S1x1x128.size inb_S16x1x128_S1x1x128_11_0_0))) (k0_pay104 (View.ld x9 (Rect.unit (s := S16x1x128) ![12, 0, 0] S1x1x128.size inb_S16x1x128_S1x1x128_12_0_0))) (View.ld x9 (Rect.unit (s := S16x1x128) ![13, 0, 0] S1x1x128.size inb_S16x1x128_S1x1x128_13_0_0)) (View.ld x9 (Rect.unit (s := S16x1x128) ![14, 0, 0] S1x1x128.size inb_S16x1x128_S1x1x128_14_0_0)) (View.ld x9 (Rect.unit (s := S16x1x128) ![15, 0, 0] S1x1x128.size inb_S16x1x128_S1x1x128_15_0_0))⟩]

/-- The second product fills its buffer. -/
theorem coverRep (w0 : Vec F S1x2048x128 .f32) (w2 : Vec F S128x128 .f32) (b : F .f32) (y : S2048x128.Idx) :
    ∃ pc ∈ repPieces w0 w2 b, y ∈ pc.1.set := View.cover_of_tiled (repPieces w0 w2 b) S2048x128.size (by rfl) y

/-- The thresholds fill theirs. -/
theorem coverTh (w0 : Vec F S1x2048x128 .f32) (w1 : Vec F S1x128 .f32) (b : F .f32) (y : S16x1x128.Idx) :
    ∃ pc ∈ thPieces w0 w1 b, y ∈ pc.1.set := View.cover_of_tiled (thPieces w0 w1 b) S1x1x128.size (by rfl) y

/-- The scores fill their block. -/
theorem coverScore (w0 : Vec F S1x2048x128 .f32) (w1 : Vec F S1x128 .f32) (b : F .f32) (y : S1x1x2048.Idx) :
    ∃ pc ∈ scorePieces w0 w1 b, y ∈ pc.1.set := View.cover_of_tiled (scorePieces w0 w1 b) S1x1x2048.size (by rfl) y

/-- The ranks fill theirs. -/
theorem coverRank (x9 : Vec F S16x1x128 .i32) (y : S1x1x2048.Idx) :
    ∃ pc ∈ rankPieces (F := F) x9, y ∈ pc.1.set := View.cover_of_tiled (rankPieces (F := F) x9) S1x1x2048.size (by rfl) y

/-- The first output's block. -/
def scoreOut (x0 : Vec F S1x2048x128 .f32) (x1 : Vec F S1x128 .f32) (x3 : Vec F S1x1 .f32) : Vec F S1x1x2048 .f32 :=
  View.canon (scorePieces (View.ld x0 rXs) (View.ld x1 rWs) (biasOf x3))

/-- The thresholds the loop reads. -/
def thOf (x0 : Vec F S1x2048x128 .f32) (x1 : Vec F S1x128 .f32) (x3 : Vec F S1x1 .f32) : Vec F S16x1x128 .f32 :=
  View.canon (thPieces (View.ld x0 rXs) (View.ld x1 rWs) (biasOf x3))

/-- The scores the loop compares with the thresholds. -/
def repOf (x0 : Vec F S1x2048x128 .f32) (x2 : Vec F S128x128 .f32) (x3 : Vec F S1x1 .f32) : Vec F S2048x128 .f32 :=
  View.canon (repPieces (View.ld x0 rXs) (View.ld x2 rWr) (biasOf x3))

/-- The second output's block. -/
def rankOut (x0 : Vec F S1x2048x128 .f32) (x1 : Vec F S1x128 .f32) (x2 : Vec F S128x128 .f32) (x3 : Vec F S1x1 .f32) : Vec F S1x1x2048 .i32 :=
  View.canon (rankPieces (F := F) (rankAll (thOf x0 x1 x3) (repOf x0 x2 x3)))

/-- After its store a trip has one more row of ranks right. -/
theorem row_step (arg9 : Memref sig .tc .vmem S16x1x128 .i32) (th : Vec F S16x1x128 .f32) (rep : Vec F S2048x128 .f32) (k : Fin k0_t1_loop.trips)
    (g : BufTy.Contents (Elt F) arg9.view.ty) (hg : ∀ y : S16x1x128.Idx, (y 0).val < k.val → arg9.view.read (Elt F) g y = rankAll th rep y)
    (y : S16x1x128.Idx) (hy : (y 0).val < k.val + 1) :
    arg9.view.read (Elt F) (arg9.view.writes (Elt F) g [⟨Rect.unit (s := S16x1x128) (k0_off1 k) S1x1x128.size (k0_off1_inb k), rankRow (k0_pay2 (View.ld th (Rect.unit (s := S16x1x128) (k0_off1 k) S1x1x128.size (k0_off1_inb k)))) rep⟩]) y = rankAll th rep y := by
  rcases Nat.lt_or_ge (y 0).val k.val with h | h
  · refine (View.read_writes_cons_unit_of_not_mem (s := S16x1x128) _ _ _ _ _ _ (k0_off1_eq k) (0 : Fin 3) (Or.inl ?_)).trans (hg y h)
    exact h
  · have hk : (⟨(y 0).val, (y 0).isLt⟩ : Fin k0_t1_loop.trips) = k := Fin.ext (by show (y 0).val = k.val; omega)
    have h1 : (y 1).val = 0 := by have := (y 1).isLt; have h' : (y 1).val < 1 := this; omega
    subst hk
    refine View.read_writes_cons_unit_of_mem (s := S16x1x128) _ _ _ _ _ _ _ (k0_off1_eq _) ?_
    intro a
    fin_cases a
    · show (y 0).val = (y 0).val + 0; omega
    · show (y 1).val = 0 + 0; omega
    · show (y 2).val = 0 + (y 2).val; omega

set_option maxHeartbeats 4000000 in
/-- The body, from its four inputs, leaves them as they were, the scores in the first output's buffer and the ranks in the second's. -/
theorem score_body (c : Dev nD) (E : Set ℕ) (i : grid0.Coords) (arg1 : Memref sig .tc .vmem S1x2048x128 .f32) (harg1 : arg1.IsWhole) (arg2 : Memref sig .tc .vmem S1x128 .f32) (harg2 : arg2.IsWhole) (arg3 : Memref sig .tc .vmem S128x128 .f32) (harg3 : arg3.IsWhole) (arg4 : Memref sig .tc .smem S1x1 .f32) (harg4 : arg4.IsWhole) (arg5 : Memref sig .tc .vmem S1x1x2048 .f32) (harg5 : arg5.IsWhole) (arg6 : Memref sig .tc .vmem S1x1x2048 .i32) (harg6 : arg6.IsWhole) (arg7 : Memref sig .tc .vmem S2048x128 .f32) (harg7 : arg7.IsWhole) (arg8 : Memref sig .tc .vmem S16x1x128 .f32) (harg8 : arg8.IsWhole) (arg9 : Memref sig .tc .vmem S16x1x128 .i32) (harg9 : arg9.IsWhole)
    (x0 : Vec F S1x2048x128 .f32) (x1 : Vec F S1x128 .f32) (x2 : Vec F S128x128 .f32) (x3 : Vec F S1x1 .f32) (Φ : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (scoreOut x0 x1 x3) ∗ owns (c : Thread nD τ) arg6 fullShare (rankOut x0 x1 x2 x3) ∗ (∃ d, owns (c : Thread nD τ) arg7 fullShare d) ∗ (∃ d, owns (c : Thread nD τ) arg8 fullShare d) ∗ (∃ d, owns (c : Thread nD τ) arg9 fullShare d)) -∗ Φ ⟨⟩))
      ⊢ wp frame (wpE (defs₀ (F := F)) 𝒱₀ c none) E (cc0__score_rank_body i arg1 harg1 arg2 harg2 arg3 harg3 arg4 harg4 arg5 harg5 arg6 harg6 arg7 harg7 arg8 harg8 arg9 harg9) Φ := by
  simp only [cc0__score_rank_body_eq_skeleton]; unfold cc0__score_rank_body_skel
  simp only [k0_part16_eq_skeleton, k0_part17_eq_skeleton, k0_part18_eq_skeleton, k0_part19_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  subst hf0 hf1 hf2 hf3
  sl_exec
  sl_for (fun k _ => loopInv0 c arg7 arg8 arg9 (thOf (arg1.view.read (Elt F) f0) (arg2.view.read (Elt F) f1) (arg4.view.read (Elt F) f3)) (repOf (arg1.view.read (Elt F) f0) (arg3.view.read (Elt F) f2) (arg4.view.read (Elt F) f3)) k) $$ [H6 H7 H8]
  · intro k acc
    unfold loopInv0
    iintro ⟨%g7, %g8, %g9, %hg, H6, H7, H8⟩
    obtain ⟨h7, h8, h9⟩ := hg
    iapply (wp_wand_r frame (wpE (defs₀ (F := F)) 𝒱₀ (c : Thread nD τ) none) E)
    isplitl [H6 H7 H8]
    · iapply (scoreTrip c E i arg1 harg1 arg2 harg2 arg3 harg3 arg4 harg4 arg5 harg5 arg6 harg6 arg7 harg7 arg8 harg8 arg9 harg9 _ _ g7 g8 k g9)
      isplitl [H6]; · iexact H6
      isplitl [H7]; · iexact H7
      iexact H8
    iintro %_ ⟨H6, H7, H8⟩
    iexists g7, g8, _
    isplitr
    swap
    · isplitl [H6]; · iexact H6
      isplitl [H7]; · iexact H7
      iexact H8
    ipureintro
    refine ⟨h7, h8, fun y hy => ?_⟩
    rw [← h7, ← h8] at h9 ⊢
    exact row_step arg9 _ _ k g9 h9 y hy
  · unfold loopInv0
    iexists _, _, f8
    isplitr
    swap
    · isplitl [H6]; · iexact H6
      isplitl [H7]; · iexact H7
      iexact H8
    ipureintro
    refine ⟨?_, ?_, fun y hy => absurd hy (Nat.not_lt_zero _)⟩
    · exact (View.read_writes_eq_canon _ _ _ (coverRep _ _ _)).trans rfl
    · exact (View.read_writes_eq_canon _ _ _ (coverTh _ _ _)).trans rfl
  unfold loopInv0
  iintro %acc ⟨%g7, %g8, %g9, %hg, H6, H7, H8⟩
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact (View.read_writes_eq_canon _ _ _ (coverScore _ _ _)).trans rfl
  isplitl [H5]
  · iexists _; isplitr
    swap; · iexact H5
    ipureintro
    refine (View.read_writes_eq_canon _ _ _ (coverRank (arg9.view.read (Elt F) g9))).trans ?_
    have h9 : arg9.view.read (Elt F) g9 = _ := funext fun y => hg.2.2 y (y 0).isLt
    rw [h9]
    rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

end Cert.Proof.Whole
-- ==== Proof.ScoresData.lean ====
/-
  The first call of the kernel as a pipeline: its data, and its body at every point of the grid.
-/
module

public import proofs.«01_k».proof.Proof.Scores
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionArraysS
public import Idealize.ShloMosaic.Lib.Ring
public import Idealize.ShloMosaic.Lib.WritesUnit

@[expose] public section

set_option maxRecDepth 16384

noncomputable section

namespace Cert.Proof.Whole

open Cert.KernelIdeal Cert.KernelIdeal.Gen Cert.Counting

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

variable (O : Dev nD → CellTallies nD τ sig (HIx 1)) (B : Dev nD → Set (SemLoc sig × HIx 1)) (V : Dev nD → Valuation τ sig (Elt F))

/-- A window's block at a point, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The first call's data: the inputs as they are, the outputs' blocks what the body computes of them. -/
def dat0 (c : Dev nD) : Dat τ (Elt F) (HIx 1) ℕ UU ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => blk0 V c 3 t
    | ⟨4, _⟩ => scoreOut (blk0 V c 0 t) (blk0 V c 1 t) (blk0 V c 3 t)
    | ⟨5, _⟩ => rankOut (blk0 V c 0 t) (blk0 V c 1 t) (blk0 V c 2 t) (blk0 V c 3 t)
  Φ _ := Pipeline.scopedRest spec0 c
  q _ := fullShare
  owed _ := O c
  recorded _ := B c

/-- The first call's arrays as it finds them. -/
theorem dat0_A (c : Dev nD) (w : Fin cfg0.W) : (dat0 O B V c).A w = V c (Proc.devRef .tc (Pipeline.arrRef spec0 w)) := by dsimp only [dat0]
/-- The body leaves this input's block as it was. -/
theorem dat0_after0 (c : Dev nD) (t : Fin cfg0.N) : (dat0 O B V c).after 0 t = blk0 V c 0 t := by dsimp only [dat0]
/-- The body leaves this input's block as it was. -/
theorem dat0_after1 (c : Dev nD) (t : Fin cfg0.N) : (dat0 O B V c).after 1 t = blk0 V c 1 t := by dsimp only [dat0]
/-- The body leaves this input's block as it was. -/
theorem dat0_after2 (c : Dev nD) (t : Fin cfg0.N) : (dat0 O B V c).after 2 t = blk0 V c 2 t := by dsimp only [dat0]
/-- The body leaves this input's block as it was. -/
theorem dat0_after3 (c : Dev nD) (t : Fin cfg0.N) : (dat0 O B V c).after 3 t = blk0 V c 3 t := by dsimp only [dat0]
/-- The body leaves the scores. -/
theorem dat0_after4 (c : Dev nD) (t : Fin cfg0.N) : (dat0 O B V c).after 4 t = scoreOut (blk0 V c 0 t) (blk0 V c 1 t) (blk0 V c 3 t) := by dsimp only [dat0]
/-- And the ranks. -/
theorem dat0_after5 (c : Dev nD) (t : Fin cfg0.N) : (dat0 O B V c).after 5 t = rankOut (blk0 V c 0 t) (blk0 V c 1 t) (blk0 V c 2 t) (blk0 V c 3 t) := by dsimp only [dat0]

/-- The body finds this input's block. -/
theorem dat0_before0 (c : Dev nD) (t : Fin cfg0.N) (d) : (dat0 O B V c).before 0 t d = blk0 V c 0 t :=
  ((dat0 O B V c).before_in_eq_fetched 0 rfl (fun _ => rfl) (fun _ _ _ => rfl)
      (fun t => by rw [dat0_after0]; unfold Dat.blockOf blk0; rw [dat0_A]; try rfl) t d).trans
    (by unfold Dat.fetched Dat.blockOf blk0; rw [dat0_A]; try rfl)

/-- The body finds this input's block. -/
theorem dat0_before1 (c : Dev nD) (t : Fin cfg0.N) (d) : (dat0 O B V c).before 1 t d = blk0 V c 1 t :=
  ((dat0 O B V c).before_in_eq_fetched 1 rfl (fun _ => rfl) (fun _ _ _ => rfl)
      (fun t => by rw [dat0_after1]; unfold Dat.blockOf blk0; rw [dat0_A]; try rfl) t d).trans
    (by unfold Dat.fetched Dat.blockOf blk0; rw [dat0_A]; try rfl)

/-- The body finds this input's block. -/
theorem dat0_before2 (c : Dev nD) (t : Fin cfg0.N) (d) : (dat0 O B V c).before 2 t d = blk0 V c 2 t :=
  ((dat0 O B V c).before_in_eq_fetched 2 rfl (fun _ => rfl) (fun _ _ _ => rfl)
      (fun t => by rw [dat0_after2]; unfold Dat.blockOf blk0; rw [dat0_A]; try rfl) t d).trans
    (by unfold Dat.fetched Dat.blockOf blk0; rw [dat0_A]; try rfl)

/-- The body finds this input's block. -/
theorem dat0_before3 (c : Dev nD) (t : Fin cfg0.N) (d) : (dat0 O B V c).before 3 t d = blk0 V c 3 t :=
  ((dat0 O B V c).before_in_eq_fetched 3 rfl (fun _ => rfl) (fun _ _ _ => rfl)
      (fun t => by rw [dat0_after3]; unfold Dat.blockOf blk0; rw [dat0_A]; try rfl) t d).trans
    (by unfold Dat.fetched Dat.blockOf blk0; rw [dat0_A]; try rfl)

/-- What the first body finds. -/
def pre0 (c : Dev nD) (t : Fin cfg0.N) : sProp 𝕄 :=
  iprop((dat0 O B V c).Φ t.castSucc ∗ (dat0 O B V c).owesAt none t.castSucc
    ∗ (∃ d, owns (c : Thread nD τ) (st0_0 t) fullShare ((dat0 O B V c).before 0 t d)) ∗ (∃ d, owns (c : Thread nD τ) (st0_1 t) fullShare ((dat0 O B V c).before 1 t d)) ∗ (∃ d, owns (c : Thread nD τ) (st0_2 t) fullShare ((dat0 O B V c).before 2 t d)) ∗ (∃ d, owns (c : Thread nD τ) (st0_3 t) fullShare ((dat0 O B V c).before 3 t d)) ∗ (∃ d, owns (c : Thread nD τ) (st0_4 t) fullShare ((dat0 O B V c).before 4 t d)) ∗ (∃ d, owns (c : Thread nD τ) (st0_5 t) fullShare ((dat0 O B V c).before 5 t d)))

/-- What it leaves. -/
def post0 (c : Dev nD) (t : Fin cfg0.N) : sProp 𝕄 :=
  iprop((dat0 O B V c).Φ t.succ ∗ (dat0 O B V c).owesAt none t.succ
    ∗ owns (c : Thread nD τ) (st0_0 t) fullShare ((dat0 O B V c).after 0 t) ∗ owns (c : Thread nD τ) (st0_1 t) fullShare ((dat0 O B V c).after 1 t) ∗ owns (c : Thread nD τ) (st0_2 t) fullShare ((dat0 O B V c).after 2 t) ∗ owns (c : Thread nD τ) (st0_3 t) fullShare ((dat0 O B V c).after 3 t) ∗ owns (c : Thread nD τ) (st0_4 t) fullShare ((dat0 O B V c).after 4 t) ∗ owns (c : Thread nD τ) (st0_5 t) fullShare ((dat0 O B V c).after 5 t))

/-- The three buffers the body keeps to itself, out of the rest. -/
theorem scratch0 (c : Dev nD) : (Pipeline.scopedRest spec0 c : sProp 𝕄)
    = iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)
      ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f)) := by
  rw [scopedRest0_eq]; simp only [owns_whole]; try rfl

/-- The body at a point of the grid. -/
theorem body0 (c : Dev nD) (t : Fin cfg0.N) :
    pre0 O B V c t ⊢ wp frame (wpE (defs₀ (F := F)) 𝒱₀ c none) Set.univ (bodyAt0 t) (fun _ => post0 O B V c t) := by
  unfold pre0 post0 bodyAt0
  simp only [dat0_before0, dat0_before1, dat0_before2, dat0_before3]
  rw [show (dat0 O B V c).Φ t.succ = (dat0 O B V c).Φ t.castSucc from rfl,
    show (dat0 O B V c).owesAt none t.succ = (dat0 O B V c).owesAt none t.castSucc from rfl,
    dat0_after0, dat0_after1, dat0_after2, dat0_after3, dat0_after4, dat0_after5,
    show (dat0 O B V c).Φ t.castSucc = Pipeline.scopedRest spec0 c from rfl, scratch0]
  iintro ⟨⟨HS0, HS1, HS2, HR⟩, Ho, ⟨%d0, H0⟩, ⟨%d1, H1⟩, ⟨%d2, H2⟩, ⟨%d3, H3⟩, ⟨%d4, H4⟩, ⟨%d5, H5⟩⟩
  iapply (score_body c Set.univ (grid0.coords t) _ _ _ _ _ _ _ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 HR]
  · isplitl [HS0]; · iexact HS0
    isplitl [HS1]; · iexact HS1
    isplitl [HS2]; · iexact HS2
    iexact HR
  isplitl [Ho]; · iexact Ho
  isplitl [H0]; · iexact H0
  isplitl [H1]; · iexact H1
  isplitl [H2]; · iexact H2
  isplitl [H3]; · iexact H3
  isplitl [H4]; · iexact H4
  iexact H5

/-- The body that a grid step runs. -/
theorem row0 (t : Fin cfg0.N) : defs₀ (F := F) .tc cfg0.body (cfg0.bodyArgs t (cfg0.slots t)) = bodyAt0 t := rfl

/-- The body meets its obligation at every point. -/
theorem obligation0 (c : Dev nD) : BodyObligation (dat0 (F := F) O B V c) (defs₀ (F := F)) 𝒱₀ none Set.univ := fun t => by
  rw [bigSep_W0, bigSep_W0, row0]
  exact triple_restated (body0 O B V c t) rfl .rfl fun _ => .rfl

end Cert.Proof.Whole

end
-- ==== Proof.Suffix.lean ====
/-
  The last call of the kernel, one block at a time: what its body leaves, and its pipeline's data.
-/
module

public import proofs.«01_k».proof.Proof.Deal
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionArraysS
public import Idealize.ShloMosaic.Lib.Ring

@[expose] public section

set_option maxRecDepth 16384

noncomputable section

namespace Cert.Proof.Whole

open Cert.KernelIdeal Cert.KernelIdeal.Gen Cert.Counting

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-- What the body computes of a block of sorted scores. -/
def suffixed (x : Vec F S8x2048 .f32) : Vec F S8x2048 .f32 :=
  k2_pay1 (k2_pay2 x) (k2_pay8 (k2_pay3 x) (k2_pay4 (F := F)) (k2_pay5 x)) (k2_pay9 (k2_pay3 x) (k2_pay4 (F := F)) (k2_pay5 x))

abbrev r2_0 : Rect S8x2048 := Rect.unit (s := S8x2048) ![0, 0] S8x2048.size inb_S8x2048_S8x2048_0_0

/-- The block a load of the whole buffer reads is the buffer. -/
theorem ld_r2_0 (x : Vec F S8x2048 .f32) : View.ld x r2_0 = x := by
  funext y
  show x (r2_0.toLoadRect.idx y) = x y
  congr 1
  funext a; apply Fin.ext
  rw [LoadRect.idx_apply]
  have : (![0, 0] : Fin 2 → ℕ) a = 0 := by fin_cases a <;> rfl
  show (![0, 0] : Fin 2 → ℕ) a + 1 * (y a).val = (y a).val
  omega

/-- The one store covers the buffer. -/
theorem cover2_1 (p0 : Vec F S8x2048 .f32) (y : S8x2048.Idx) :
    ∃ pc ∈ ([⟨r2_0, p0⟩] : List (View.Piece (Elt F) S8x2048 .f32)), y ∈ pc.1.set :=
  View.cover_of_tiled [⟨r2_0, p0⟩] S8x2048.size (by rfl) y

/-- What the output's buffer holds after the body. -/
def suffixOut (x : Vec F S8x2048 .f32) : Vec F S8x2048 .f32 := View.canon [⟨r2_0, suffixed (View.ld x r2_0)⟩]

set_option maxHeartbeats 1000000 in
/-- The body, from the input's block, leaves the block as it was and the output's buffer at what it computes. -/
theorem suffix_body (c : Dev nD) (E : Set ℕ) (i : grid2.Coords) (arg1 : Memref sig .tc .vmem S8x2048 .f32) (harg1 : arg1.IsWhole) (arg2 : Memref sig .tc .vmem S8x2048 .f32) (harg2 : arg2.IsWhole)
    (x0 : Vec F S8x2048 .f32) (Φ : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (suffixOut x0)) -∗ Φ ⟨⟩))
      ⊢ wp frame (wpE (defs₀ (F := F)) 𝒱₀ c none) E (cc2__suffix_lse_body i arg1 harg1 arg2 harg2) Φ := by
  simp only [cc2__suffix_lse_body_eq_skeleton]; unfold cc2__suffix_lse_body_skel
  simp only [k2_part1_eq_skeleton, k2_part2_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover2_1 _)).trans ?_
  rfl

/-! ## The pipeline's data -/

variable (O : Dev nD → CellTallies nD τ sig (HIx 1)) (B : Dev nD → Set (SemLoc sig × HIx 1)) (V : Dev nD → Valuation τ sig (Elt F))

/-- A window's block at a point, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The last call's data: the sorted scores as they are, the output's block what the body computes of them. -/
def dat2 (c : Dev nD) : Dat τ (Elt F) (HIx 1) ℕ UU ℕ cfg2 c where
  A w := V c (Proc.devRef .tc (Pipeline.arrRef spec2 w))
  after w t := match w with
    | ⟨0, _⟩ => blk2 V c 0 t
    | ⟨1, _⟩ => suffixOut (blk2 V c 0 t)
  Φ _ := Pipeline.scopedRest spec2 c
  q _ := fullShare
  owed _ := O c
  recorded _ := B c

/-- The third call's arrays as it finds them. -/
theorem dat2_A (c : Dev nD) (w : Fin cfg2.W) : (dat2 O B V c).A w = V c (Proc.devRef .tc (Pipeline.arrRef spec2 w)) := by dsimp only [dat2]
/-- The body leaves its input. -/
theorem dat2_after0 (c : Dev nD) (t : Fin cfg2.N) : (dat2 O B V c).after 0 t = blk2 V c 0 t := by dsimp only [dat2]
/-- And writes the log-probabilities. -/
theorem dat2_after1 (c : Dev nD) (t : Fin cfg2.N) : (dat2 O B V c).after 1 t = suffixOut (blk2 V c 0 t) := by dsimp only [dat2]

/-- The third body finds the block of scores in order. -/
theorem dat2_before0 (c : Dev nD) (t : Fin cfg2.N) (d) : (dat2 O B V c).before 0 t d = blk2 V c 0 t :=
  ((dat2 O B V c).before_in_eq_fetched 0 rfl (fun _ => rfl) (fun _ _ _ => rfl)
      (fun t => by rw [dat2_after0]; unfold Dat.blockOf blk2; rw [dat2_A]; try rfl) t d).trans
    (by unfold Dat.fetched Dat.blockOf blk2; rw [dat2_A]; try rfl)

/-- What the third body finds. -/
def pre2 (c : Dev nD) (t : Fin cfg2.N) : sProp 𝕄 :=
  iprop((dat2 O B V c).Φ t.castSucc ∗ (dat2 O B V c).owesAt none t.castSucc
    ∗ (∃ d, owns (c : Thread nD τ) (st2_0 t) fullShare ((dat2 O B V c).before 0 t d))
    ∗ (∃ d, owns (c : Thread nD τ) (st2_1 t) fullShare ((dat2 O B V c).before 1 t d)))

/-- What it leaves. -/
def post2 (c : Dev nD) (t : Fin cfg2.N) : sProp 𝕄 :=
  iprop((dat2 O B V c).Φ t.succ ∗ (dat2 O B V c).owesAt none t.succ
    ∗ owns (c : Thread nD τ) (st2_0 t) fullShare ((dat2 O B V c).after 0 t)
    ∗ owns (c : Thread nD τ) (st2_1 t) fullShare ((dat2 O B V c).after 1 t))

/-- The body at a point of the grid. -/
theorem body2 (c : Dev nD) (t : Fin cfg2.N) :
    pre2 O B V c t ⊢ wp frame (wpE (defs₀ (F := F)) 𝒱₀ c none) Set.univ (bodyAt2 t) (fun _ => post2 O B V c t) := by
  unfold pre2 post2 bodyAt2
  simp only [dat2_before0]
  rw [show (dat2 O B V c).Φ t.succ = (dat2 O B V c).Φ t.castSucc from rfl,
    show (dat2 O B V c).owesAt none t.succ = (dat2 O B V c).owesAt none t.castSucc from rfl,
    dat2_after0, dat2_after1]
  iintro ⟨HΦ, Ho, ⟨%d0, H0⟩, ⟨%d1, H1⟩⟩
  iapply (suffix_body c Set.univ (grid2.coords t) _ _ _ _ (blk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body that a grid step runs. -/
theorem row2 (t : Fin cfg2.N) : defs₀ (F := F) .tc cfg2.body (cfg2.bodyArgs t (cfg2.slots t)) = bodyAt2 t := rfl

/-- The body meets its obligation at every point. -/
theorem obligation2 (c : Dev nD) : BodyObligation (dat2 (F := F) O B V c) (defs₀ (F := F)) 𝒱₀ none Set.univ := fun t => by
  rw [bigSep_W2, bigSep_W2, row2]
  exact triple_restated (body2 O B V c t) rfl .rfl fun _ => .rfl

end Cert.Proof.Whole

end
-- ==== Proof.Regions.lean ====
/-
  The two pipelines of the kernel as steps of its program: each takes the arrays held and leaves them held, at what
  the pipeline makes of them.
-/
module

public import proofs.«01_k».proof.Proof.Deal
public import proofs.«01_k».proof.Proof.ScoresData
public import proofs.«01_k».proof.Proof.Suffix
public import Idealize.ShloMosaic.Lib.Pipeline.RegionArrays
public import Idealize.ShloMosaic.Lib.Pipeline.FrameTail

@[expose] public section

noncomputable section

namespace Cert.Proof.Whole

open Cert.KernelIdeal Cert.KernelIdeal.Gen Cert.Counting

open Idealize.ShloMosaic Idealize.ShloMosaic.TcCoe
open Idealize.ShloMosaic.SparseCore.Cfg (HIx Blocks WBelow)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

variable {F : FTy → Type} [FloatOps F]

local notation "𝕄" => MT nD τ sig (HIx 1) (Elt F) ℕ UU ℕ

/-- What the core still owes before the call numbered `n`. -/
abbrev owing (n : ℕ) (c : Dev nD) : CellTallies nD τ sig (HIx 1) := (K (F := F)).Otc c n

/-- The waits a core may have recorded before the call numbered `n`. -/
def within (n : ℕ) (c : Dev nD) : Set (SemLoc sig × HIx 1) :=
  {p | (K (F := F)).lev ((c.tc : Thread nD τ), p.1) p.2 ≤ 8 * n}

/-- The pipelines take no tables. -/
abbrev adms : (p : Fin 2) → (pcfgs (F := F) p).Adm := fun p => (cfgs p).toPCfg_adm

/-- The pipelines' data, from what the arrays hold as each is entered. -/
def pdats (V1 V4 : Dev nD → Valuation τ sig (Elt F)) :
    (p : Fin 2) → (c : Dev nD) → Dat τ (Elt F) (HIx 1) ℕ UU ℕ (Pipeline.pin (pcfgs (F := F)) adms p) c
  | ⟨0, _⟩ => fun c => dat0 (owing (F := F) 0) (within (F := F) 0) V1 c
  | ⟨1, _⟩ => fun c => dat2 (owing (F := F) 1) (within (F := F) 1) V4 c

/-- What the core owes before the call numbered `n`, its recorded waits bounded. -/
def owesB (n : ℕ) (c : Dev nD) : sProp 𝕄 :=
  iprop(∃ Wd, ⌜(K (F := F)).WBelow (c.tc : Thread nD τ) Wd (8 * n)⌝ ∗ owes (c.tc : Thread nD τ) (owing (F := F) n c) Wd)

variable (pd : (p : Fin 2) → (c : Dev nD) → Dat τ (Elt F) (HIx 1) ℕ UU ℕ (Pipeline.pin (pcfgs (F := F)) adms p) c)

/-- A pipeline as a step, over every array of the program held. -/
def stepOf (p : Fin 2) (n : ℕ) (kit : Pipeline.PLaunchFacts (nD := nD) (τ := τ) (pcfgs (F := F)) p)
    (hK : (pcfgs (F := F) p).pre.K = 0)
    (hbody : ∀ c, BodyObligationLoose (pd p c) (defs₀ (F := F)) 𝒱₀ none Set.univ)
    (howed : ∀ c t, (pd p c).owed t = owing (F := F) n c) (hrec : ∀ c t, (pd p c).recorded t = within (F := F) n c)
    (hshare : ∀ c w, (pd p c).share w = fullShare)
    (hΦ : ∀ c t, (pd p c).Φ t = Pipeline.scopedRest (Pipeline.pin (pcfgs (F := F)) adms p).spec c)
    (hw : ∀ w, (Pipeline.arrRef (pcfgs (F := F) p).spec w).isScoped = false)
    (W : Dev nD → Valuation τ sig (Elt F))
    (hW : ∀ c w, (pd p c).arrAt w 0 = W c (Proc.devRef .tc (Pipeline.arrRef (Pipeline.pin (pcfgs (F := F)) adms p).spec w))) :
    Pipeline.RegionSeg (pcfgs (F := F)) adms pd none (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.cellsWaits_of_cut (Pipeline.pin (pcfgs (F := F)) adms) pd none p c 0 (owing (F := F) n c) (howed c)
    (fun _ _ => Finset.mem_univ _) (fun _ _ => le_refl _)
    (fun g i h => ⟨Finset.mem_univ _, by have := (K (F := F)).lev_of_Otc_pos h; omega⟩)
  pre c := iprop(StableHlo.held (c.tc : Thread nD τ) (Pipeline.ucRefs τ sig) (W c) ∗ owesB n c)
  post c := iprop(StableHlo.held (c.tc : Thread nD τ) (Pipeline.ucRefs τ sig) (Pipeline.afterRegion (pd p c) (W c)) ∗ owesB n c)
  X _ := iprop(emp)
  Y _ := iprop(emp)
  Z c := StableHlo.held (c.tc : Thread nD τ) (Pipeline.ucRefs τ sig \ Pipeline.arrRefs (pcfgs (F := F) p).spec) (W c)
  hentry c := by
    rw [Pipeline.ownSems0_none, Pipeline.prefHeld_of_none _ hK,
      StableHlo.held_sub_split (c.tc : Thread nD τ) (Pipeline.arrRefs_sub_ucRefs (pcfgs (F := F) p).spec hw) (W c),
      ← Pipeline.arrays_held (pcfgs (F := F)) adms pd p kit c (hshare c) ((pd p c).arrAt · 0) (W c) (hW c)]
    iintro ⟨⟨⟨Ha, HZ⟩, HO⟩, -, -⟩
    imodintro
    isplitl [Ha]; · iexact Ha
    isplitr; · iempintro
    isplitl [HO]
    · unfold owesB Pipeline.Dat.owesAt Pipeline.owesWithin Pipeline.Dat.bound
      rw [howed c 0, hrec c 0]
      icases HO with ⟨%Wd, %hWd, HO⟩; iexists Wd; isplitr; · ipureintro; exact fun q hq => Or.inl (hWd q hq)
      iexact HO
    isplitr; · iempintro
    iexact HZ
  hin c := by
    rw [hΦ]
    iintro ⟨-, -, H⟩; iexact H
  hout c := by
    rw [hΦ, Pipeline.ownSems0_none]
    iintro H
    isplitr; · iempintro
    isplitr; · iempintro
    iexact H
  hexit c := by
    rw [StableHlo.held_sub_split (c.tc : Thread nD τ) (Pipeline.arrRefs_sub_ucRefs (pcfgs (F := F) p).spec hw) (Pipeline.afterRegion (pd p c) (W c)),
      ← Pipeline.arrays_held (pcfgs (F := F)) adms pd p kit c (hshare c) ((pd p c).arrAt · (Pipeline.pin (pcfgs (F := F)) adms p).N) (Pipeline.afterRegion (pd p c) (W c))
        (fun w => (Pipeline.afterRegion_arr (pd p c) (W c) kit.win.arr_inj w).symm),
      StableHlo.held_congr (c.tc : Thread nD τ) (V := Pipeline.afterRegion (pd p c) (W c)) (V' := W c) (S := Pipeline.ucRefs τ sig \ Pipeline.arrRefs (pcfgs (F := F) p).spec)
        (fun b hb => by
          unfold Pipeline.afterRegion
          rw [dif_neg]
          rintro ⟨w, rfl⟩
          exact (Finset.mem_sdiff.mp hb).2 (Finset.mem_map.mpr ⟨_, Finset.mem_image.mpr ⟨w, Finset.mem_univ _, rfl⟩, rfl⟩))]
    iintro ⟨Ha, HO, -, HZ⟩
    imodintro
    isplitl [Ha HZ]
    · isplitl [Ha]; · iexact Ha
      iexact HZ
    unfold owesB Pipeline.Dat.owesAt Pipeline.owesWithin Pipeline.Dat.bound
    rw [howed c (Fin.last _), hrec c (Fin.last _)]
    icases HO with ⟨%Wd, %hWd, HO⟩; iexists Wd; isplitr
    · ipureintro
      intro q hq
      rcases hWd hq with h | ⟨w, s, h⟩
      · exact h
      · rw [h]; exact Nat.zero_le _
    iexact HO

variable (V1 V4 : Dev nD → Valuation τ sig (Elt F))

/-- The first call's windows. -/
theorem pin_spec0 : (Pipeline.pin (pcfgs (F := F)) adms 0).spec = spec0 := rfl
/-- The third call's windows. -/
theorem pin_spec2 : (Pipeline.pin (pcfgs (F := F)) adms 1).spec = spec2 := rfl

/-- What the first call holds beside its windows. -/
theorem pd_rest0 (c : Dev nD) (t) : (pdats V1 V4 0 c).Φ t = Pipeline.scopedRest (Pipeline.pin (pcfgs (F := F)) adms 0).spec c := by
  rw [pin_spec0]
  show (dat0 (owing (F := F) 0) (within (F := F) 0) V1 c).Φ t = _
  dsimp only [dat0]
/-- What the third call holds beside its windows. -/
theorem pd_rest2 (c : Dev nD) (t) : (pdats V1 V4 1 c).Φ t = Pipeline.scopedRest (Pipeline.pin (pcfgs (F := F)) adms 1).spec c := by
  rw [pin_spec2]
  show (dat2 (owing (F := F) 1) (within (F := F) 1) V4 c).Φ t = _
  dsimp only [dat2]

/-- The scores' pipeline as a step. -/
def step0 : Pipeline.RegionSeg (pcfgs (F := F)) adms (pdats V1 V4) none (defs₀ (F := F)) 𝒱₀ (K (F := F)).L (K (F := F)).lev 0 :=
  stepOf (pdats V1 V4) 0 0 launch0.toP rfl (fun c => (obligation0 _ _ V1 c).loose) (fun _ _ => rfl) (fun _ _ => rfl)
    (fun c w => by fin_cases w <;> rfl) (pd_rest0 V1 V4) (fun w => by fin_cases w <;> rfl) V1 (fun _ _ => rfl)

/-- The running sums' pipeline as a step. -/
def step2 : Pipeline.RegionSeg (pcfgs (F := F)) adms (pdats V1 V4) none (defs₀ (F := F)) 𝒱₀ (K (F := F)).L (K (F := F)).lev 1 :=
  stepOf (pdats V1 V4) 1 1 launch2.toP rfl (fun c => (obligation2 _ _ V4 c).loose) (fun _ _ => rfl) (fun _ _ => rfl)
    (fun c w => by fin_cases w <;> rfl) (pd_rest2 V1 V4) (fun w => by fin_cases w <;> rfl) V4 (fun _ _ => rfl)

end Cert.Proof.Whole

end
-- ==== Proof.Whole.lean ====
/-
  The kernel's program run whole: the host's operations, the scores' pipeline, the scatter on the SparseCore, the
  pipeline of the running sums.
-/
module

public import proofs.«01_k».proof.Proof.Regions
public import Idealize.ShloMosaic.Lib.SparseCore.Quiescent

@[expose] public section

noncomputable section

namespace Cert.Proof.Whole

open Cert.KernelIdeal Cert.KernelIdeal.Gen Cert.Counting

open Idealize.ShloMosaic Idealize.ShloMosaic.TcCoe
open Idealize.ShloMosaic.SparseCore (S T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the arrays hold, step by step -/

/-- The host's operations before the first call. -/
def opsA : List (HloOp τ sig (Elt F)) :=
  [StableHlo.reshape main_arg1 main_v0 (rfl : (.f32 : EltTy) = .f32) shapeCasts_S1x128_S128x1,
   StableHlo.reshape main_v0 main_v1 (rfl : (.f32 : EltTy) = .f32) shapeCasts_S128x1_S1x128x1x1,
   StableHlo.unary main_v1 main_v2 (broadcastInDim S1x128x128x1 ![0, 1, 2, 3] bcast_S1x128x1x1_S1x128x128x1_0_1_2_3 : (⟨S1x128x1x1, .f32⟩ : BufTy).Contents (Elt F) → (⟨S1x128x128x1, .f32⟩ : BufTy).Contents (Elt F)),
   StableHlo.reshape main_v2 main_v3 (rfl : (.f32 : EltTy) = .f32) shapeCasts_S1x128x128x1_S128x128,
   StableHlo.reshape main_arg2 main_v4 (rfl : (.f32 : EltTy) = .f32) shapeCasts_S1_S1x1]

/-- The host's operations between the first call and the scatter. -/
def opsB : List (HloOp τ sig (Elt F)) :=
  [StableHlo.reshape main_v5_0 main_v6 (rfl : (.f32 : EltTy) = .f32) shapeCasts_S64x1x2048_S64x2048,
   StableHlo.reshape main_v5_1 main_v7 (rfl : (.i32 : EltTy) = .i32) shapeCasts_S64x1x2048_S64x2048]

/-- At launch. -/
def V0 (d : Dev nD) : Valuation τ sig (Elt F) := fun b => m (d, b)
/-- As the first call is entered. -/
def V1 (d : Dev nD) : Valuation τ sig (Elt F) := StableHlo.after opsA (V0 m d)
/-- The first call's data. -/
abbrev dA (d : Dev nD) : Pipeline.Dat τ (Elt F) (HIx 1) ℕ UU ℕ cfg0 d := dat0 (owing (F := F) 0) (within (F := F) 0) (V1 m) d
/-- As the first call is left. -/
def V2 (d : Dev nD) : Valuation τ sig (Elt F) := Pipeline.afterRegion (dA m d) (V1 m d)
/-- As the scatter is started. -/
def V3 (d : Dev nD) : Valuation τ sig (Elt F) := StableHlo.after opsB (V2 m d)

/-- The scores the scatter is given, and their ranks. -/
def scoresOf (d : Dev nD) : Vec F S64x2048 .f32 := V3 m d (Proc.devRef .tc main_v6)
/-- The ranks the scatter reads. -/
def rankOf (d : Dev nD) : IVec S64x2048 32 := V3 m d (Proc.devRef .tc main_v7)

/-- As the scatter is over. -/
def V4 (d : Dev nD) : Valuation τ sig (Elt F) :=
  Function.update (Function.update (V3 m d) (Proc.devRef .tc main_v8_0) (valsOf (scoresOf m d) (rankOf m d)))
    (Proc.devRef .tc main_v8_1) (idxOf (rankOf m d))

/-- The last call's data. -/
abbrev dC (d : Dev nD) : Pipeline.Dat τ (Elt F) (HIx 1) ℕ UU ℕ cfg2 d := dat2 (owing (F := F) 1) (within (F := F) 1) (V4 m) d
/-- At the end. -/
def V5 (d : Dev nD) : Valuation τ sig (Elt F) := Pipeline.afterRegion (dC m d) (V4 m d)

/-! ## The four arrays of the scatter -/

/-- The scatter's four arrays. -/
def four : Finset (DevRef τ sig) :=
  {Proc.devRef .tc main_v6, Proc.devRef .tc main_v7, Proc.devRef .tc main_v8_0, Proc.devRef .tc main_v8_1}

/-- They are among the arrays that outlive a call. -/
theorem four_sub : four ⊆ Pipeline.ucRefs τ sig := by decide

/-- They are taken out of the arrays held. -/
theorem held_four (d : Dev nD) (V : Valuation τ sig (Elt F)) :
    (StableHlo.held (d.tc : Thread nD τ) four V : sProp 𝕄)
      = wholeFour d (V (Proc.devRef .tc main_v6)) (V (Proc.devRef .tc main_v7)) (V (Proc.devRef .tc main_v8_0)) (V (Proc.devRef .tc main_v8_1)) := by
  unfold StableHlo.held four
  rw [SparseCore.bigSep_insert' (by decide), SparseCore.bigSep_insert' (by decide), SparseCore.bigSep_insert' (by decide), bigSep_singleton]

/-- The payloads of the scatter. -/
abbrev Pw : (K (F := F)).Pay (nD := nD) (Val := Elt F) (Name := ℕ) (U := UU) :=
  P (scoresOf m) (rankOf m) (fun d => V3 m d (Proc.devRef .tc main_v8_0)) (fun d => V3 m d (Proc.devRef .tc main_v8_1))

/-- And put back with the scatter's results. -/
theorem held_V4 (d : Dev nD) :
    (StableHlo.held (d.tc : Thread nD τ) (Pipeline.ucRefs τ sig) (V4 m d) : sProp 𝕄)
      = iprop(wholeFour d (scoresOf m d) (rankOf m d) (valsOf (scoresOf m d) (rankOf m d)) (idxOf (rankOf m d))
          ∗ StableHlo.held (d.tc : Thread nD τ) (Pipeline.ucRefs τ sig \ four) (V3 m d)) := by
  rw [StableHlo.held_sub_split (d.tc : Thread nD τ) four_sub (V4 m d), held_four,
    StableHlo.held_congr (d.tc : Thread nD τ) (S := Pipeline.ucRefs τ sig \ four) (V := V4 m d) (V' := V3 m d) (fun b hb => by
      have h := (Finset.mem_sdiff.mp hb).2
      unfold V4
      rw [Function.update_of_ne (fun e => h (by rw [e]; decide)), Function.update_of_ne (fun e => h (by rw [e]; decide))])]
  have e1 : V4 m d (Proc.devRef .tc main_v6) = scoresOf m d := by
    unfold V4; rw [Function.update_of_ne (by decide), Function.update_of_ne (by decide)]; rfl
  have e2 : V4 m d (Proc.devRef .tc main_v7) = rankOf m d := by
    unfold V4; rw [Function.update_of_ne (by decide), Function.update_of_ne (by decide)]; rfl
  have e3 : V4 m d (Proc.devRef .tc main_v8_0) = valsOf (scoresOf m d) (rankOf m d) := by
    unfold V4; rw [Function.update_of_ne (by decide), Function.update_self]
  have e4 : V4 m d (Proc.devRef .tc main_v8_1) = idxOf (rankOf m d) := by
    unfold V4; rw [Function.update_self]
  rw [e1, e2, e3, e4]

/-! ## The launch's resources -/

/-- The calls' cells are distinct. -/
theorem phinj : Function.Injective (Pipeline.cellOf (nD := nD) (τ := τ) (Pipeline.pin (pcfgs (F := F)) adms)) :=
  launch0.toP.cellOf_inj adms

/-- The ghost state at the start. -/
def u₀ : UU :=
  (initOf (K (F := F)).hsCells (K (F := F)).hsToks,
    (initOf (Pipeline.cells (Pipeline.pin (pcfgs (F := F)) adms) phinj) (Pipeline.launchToks (Pipeline.pin (pcfgs (F := F)) adms) phinj), 1))

/-- A pipeline's share of the launch's resources on a core. -/
abbrev share (p : Fin 2) (d : Dev nD) : sProp 𝕄 :=
  iprop(Pipeline.cellsGhost (Pipeline.pin (pcfgs (F := F)) adms) EP p d ∗ Pipeline.toksInit (Pipeline.pin (pcfgs (F := F)) adms) EP p d)

abbrev GG (d : Dev nD) : sProp 𝕄 := bigSep Finset.univ fun p : Fin 2 => share p d

/-- It splits into what the threads begin with. -/
theorem hu₀ : (ownU (u₀ (F := F)) : sProp 𝕄)
    ⊢ |={Set.univ}=> iprop(BI.own (EH (initOf (K (F := F)).hsCells (K (F := F)).hsToks)) ∗ (bigSep Finset.univ fun d : Dev nD => GG d)
        ∗ bigSep Finset.univ fun thr : Thread nD τ => bigSep Finset.univ fun q : Fin 1 => (Pw m).x q thr) := by
  unfold u₀
  iintro Hu
  ihave H := (ownU_pair _ _) $$ Hu
  icases H with ⟨HH, HR⟩
  ihave H := (own_pair_emb _ _ _) $$ HR
  icases H with ⟨HP, -⟩
  ihave HP := (show BI.own (((Emb.inl : Emb UP (UP × Counters)).trans (embR : Emb (UP × Counters) 𝕄))
      (initOf (Pipeline.cells (Pipeline.pin (pcfgs (F := F)) adms) phinj) (Pipeline.launchToks (Pipeline.pin (pcfgs (F := F)) adms) phinj)))
    ⊢ BI.own (EP (initOf (Pipeline.cells (Pipeline.pin (pcfgs (F := F)) adms) phinj) (Pipeline.launchToks (Pipeline.pin (pcfgs (F := F)) adms) phinj))) from .rfl) $$ HP
  imod (Pipeline.fund_ghost (Pipeline.pin (pcfgs (F := F)) adms) EP phinj) $$ HP with ⟨Hg, Ht⟩
  imodintro
  isplitl [HH]; · iexact HH
  isplitl [Hg Ht]
  · unfold GG share
    simp only [bigSep_sep']
    isplitl [Hg]; · iexact Hg
    iexact Ht
  unfold Pw P; dsimp only
  rw [show (bigSep Finset.univ fun _ : Thread nD τ => bigSep Finset.univ fun _ : Fin 1 => (iprop(emp) : sProp 𝕄)) = iprop(emp) from by
    rw [bigSep_congr fun _ _ => bigSep_none _, bigSep_none]]
  iempintro

/-! ## The program -/

instance : (EP (F := F)).LandsIn (upEmb : UEmb _ 𝕄) := by
  unfold EP; infer_instance

/-- What the core holds between its steps: its arrays, what it owes, its share of the hand-shakes. -/
theorem tcSt_eq (d : Dev nD) (n : ℕ) : ∃ R : sProp 𝕄, (K (F := F)).tcSt EH d n = iprop(owesB n d ∗ R) := ⟨_, rfl⟩

/-- A step of a pipeline, inside the whole program. -/
theorem wp_step [∀ e, Nonempty (Elt F e)] (κ : GSem nD τ sig → ℕ) (d : Dev nD) (p : Fin 2)
    (R : Pipeline.RegionSeg (pcfgs (F := F)) adms (pdats (V1 m) (V4 m)) none (defs₀ (F := F)) 𝒱₀ (K (F := F)).L (K (F := F)).lev p)
    (Q : PUnit → sProp 𝕄) :
    iprop((K (F := F)).ctx EH (Pw m) κ ∗ boundary (d.tc : Thread nD τ) ∗ R.pre d ∗ share p d ∗ ((boundary (d.tc : Thread nD τ) ∗ R.post d) -∗ Q ⟨⟩))
      ⊢ wp frame (wpE ((K (F := F)).defs (D (F := F))) 𝒱 (SparseCore.T d) none) Set.univ
          (Prog.lift (.customCall (SparseCore.inner (Pipeline.entry p)) ())) Q := by
  refine BIBase.Entails.trans ?_ ((K (F := F)).wp_liftProg (D (F := F)) 𝒱 (SparseCore.T d) Set.univ none (Prog.lift (.customCall (Pipeline.entry p) ())) Q)
  iintro ⟨#Hctx, Hb, Hp, ⟨Hc, Ht⟩, Hk⟩
  ihave Hlev := (ctx_levAts κ) $$ Hctx
  iapply (Pipeline.RegionSeg.wp (pcfgs (F := F)) adms (pdats (V1 m) (V4 m)) none phinj EP (defs₀ (F := F)) 𝒱₀ _ _ R d none (fun _ h => nomatch h) (fun _ => .ret ⟨⟩) Q)
  isplitl [Hk]
  · iintro H
    rw [wp_ret]
    imodintro
    iapply Hk; iexact H
  isplitl [Hb]; · iexact Hb
  isplitl [Hp]; · iexact Hp
  isplitl [Hlev]; · iexact Hlev
  isplitl [Hc]; · iexact Hc
  iexact Ht

/-- The host operations before the first call touch arrays held. -/
theorem opsA_sub : ∀ op ∈ (opsA : List (HloOp τ sig (Elt F))), op.bufs ⊆ Pipeline.ucRefs τ sig := by
  unfold opsA
  intro op h
  simp only [List.mem_cons, List.not_mem_nil, or_false] at h
  rcases h with rfl | rfl | rfl | rfl | rfl
  · exact Pipeline.sub_ucRefs _ (StableHlo.reshape_bufs_sub ..)
  · exact Pipeline.sub_ucRefs _ (StableHlo.reshape_bufs_sub ..)
  · exact Pipeline.sub_ucRefs _ (StableHlo.unary_bufs_sub ..)
  · exact Pipeline.sub_ucRefs _ (StableHlo.reshape_bufs_sub ..)
  · exact Pipeline.sub_ucRefs _ (StableHlo.reshape_bufs_sub ..)

/-- So do those after it. -/
theorem opsB_sub : ∀ op ∈ (opsB : List (HloOp τ sig (Elt F))), op.bufs ⊆ Pipeline.ucRefs τ sig := by
  unfold opsB
  intro op h
  simp only [List.mem_cons, List.not_mem_nil, or_false] at h
  rcases h with rfl | rfl <;> exact Pipeline.sub_ucRefs _ (StableHlo.reshape_bufs_sub ..)

/-- They allocate nothing. -/
theorem opsA_fresh : ∀ op ∈ (opsA : List (HloOp τ sig (Elt F))), op.fresh = ∅ := by
  unfold opsA
  intro op h
  simp only [List.mem_cons, List.not_mem_nil, or_false] at h
  rcases h with rfl | rfl | rfl | rfl | rfl <;> rfl

/-- Nor do these. -/
theorem opsB_fresh : ∀ op ∈ (opsB : List (HloOp τ sig (Elt F))), op.fresh = ∅ := by
  unfold opsB
  intro op h
  simp only [List.mem_cons, List.not_mem_nil, or_false] at h
  rcases h with rfl | rfl <;> rfl

/-- The program as its steps. -/
theorem main_eq (d : Dev nD) : (main (F := F) d) = (StableHlo.seq opsA >>= fun _ =>
    (Prog.lift (.customCall (SparseCore.inner (Pipeline.entry 0)) ())) >>= fun _ => StableHlo.seq opsB >>= fun _ =>
    (K (F := F)).run d 0 >>= fun _ => (Prog.lift (.customCall (SparseCore.inner (Pipeline.entry 1)) ())) >>= fun _ => pure ⟨⟩) := by
  rfl

abbrev FIN (d : Dev nD) : sProp 𝕄 := StableHlo.held (d.tc : Thread nD τ) (Pipeline.ucRefs τ sig) (V5 m d)

/-- The program on a device, from its launch to its end. -/
theorem hmain [∀ e, Nonempty (Elt F e)] (κ : GSem nD τ sig → ℕ) (d : Dev nD) :
    iprop((K (F := F)).ctx EH (Pw m) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd GG
  obtain ⟨R0, hR0⟩ := tcSt_eq (F := F) d 0
  obtain ⟨R1, hR1⟩ := tcSt_eq (F := F) d 1
  have hb := Pipeline.unscopedBufs_held (Ix := HIx 1) (Name := ℕ) (U := UU) (Lvl := ℕ) d (V0 m d)
  rw [show (fun b => m ((SparseCore.T d).loc b)) = (fun b : Ref sig .tc => V0 m d b) from rfl, hb, bigSep_two, main_eq]
  iintro ⟨#Hctx, Hst, ⟨Hb, Hw, Hts, -⟩, ⟨HG0, HG1⟩⟩
  iapply (StableHlo.wp_seq 𝒱 none Set.univ d (Pipeline.ucRefs τ sig) _ opsA opsA_sub opsA_fresh (V0 m d)) $$ [Hb Hw]
  · isplitl [Hb] <;> iassumption
  iintro ⟨Hb, Hw⟩
  rw [wp_bind]
  ihave Hst := (Entails.of_eq hR0) $$ Hst
  icases Hst with ⟨HO, HR⟩
  ihave Hp := (show iprop(StableHlo.held (d.tc : Thread nD τ) (Pipeline.ucRefs τ sig) (V1 m d) ∗ owesB 0 d) ⊢ (step0 (V1 m) (V4 m)).pre d from .rfl) $$ [Hw HO]
  · isplitl [Hw]; · iexact Hw
    iexact HO
  iapply (wp_step m κ d 0 (step0 (V1 m) (V4 m)) _)
  isplitr; · iexact Hctx
  isplitl [Hb]; · iexact Hb
  isplitl [Hp]; · iexact Hp
  isplitl [HG0]; · iexact HG0
  iintro ⟨Hb, Hp⟩
  ihave Hp := (show (step0 (V1 m) (V4 m)).post d ⊢ iprop(StableHlo.held (d.tc : Thread nD τ) (Pipeline.ucRefs τ sig) (V2 m d) ∗ owesB 0 d) from .rfl) $$ Hp
  icases Hp with ⟨Hw, HO⟩
  ihave Hst := (Entails.of_eq hR0.symm) $$ [HO HR]
  · isplitl [HO] <;> iassumption
  iapply (StableHlo.wp_seq 𝒱 none Set.univ d (Pipeline.ucRefs τ sig) _ opsB opsB_sub opsB_fresh (V2 m d)) $$ [Hb Hw]
  · isplitl [Hb] <;> iassumption
  iintro ⟨Hb, Hw⟩
  ihave Hw := (show StableHlo.held (d.tc : Thread nD τ) (Pipeline.ucRefs τ sig) (StableHlo.after opsB (V2 m d))
      ⊢ iprop(wholeFour d (scoresOf m d) (rankOf m d) (V3 m d (Proc.devRef .tc main_v8_0)) (V3 m d (Proc.devRef .tc main_v8_1))
          ∗ StableHlo.held (d.tc : Thread nD τ) (Pipeline.ucRefs τ sig \ four) (V3 m d)) from
    Entails.of_eq ((StableHlo.held_sub_split (d.tc : Thread nD τ) four_sub (V3 m d)).trans (by rw [held_four]; rfl))) $$ Hw
  icases Hw with ⟨H4, Hw⟩
  rw [wp_bind]
  iapply ((K (F := F)).wp_run (D (F := F)) 𝒱 (EH := EH) (P := Pw m) κ d 0) $$ [Hst Hw H4 Hb Hts HG1]
  isplitr; · iexact Hctx
  isplitl [Hst]; · iexact Hst
  isplitl [H4]
  · rw [st0_eq]; iexact H4
  iintro ⟨Hst, Hdn⟩
  ihave H4 := (Entails.of_eq (dn0_eq _ _ _ _ d)) $$ Hdn
  ihave Hw := (Entails.of_eq (held_V4 m d).symm) $$ [H4 Hw]
  · isplitl [H4] <;> iassumption
  rw [wp_bind]
  ihave Hst := (show (K (F := F)).tcSt EH d ((0 : Fin 1).val + 1) ⊢ iprop(owesB 1 d ∗ R1) from Entails.of_eq hR1) $$ Hst
  icases Hst with ⟨HO, HR⟩
  ihave Hp := (show iprop(StableHlo.held (d.tc : Thread nD τ) (Pipeline.ucRefs τ sig) (V4 m d) ∗ owesB 1 d) ⊢ (step2 (V1 m) (V4 m)).pre d from .rfl) $$ [Hw HO]
  · isplitl [Hw]; · iexact Hw
    iexact HO
  iapply (wp_step m κ d 1 (step2 (V1 m) (V4 m)) _)
  isplitr; · iexact Hctx
  isplitl [Hb]; · iexact Hb
  isplitl [Hp]; · iexact Hp
  isplitl [HG1]; · iexact HG1
  iintro ⟨Hb, Hp⟩
  ihave Hp := (show (step2 (V1 m) (V4 m)).post d ⊢ iprop(StableHlo.held (d.tc : Thread nD τ) (Pipeline.ucRefs τ sig) (V5 m d) ∗ owesB 1 d) from .rfl) $$ Hp
  icases Hp with ⟨Hw, HO⟩
  ihave Hst := (Entails.of_eq hR1.symm) $$ [HO HR]
  · isplitl [HO] <;> iassumption
  rw [wp_pure]
  imodintro
  isplitl [Hst]; · iexact Hst
  isplitl [Hw]; · iexact Hw
  isplitl [Hb] <;> iassumption

/-- What the memory holds at the end. -/
def fq (d : Dev nD) (s' : Phys nD τ sig (Elt F)) : Prop := ∀ b ∈ Pipeline.ucRefs τ sig, s'.mem.mem (d, b) = V5 m d b

/-- What is held at the end says what the memory holds. -/
theorem hfin (d : Dev nD) (s' : Phys nD τ sig (Elt F)) : iprop(FIN m d ∗ SI s') ⊢ (⌜fq m d s'⌝ : sProp 𝕄) := by
  have h : ∀ b ∈ Pipeline.ucRefs τ sig, iprop(FIN m d ∗ SI s') ⊢ (⌜s'.mem.mem (d, b) = V5 m d b⌝ : sProp 𝕄) := fun b hb => by
    iintro ⟨Hw, HSI⟩
    ihave Hp := (show FIN m d ⊢ (((d, b) : Loc nD τ sig) ↦{fullShare} V5 m d b : sProp 𝕄) from
      bigSep_elim (Φ := fun b : DevRef τ sig => (((d, b) : Loc nD τ sig) ↦{fullShare} V5 m d b : sProp 𝕄)) hb) $$ Hw
    ihave H := (SI_pointsTo_agree (st := s') (ℓ := (d, b)) (I := Finset.univ) (q := fullShare) (f := V5 m d b)) $$ [HSI Hp]
    · isplitl [HSI] <;> iassumption
    icases H with %h
    ipureintro
    exact funext fun i => h i (Finset.mem_univ i)
  unfold fq
  intro x hx b hb
  exact h b hb x hx

/-- What the run ends in: the arrays at what they hold at the end, every counter at zero. -/
def QC : PUnit × MemSt nD τ sig (Elt F) → Prop := fun r =>
  (∀ d : Dev nD, ∀ b ∈ Pipeline.ucRefs τ sig, r.2.mem (d, b) = V5 m d b) ∧ r.2.sem = fun _ => 0

/-- The whole program's run, where the ranks the first call computes are rankings. -/
theorem run_main [∀ e, Nonempty (Elt F e)] (hr : ∀ d i, IsRanking (ranksOf (rankOf m d) i)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pw m) (A := ∅) facts v₀
    (fun q hq => match q with | 0 => nomatch hq)
    (fun q _ => match q with | 0 => tileObl _ _ _ _ hr)
    (fun q _ => match q with | 0 => SparseCore.Cfg.VecSplit.of_plain (vecSplit _ _ _ _))
    m ρ main GG (FIN m) (u₀ (F := F)) (sep_elim_left.trans (hu₀ m)) (hmain m ρ) (fq m) (hfin m) (QC m) (fun _ h hz => ⟨h, hz⟩)

end Cert.Proof.Whole

end
-- ==== Proof.Arrays.lean ====
/-
  What the pipelines leave in their arrays, element by element.
-/
module

public import proofs.«01_k».proof.Proof.Whole
public import Idealize.ShloMosaic.Lib.Pipeline.ValueKit
public import Idealize.ShloMosaic.Lib.StableHlo.RunRead

@[expose] public section

noncomputable section

namespace Cert.Proof.Whole

open Cert.KernelIdeal Cert.KernelIdeal.Gen Cert.Counting

open Idealize.ShloMosaic Idealize.ShloMosaic.TcCoe
open Idealize.ShloMosaic.Pipeline (Dat Cfg Window)

variable {F : FTy → Type} [FloatOps F]

variable (m : (ℓ : Loc nD τ sig) → Buf (Elt F) ℓ)

/-- One batch row of the inputs. -/
def batchOf (X : Vec F S64x2048x128 .f32) (i : Fin 64) : Vec F S1x2048x128 .f32 := fun z => X (ix3 i (z 1) (z 2))

/-- The block that a window takes at a grid step. -/
theorem index0_0 : ∀ t : Fin cfg0.N, win0_0.index t = ![t.val, 0, 0] := (by decide +kernel : ∀ t : Fin grid0.N, _)
/-- The block that a window takes at a grid step. -/
theorem index0_1 : ∀ t : Fin cfg0.N, win0_1.index t = ![0, 0] := (by decide +kernel : ∀ t : Fin grid0.N, _)
/-- The block that a window takes at a grid step. -/
theorem index0_2 : ∀ t : Fin cfg0.N, win0_2.index t = ![0, 0] := (by decide +kernel : ∀ t : Fin grid0.N, _)
/-- The block that a window takes at a grid step. -/
theorem index0_3 : ∀ t : Fin cfg0.N, win0_3.index t = ![0, 0] := (by decide +kernel : ∀ t : Fin grid0.N, _)
/-- The block that a window takes at a grid step. -/
theorem index0_4 : ∀ t : Fin cfg0.N, win0_4.index t = ![t.val, 0, 0] := (by decide +kernel : ∀ t : Fin grid0.N, _)
/-- The block that a window takes at a grid step. -/
theorem index0_5 : ∀ t : Fin cfg0.N, win0_5.index t = ![t.val, 0, 0] := (by decide +kernel : ∀ t : Fin grid0.N, _)

variable (V : Dev nD → Valuation τ sig (Elt F))

/-- The block of inputs at a grid step. -/
theorem blk0_x (d : Dev nD) (t : Fin cfg0.N) : blk0 V d 0 t = batchOf (V d (Proc.devRef .tc main_arg0)) ⟨t.val, t.isLt⟩ := by
  funext z
  unfold blk0 batchOf
  blk_simp
  refine congrArg (V d (Proc.devRef .tc main_arg0)) ?_
  blk_ext [index0_0 t]

/-- The block of weights: all of them. -/
theorem blk0_w (d : Dev nD) (t : Fin cfg0.N) : blk0 V d 1 t = V d (Proc.devRef .tc main_arg1) := by
  funext z
  unfold blk0
  blk_simp
  refine congrArg (V d (Proc.devRef .tc main_arg1)) ?_
  blk_ext [index0_1 t]

/-- The block of widened weights: all of them. -/
theorem blk0_r (d : Dev nD) (t : Fin cfg0.N) : blk0 V d 2 t = V d (Proc.devRef .tc main_v3) := by
  funext z
  unfold blk0
  blk_simp
  refine congrArg (V d (Proc.devRef .tc main_v3)) ?_
  blk_ext [index0_2 t]

/-- The block of the bias. -/
theorem blk0_b (d : Dev nD) (t : Fin cfg0.N) : blk0 V d 3 t = V d (Proc.devRef .tc main_v4) := by
  funext z
  unfold blk0
  blk_simp
  refine congrArg (V d (Proc.devRef .tc main_v4)) ?_
  blk_ext [index0_3 t]

/-- The scores, element by element. -/
theorem score_arr (d : Dev nD) : (dA m d).arrAt 4 cfg0.N = fun y : S64x1x2048.Idx =>
    scoreOut (batchOf (V1 m d (Proc.devRef .tc main_arg0)) (y 0)) (V1 m d (Proc.devRef .tc main_arg1)) (V1 m d (Proc.devRef .tc main_v4)) (ix3 0 0 (y 2)) := by
  refine (dA m d).arrAt_eq_of_covers 4 _ (by decide +kernel) fun t hf y => ?_
  blk_simp
  rw [dat0_after4, blk0_x, blk0_w, blk0_b]
  have h0 : (win0_4.blk t).view.emb y 0 = (⟨t.val, t.isLt⟩ : Fin 64) := by
    apply Fin.ext
    have := (y 0).isLt
    blk_simp [index0_4 t]
  rw [h0]
  refine congrArg _ ?_
  blk_ext [index0_4 t]

/-- The ranks, element by element. -/
theorem rank_arr (d : Dev nD) : (dA m d).arrAt 5 cfg0.N = fun y : S64x1x2048.Idx =>
    rankOut (batchOf (V1 m d (Proc.devRef .tc main_arg0)) (y 0)) (V1 m d (Proc.devRef .tc main_arg1)) (V1 m d (Proc.devRef .tc main_v3))
      (V1 m d (Proc.devRef .tc main_v4)) (ix3 0 0 (y 2)) := by
  refine (dA m d).arrAt_eq_of_covers 5 _ (by decide +kernel) fun t hf y => ?_
  blk_simp
  rw [dat0_after5, blk0_x, blk0_w, blk0_r, blk0_b]
  have h0 : (win0_5.blk t).view.emb y 0 = (⟨t.val, t.isLt⟩ : Fin 64) := by
    apply Fin.ext
    have := (y 0).isLt
    blk_simp [index0_5 t]
  rw [h0]
  refine congrArg _ ?_
  blk_ext [index0_5 t]

/-- Eight rows of an array. -/
def eightOf (X : Vec F S64x2048 .f32) (t : Fin 8) : Vec F S8x2048 .f32 := fun z => X (ix2 ⟨8 * t.val + (z 0).val, by
  have := (z 0).isLt; have h : (z 0).val < 8 := this; have := t.isLt; omega⟩ (z 1))

/-- The block that a window takes at a grid step. -/
theorem index2_0 : ∀ t : Fin cfg2.N, win2_0.index t = ![t.val, 0] := (by decide +kernel : ∀ t : Fin grid2.N, _)
/-- The block that a window takes at a grid step. -/
theorem index2_1 : ∀ t : Fin cfg2.N, win2_1.index t = ![t.val, 0] := (by decide +kernel : ∀ t : Fin grid2.N, _)

/-- The block of scores in order at a grid step: eight rows. -/
theorem blk2_x (d : Dev nD) (t : Fin cfg2.N) : blk2 V d 0 t = eightOf (V d (Proc.devRef .tc main_v8_0)) ⟨t.val, t.isLt⟩ := by
  funext z
  unfold blk2 eightOf
  blk_simp
  refine congrArg (V d (Proc.devRef .tc main_v8_0)) ?_
  blk_ext [index2_0 t]

/-- The log-probabilities, element by element. -/
theorem sums_arr (d : Dev nD) (f : Vec F S64x2048 .f32)
    (hf : ∀ (t : Fin 8) (z : S8x2048.Idx) (i : S64x2048.Idx), (i 0).val = 8 * t.val + (z 0).val → (i 1).val = (z 1).val →
      suffixOut (eightOf (V4 m d (Proc.devRef .tc main_v8_0)) t) z = f i) :
    (dC m d).arrAt 1 cfg2.N = f := by
  refine (dC m d).arrAt_eq_of_covers 1 _ (by decide +kernel) fun t _ y => ?_
  blk_simp
  rw [dat2_after1, blk2_x]
  refine hf _ _ _ ?_ ?_
  · blk_simp [index2_1 t]
    show _ = 8 * t.val + (y 0).val
    omega
  · blk_simp [index2_1 t]

/-- The weights, a column of them for every threshold. -/
abbrev wideOf (w : Vec F S1x128 .f32) : Vec F S128x128 .f32 :=
  shapeCast S128x128 (broadcastInDim S1x128x128x1 ![0, 1, 2, 3] bcast_S1x128x1x1_S1x128x128x1_0_1_2_3
    (shapeCast S1x128x1x1 (shapeCast S128x1 w shapeCasts_S1x128_S128x1) shapeCasts_S128x1_S1x128x1x1 : Vec F S1x128x1x1 .f32) : Vec F S1x128x128x1 .f32) shapeCasts_S1x128x128x1_S128x128

abbrev biasAt (b : Vec F S1 .f32) : Vec F S1x1 .f32 := shapeCast S1x1 b shapeCasts_S1_S1x1

/-- An argument is unchanged there. -/
theorem V1_arg0 (d : Dev nD) : V1 m d (Proc.devRef .tc main_arg0) = m (d, Proc.devRef .tc main_arg0) := by
  unfold V1 opsA V0
  after_reads_simp
/-- An argument is unchanged there. -/
theorem V1_arg1 (d : Dev nD) : V1 m d (Proc.devRef .tc main_arg1) = m (d, Proc.devRef .tc main_arg1) := by
  unfold V1 opsA V0
  after_reads_simp
/-- An argument is unchanged there. -/
theorem V1_arg2 (d : Dev nD) : V1 m d (Proc.devRef .tc main_arg2) = m (d, Proc.devRef .tc main_arg2) := by
  unfold V1 opsA V0
  after_reads_simp
/-- An argument is unchanged there. -/
theorem V1_arg3 (d : Dev nD) : V1 m d (Proc.devRef .tc main_arg3) = m (d, Proc.devRef .tc main_arg3) := by
  unfold V1 opsA V0
  after_reads_simp
/-- Before the first call the weights stand widened. -/
theorem V1_v3 (d : Dev nD) : V1 m d (Proc.devRef .tc main_v3) = wideOf (m (d, Proc.devRef .tc main_arg1)) := by
  unfold V1 opsA V0
  after_reads_simp
  rfl
/-- And the bias as a block. -/
theorem V1_v4 (d : Dev nD) : V1 m d (Proc.devRef .tc main_v4) = biasAt (m (d, Proc.devRef .tc main_arg2)) := by
  unfold V1 opsA V0
  after_reads_simp
  rfl

/-! ## After the first call -/

/-- After the first call an operand's array is what the grid leaves. -/
theorem V2_arr (d : Dev nD) (w : Fin cfg0.W) : V2 m d (Proc.devRef .tc (Pipeline.arrRef spec0 w)) = (dA m d).arrAt w cfg0.N :=
  Pipeline.afterRegion_arr (dA m d) (V1 m d) winFacts0.arr_inj w

/-- The scores of a batch of inputs. -/
def scoreMat (X : Vec F S64x2048x128 .f32) (w : Vec F S1x128 .f32) (b : Vec F S1 .f32) : Vec F S64x2048 .f32 := fun y =>
  scoreOut (batchOf X (y 0)) w (biasAt b) (ix3 0 0 (y 1))

/-- The ranks of a batch of inputs. -/
def rankMat (X : Vec F S64x2048x128 .f32) (w : Vec F S1x128 .f32) (b : Vec F S1 .f32) : IVec S64x2048 32 := fun y =>
  rankOut (batchOf X (y 0)) w (wideOf w) (biasAt b) (ix3 0 0 (y 1))

/-- The scatter's first operand: the scores. -/
theorem scoresOf_eq (d : Dev nD) : scoresOf m d
    = scoreMat (m (d, Proc.devRef .tc main_arg0)) (m (d, Proc.devRef .tc main_arg1)) (m (d, Proc.devRef .tc main_arg2)) := by
  have h : scoresOf m d = shapeCast S64x2048 (V2 m d (Proc.devRef .tc main_v5_0) : Vec F S64x1x2048 .f32) shapeCasts_S64x1x2048_S64x2048 := by
    unfold scoresOf V3 opsB
    after_reads_simp
    rfl
  rw [h, show V2 m d (Proc.devRef .tc main_v5_0) = _ from V2_arr m d 4, score_arr, V1_arg0, V1_arg1, V1_v4]
  funext y
  unfold scoreMat
  exact (shapeCast_apply (s := S64x1x2048) _ _ _ (ix3 (y 0) 0 (y 1)) (by
    rw [Shape.rowMajor_val_three, Shape.rowMajor_val_two]
    show ((y 0).val * 1 + 0) * 2048 + (y 1).val = (y 0).val * 2048 + (y 1).val
    omega)).trans rfl

/-- The scatter's second operand: the ranks. -/
theorem rankOf_eq (d : Dev nD) : rankOf m d
    = rankMat (m (d, Proc.devRef .tc main_arg0)) (m (d, Proc.devRef .tc main_arg1)) (m (d, Proc.devRef .tc main_arg2)) := by
  have h : rankOf m d = shapeCast S64x2048 (V2 m d (Proc.devRef .tc main_v5_1) : IVec S64x1x2048 32) shapeCasts_S64x1x2048_S64x2048 := by
    unfold rankOf V3 opsB
    after_reads_simp
    rfl
  rw [h, show V2 m d (Proc.devRef .tc main_v5_1) = _ from V2_arr m d 5, rank_arr, V1_arg0, V1_arg1, V1_v3, V1_v4]
  funext y
  unfold rankMat
  exact (shapeCast_apply (s := S64x1x2048) _ _ _ (ix3 (y 0) 0 (y 1)) (by
    rw [Shape.rowMajor_val_three, Shape.rowMajor_val_two]
    show ((y 0).val * 1 + 0) * 2048 + (y 1).val = (y 0).val * 2048 + (y 1).val
    omega)).trans rfl

/-! ## At the end -/

/-- At the end the first result is what the third call's grid leaves. -/
theorem V5_sums (d : Dev nD) : V5 m d (Proc.devRef .tc main_v9) = (dC m d).arrAt 1 cfg2.N :=
  Pipeline.afterRegion_arr (dC m d) (V4 m d) winFacts2.arr_inj 1

/-- After the scatter its first result holds the scores in the order of the ranks. -/
theorem V4_scores (d : Dev nD) : V4 m d (Proc.devRef .tc main_v8_0) = valsOf (scoresOf m d) (rankOf m d) := by
  unfold V4; rw [Function.update_of_ne (by decide), Function.update_self]

/-- At the end the second result holds the elements in the order of the ranks. -/
theorem V5_chosen (d : Dev nD) : V5 m d (Proc.devRef .tc main_v8_1) = idxOf (rankOf m d) := by
  unfold V5
  rw [Pipeline.afterRegion_of_not_arr (dC m d) (V4 m d) (by decide)]
  unfold V4
  rw [Function.update_self]

/-- What neither the scatter nor the third call writes stays as the first call left it. -/
theorem V5_V2 (d : Dev nD) (r : Ref sig .tc) (h2 : ∀ w, r ≠ Pipeline.arrRef spec2 w) (h3 : r ≠ main_v8_1) (h4 : r ≠ main_v8_0) (h5 : r ≠ main_v6) (h6 : r ≠ main_v7) :
    V5 m d (Proc.devRef .tc r) = V2 m d (Proc.devRef .tc r) := by
  unfold V5
  rw [Pipeline.afterRegion_of_not_arr (dC m d) (V4 m d) h2]
  unfold V4
  rw [Function.update_of_ne (fun e => h3 (Proc.devRef_injective _ e)), Function.update_of_ne (fun e => h4 (Proc.devRef_injective _ e))]
  unfold V3 opsB
  rw [StableHlo.after_cons, StableHlo.after_cons, StableHlo.after_nil, StableHlo.reshape_result_ne' (h := h6), StableHlo.reshape_result_ne' (h := h5)]

/-- An argument is unchanged there. -/
theorem V5_arg0 (d : Dev nD) : V5 m d (Proc.devRef .tc main_arg0) = m (d, Proc.devRef .tc main_arg0) := by
  rw [V5_V2 m d main_arg0 (by decide) (by decide) (by decide) (by decide) (by decide), ← V1_arg0 m d]
  exact (V2_arr m d 0).trans ((dA m d).arrAt_in 0 rfl _)
/-- An argument is unchanged there. -/
theorem V5_arg1 (d : Dev nD) : V5 m d (Proc.devRef .tc main_arg1) = m (d, Proc.devRef .tc main_arg1) := by
  rw [V5_V2 m d main_arg1 (by decide) (by decide) (by decide) (by decide) (by decide), ← V1_arg1 m d]
  exact (V2_arr m d 1).trans ((dA m d).arrAt_in 1 rfl _)
/-- An argument is unchanged there. -/
theorem V5_arg2 (d : Dev nD) : V5 m d (Proc.devRef .tc main_arg2) = m (d, Proc.devRef .tc main_arg2) := by
  rw [V5_V2 m d main_arg2 (by decide) (by decide) (by decide) (by decide) (by decide), ← V1_arg2 m d]
  exact Pipeline.afterRegion_of_not_arr (dA m d) (V1 m d) (by decide)
/-- An argument is unchanged there. -/
theorem V5_arg3 (d : Dev nD) : V5 m d (Proc.devRef .tc main_arg3) = m (d, Proc.devRef .tc main_arg3) := by
  rw [V5_V2 m d main_arg3 (by decide) (by decide) (by decide) (by decide) (by decide), ← V1_arg3 m d]
  exact Pipeline.afterRegion_of_not_arr (dA m d) (V1 m d) (by decide)

end Cert.Proof.Whole

end
-- ==== Proof.Ranks.lean ====
/-
  What the first call's outputs are: each score a product of a row and the weights, each rank the number of larger scores.
-/
module

public import proofs.«01_k».proof.Proof.Scores
public import Idealize.ShloMosaic.Lib.Pipeline.ValueKit
public import Idealize.ShloMosaic.Lib.MatmulPlain
public import Idealize.ShloMosaic.PureOps.Reduce
public import Mathlib.Data.BitVec

@[expose] public section

set_option maxRecDepth 16384

noncomputable section

namespace Cert.Proof.Whole

open Cert.KernelIdeal Cert.KernelIdeal.Gen Cert.Counting
open Idealize.ShloMosaic Idealize.ShloMosaic.TcCoe

variable {F : FTy → Type} [FloatOps F]

/-! ## Layout -/

/-- A row of 128 as a 1×1×128 block and back. -/
theorem row_block {α : Type} (v : S1x128.Idx → α) (l : Fin 128) :
    shapeCast S1x1x128 v shapeCasts_S1x128_S1x1x128 (ix3 0 0 l) = v (ix2 0 l) :=
  shapeCast_apply _ _ _ (ix2 0 l) (by
    rw [Shape.rowMajor_val_two, Shape.rowMajor_val_three]
    show 0 * 128 + l.val = (0 * 1 + 0) * 128 + l.val
    omega)

/-- A block of one row, read as a row. -/
theorem block_row {α : Type} (v : S1x1x128.Idx → α) (l : Fin 128) :
    shapeCast S1x128 v shapeCasts_S1x1x128_S1x128 (ix2 0 l) = v (ix3 0 0 l) :=
  shapeCast_apply _ _ _ (ix3 0 0 l) (by
    rw [Shape.rowMajor_val_two, Shape.rowMajor_val_three]
    show (0 * 1 + 0) * 128 + l.val = 0 * 128 + l.val
    omega)

/-- Column `l` of piece `g` of sixteen pieces of 128 columns. -/
abbrev colAt (g : Fin 16) (l : Fin 128) : Fin 2048 := ⟨128 * g.val + l.val, by omega⟩

/-- A piece of the scores. -/
theorem piece_apply (v : S1x2048.Idx → F .f32) (g : Fin 16) (o : ℕ) (ho : o = 128 * g.val) (h : S1x2048.Slices ![0, o] S1x128) (l : Fin 128) :
    shapeCast S1x1x128 (extractStridedSlice S1x128 ![0, o] v h) shapeCasts_S1x128_S1x1x128 (ix3 0 0 l) = v (ix2 0 (colAt g l)) := by
  subst ho
  rw [row_block]
  exact congrArg v (funext fun a => Fin.ext (by
    fin_cases a
    · rfl
    · rfl))

/-! ## The thresholds -/

/-- An index of such a block. -/
theorem ix3_eta (y : S1x1x128.Idx) : y = ix3 0 0 (y 2) := by
  funext a
  fin_cases a
  · exact Fin.ext (by have h : (y 0).val < 1 := (y 0).isLt; show (y 0).val = 0; omega)
  · exact Fin.ext (by have h : (y 1).val < 1 := (y 1).isLt; show (y 1).val = 0; omega)
  · rfl

/-- The thresholds are the scores, 128 to a row. -/
theorem thOf_apply (x0 : Vec F S1x2048x128 .f32) (x1 : Vec F S1x128 .f32) (x3 : Vec F S1x1 .f32) (g : Fin 16) (l : Fin 128) :
    thOf x0 x1 x3 (ix3 g 0 l) = k0_pay71 (View.ld x0 rXs) (View.ld x1 rWs) (biasOf x3) (ix2 0 (colAt g l)) := by
  unfold thOf
  refine View.canon_eq_of_allAt _ _ _ (coverTh _ _ _ _) ?_
  unfold thPieces
  generalize hs : k0_pay71 (View.ld x0 rXs) (View.ld x1 rWs) (biasOf x3) = s
  have key : ∀ (k : Fin 16) (o : ℕ) (ho : o = 128 * k.val) (h : S1x2048.Slices ![0, o] S1x128),
      View.TileAt (Val := Elt F) (S := S16x1x128) (e := .f32) (ix3 g 0 l) ![k.val, 0, 0] S1x1x128.size (shapeCast S1x1x128 (extractStridedSlice S1x128 ![0, o] s h) shapeCasts_S1x128_S1x1x128) (s (ix2 0 (colAt g l))) := by
    intro k o ho h x hx
    have h0 : g.val = k.val + (x 0).val := hx 0
    have h2 : l.val = 0 + (x 2).val := hx 2
    have e0 : (x 0).val < 1 := (x 0).isLt
    have hg : g = k := Fin.ext (by omega)
    have hl : l = x 2 := Fin.ext (by omega)
    subst hg hl
    exact (congrArg _ (ix3_eta x)).trans (piece_apply s g o ho h (x 2))
  refine View.allAt_cons_unit _ _ _ _ _ (key 15 _ rfl slices_S1x2048_o0_1920_S1x128) ?_
  refine View.allAt_cons_unit _ _ _ _ _ (key 14 _ rfl slices_S1x2048_o0_1792_S1x128) ?_
  refine View.allAt_cons_unit _ _ _ _ _ (key 13 _ rfl slices_S1x2048_o0_1664_S1x128) ?_
  refine View.allAt_cons_unit _ _ _ _ _ (key 12 _ rfl slices_S1x2048_o0_1536_S1x128) ?_
  refine View.allAt_cons_unit _ _ _ _ _ (key 11 _ rfl slices_S1x2048_o0_1408_S1x128) ?_
  refine View.allAt_cons_unit _ _ _ _ _ (key 10 _ rfl slices_S1x2048_o0_1280_S1x128) ?_
  refine View.allAt_cons_unit _ _ _ _ _ (key 9 _ rfl slices_S1x2048_o0_1152_S1x128) ?_
  refine View.allAt_cons_unit _ _ _ _ _ (key 8 _ rfl slices_S1x2048_o0_1024_S1x128) ?_
  refine View.allAt_cons_unit _ _ _ _ _ (key 7 _ rfl slices_S1x2048_o0_896_S1x128) ?_
  refine View.allAt_cons_unit _ _ _ _ _ (key 6 _ rfl slices_S1x2048_o0_768_S1x128) ?_
  refine View.allAt_cons_unit _ _ _ _ _ (key 5 _ rfl slices_S1x2048_o0_640_S1x128) ?_
  refine View.allAt_cons_unit _ _ _ _ _ (key 4 _ rfl slices_S1x2048_o0_512_S1x128) ?_
  refine View.allAt_cons_unit _ _ _ _ _ (key 3 _ rfl slices_S1x2048_o0_384_S1x128) ?_
  refine View.allAt_cons_unit _ _ _ _ _ (hs ▸ key 2 _ rfl slices_S1x2048_o0_256_S1x128) ?_
  refine View.allAt_cons_unit _ _ _ _ _ (hs ▸ key 1 _ rfl slices_S1x2048_o0_128_S1x128) ?_
  refine View.allAt_cons_unit _ _ _ _ _ (hs ▸ key 0 _ rfl slices_S1x2048_o0_0_S1x128) ?_
  exact View.allAt_nil _ _

/-! ## Counting -/

/-- Whether the score at row `i` and column `l` is above the column's threshold, as a number. -/
def above (th : FVec F S1x128 .f32) (rep : Vec F S2048x128 .f32) (i : Fin 2048) (l : Fin 128) : ℕ :=
  (FloatOps.cmpf .ogt (rep (ix2 i l)) (th (ix2 0 l))).toNat

/-- Row `r` of chunk `c` of 128 chunks of sixteen rows. -/
abbrev rowAt (c : Fin 128) (r : Fin 16) : Fin 2048 := ⟨16 * c.val + r.val, by omega⟩

/-- One comparison of a chunk. -/
theorem hits_chunk (th : FVec F S1x128 .f32) (rep : Vec F S2048x128 .f32) (c : Fin 128) (r : Fin 16) (l : Fin 128) :
    hits th (chunk rep c.val) (ix2 r l) = ((above th rep (rowAt c r) l : ℕ) : BitVec 32) := by
  have e : chunk rep c.val (ix2 r l) = rep (ix2 (rowAt c r) l) := by
    unfold chunk
    rw [dif_pos c.isLt]
    exact View.ld_unit_apply_of rep _ _ _ _ _ fun a => by
      fin_cases a
      · rfl
      · show l.val = 0 + l.val; omega
  have e' : broadcastTo S16x128 th broadcasts_S1x128_S16x128 (ix2 r l) = th (ix2 0 l) := congrArg th (funext fun a => Fin.ext (by
    fin_cases a
    · rfl
    · rfl))
  show BitVec.setWidth 32 (FloatOps.cmpf .ogt (chunk rep c.val (ix2 r l)) (broadcastTo S16x128 th broadcasts_S1x128_S16x128 (ix2 r l))) = _
  rw [e, e', ← BitVec.ofNat_toNat]
  rfl

/-- One of the four running counts, at an element. -/
theorem tally_apply (th : FVec F S1x128 .f32) (rep : Vec F S2048x128 .f32) (j : Fin 4) (r : Fin 16) (l : Fin 128) (n : ℕ) (hn : n ≤ 32) :
    tally th rep j.val n (ix2 r l) = ((∑ k : Fin n, above th rep (rowAt ⟨4 * k.val + j.val, by omega⟩ r) l : ℕ) : BitVec 32) := by
  induction n with
  | zero => rfl
  | succ n ih =>
    rw [Fin.sum_univ_castSucc]
    push_cast
    show tally th rep j.val n (ix2 r l) + hits th (chunk rep (4 * n + j.val)) (ix2 r l) = _
    rw [ih (by omega), hits_chunk th rep ⟨4 * n + j.val, by omega⟩ r l]
    push_cast
    rfl

/-- Words added up one after another. -/
theorem foldl_add {ι : Type} (f : ι → BitVec 32) (l : List ι) (a : BitVec 32) : l.foldl (fun acc r => IntOp.addi acc (f r)) a = a + (l.map f).sum := by
  induction l generalizing a with
  | nil => simp
  | cons x l ih => rw [List.foldl_cons, ih, List.map_cons, List.sum_cons]; show a + f x + _ = _; rw [add_assoc]

/-- A row of ranks: how many of the scores are above each threshold. -/
theorem rankRow_apply (th : FVec F S1x128 .f32) (rep : Vec F S2048x128 .f32) (l : Fin 128) :
    rankRow th rep (ix3 0 0 l) = ((∑ i : Fin 2048, above th rep i l : ℕ) : BitVec 32) := by
  unfold rankRow
  rw [row_block, shapeCast_apply (s := S128) _ _ _ (ix1 l) (by
    rw [Shape.rowMajor_val_one, Shape.rowMajor_val_two]; show l.val = 0 * 128 + l.val; omega)]
  refine (congrFun (multiReductionI_eq_reduceFold .add _ 0#32 reduces_S16x128_S128 rfl) _).trans ?_
  rw [reduceFold_rows]
  have e : ∀ r : Fin 16, (Shape.pair (d := ![16, 128]) r (reduces_S16x128_S128.col (ix1 l))) = ix2 r l := fun r => funext fun a => Fin.ext (by
    fin_cases a
    · rfl
    · rfl)
  refine (foldl_add (ι := Fin 16) _ _ _).trans ?_
  show 0#32 + ((List.finRange 16).map fun r : Fin 16 => addi (addi (addi (tally th rep 0 32) (tally th rep 1 32)) (tally th rep 2 32)) (tally th rep 3 32) (Shape.pair (d := ![16, 128]) r (reduces_S16x128_S128.col (ix1 l)))).sum = _
  rw [← List.ofFn_eq_map, List.sum_ofFn]
  refine (BitVec.zero_add _).trans ?_
  have e' : ∀ r : Fin 16, addi (addi (addi (tally th rep 0 32) (tally th rep 1 32)) (tally th rep 2 32)) (tally th rep 3 32) (Shape.pair (d := ![16, 128]) r (reduces_S16x128_S128.col (ix1 l)))
      = ((∑ c : Fin 128, above th rep (rowAt c r) l : ℕ) : BitVec 32) := by
    intro r
    rw [e r]
    show tally th rep (0 : Fin 4).val 32 (ix2 r l) + tally th rep (1 : Fin 4).val 32 (ix2 r l) + tally th rep (2 : Fin 4).val 32 (ix2 r l) + tally th rep (3 : Fin 4).val 32 (ix2 r l) = _
    rw [tally_apply th rep 0 r l 32 le_rfl, tally_apply th rep 1 r l 32 le_rfl, tally_apply th rep 2 r l 32 le_rfl, tally_apply th rep 3 r l 32 le_rfl]
    rw [← Equiv.sum_comp (finProdFinEquiv (m := 32) (n := 4)), Fintype.sum_prod_type]
    simp only [Fin.sum_univ_four, Finset.sum_add_distrib]
    push_cast
    rfl
  refine (Finset.sum_congr rfl fun r _ => e' r).trans ?_
  rw [← Equiv.sum_comp (finProdFinEquiv (m := 128) (n := 16)), Fintype.sum_prod_type, Finset.sum_comm]
  push_cast
  refine Finset.sum_congr rfl fun r _ => Finset.sum_congr rfl fun c _ => ?_
  congr 2
  exact Fin.ext (by show 16 * c.val + r.val = r.val + 16 * c.val; omega)

/-! ## The two outputs -/

/-- The row of scores as a block. -/
theorem score_block {α : Type} (v : S1x2048.Idx → α) (j : Fin 2048) :
    shapeCast S1x1x2048 v shapeCasts_S1x2048_S1x1x2048 (ix3 0 0 j) = v (ix2 0 j) :=
  shapeCast_apply _ _ _ (ix2 0 j) (by
    rw [Shape.rowMajor_val_two, Shape.rowMajor_val_three]
    show 0 * 2048 + j.val = (0 * 1 + 0) * 2048 + j.val
    omega)

/-- A load of the whole block is the block. -/
theorem ld_rXs (x : Vec F S1x2048x128 .f32) : View.ld x rXs = x := View.ld_unit_zero (funext fun a => by fin_cases a <;> rfl) _ _
/-- A load of the whole block is the block. -/
theorem ld_rWs (x : Vec F S1x128 .f32) : View.ld x rWs = x := View.ld_unit_zero (funext fun a => by fin_cases a <;> rfl) _ _
/-- A load of the whole block is the block. -/
theorem ld_rWr (x : Vec F S128x128 .f32) : View.ld x rWr = x := View.ld_unit_zero (funext fun a => by fin_cases a <;> rfl) _ _
/-- A load of the whole block is the block. -/
theorem ld_rBs (x : Vec F S1x1 .f32) : View.ld x rBs = x := View.ld_unit_zero (funext fun a => by fin_cases a <;> rfl) _ _

/-- The bias that the body reads. -/
theorem biasOf_eq (x : Vec F S1x1 .f32) : biasOf x = x (ix2 0 0) := by
  unfold biasOf
  rw [ld_rBs]
  exact congrArg x (funext fun a => by fin_cases a <;> rfl)

/-- A score of the block. -/
theorem scoreOut_apply (x0 : Vec F S1x2048x128 .f32) (x1 : Vec F S1x128 .f32) (x3 : Vec F S1x1 .f32) (j : Fin 2048) :
    scoreOut x0 x1 x3 (ix3 0 0 j) = k0_pay71 x0 x1 (x3 (ix2 0 0)) (ix2 0 j) := by
  unfold scoreOut scorePieces
  rw [View.canon_cons_unit_lit _ _ _ (by decide), ld_rXs, ld_rWs, biasOf_eq]
  unfold k0_pay72
  exact score_block _ j

/-- The second product, with the bias. -/
theorem repOf_eq (x0 : Vec F S1x2048x128 .f32) (x2 : Vec F S128x128 .f32) (x3 : Vec F S1x1 .f32) : repOf x0 x2 x3 = k0_pay73 x0 x2 (x3 (ix2 0 0)) := by
  unfold repOf repPieces
  rw [View.canon_cons_unit_lit _ _ _ (by decide), ld_rXs, ld_rWr, biasOf_eq]

/-- A rank: the count of the larger scores. -/
theorem rankAll_apply (th : Vec F S16x1x128 .f32) (rep : Vec F S2048x128 .f32) (g : Fin 16) (l : Fin 128) :
    rankAll th rep (ix3 g 0 l) = ((∑ i : Fin 2048, (FloatOps.cmpf .ogt (rep (ix2 i l)) (th (ix3 g 0 l))).toNat : ℕ) : BitVec 32) := by
  unfold rankAll
  have e : (fun a => ⟨(![0, 0, ((ix3 g 0 l : S16x1x128.Idx) 2).val] : Fin 3 → ℕ) a, by
      have := ((ix3 g 0 l : S16x1x128.Idx) 2).isLt
      revert this
      fin_cases a
      · intro _; show 0 < 1; omega
      · intro _; show 0 < 1; omega
      · exact fun h => h⟩ : S1x1x128.Idx) = ix3 0 0 l := funext fun a => Fin.ext (by fin_cases a <;> rfl)
  refine (congrArg _ e).trans ((rankRow_apply _ rep l).trans ?_)
  refine congrArg _ (Finset.sum_congr rfl fun i _ => ?_)
  unfold above
  refine congrArg (fun t => (FloatOps.cmpf .ogt (rep (ix2 i l)) t).toNat) ?_
  unfold k0_pay2
  refine (block_row _ l).trans ?_
  exact View.ld_unit_apply_of th _ _ _ _ _ fun a => by
    refine Eq.trans ?_ (congrArg (fun o : Fin 3 → ℕ => o a + ((ix3 0 0 l : S1x1x128.Idx) a).val) (k0_off1_eq _).symm)
    fin_cases a
    · show g.val = g.val + 0; omega
    · rfl
    · show l.val = 0 + l.val; omega

/-- A piece of ranks lies within them. -/
theorem rankPiece_inb (g : Fin 16) : ∀ a : Fin 3, (![g.val, 0, 0] : Fin 3 → ℕ) a + S1x1x128.size a ≤ S16x1x128.size a := by
  intro a
  fin_cases a
  · show g.val + 1 ≤ 16; omega
  · show 0 + 1 ≤ 1; omega
  · show 0 + 128 ≤ 128; omega

/-- A row of the ranks. -/
def rankPiece (x9 : Vec F S16x1x128 .i32) (g : Fin 16) : IVec S1x128 32 :=
  shapeCast S1x128 (View.ld x9 (Rect.unit (s := S16x1x128) ![g.val, 0, 0] S1x1x128.size (rankPiece_inb g))) shapeCasts_S1x1x128_S1x128

/-- A piece of ranks at an element. -/
theorem rankPiece_apply (x9 : Vec F S16x1x128 .i32) (g : Fin 16) (l : Fin 128) : rankPiece (F := F) x9 g (ix2 0 l) = x9 (ix3 g 0 l) := by
  unfold rankPiece
  refine (block_row _ l).trans ?_
  exact View.ld_unit_apply_of x9 _ _ _ _ _ fun a => by
    fin_cases a
    · rfl
    · rfl
    · show l.val = 0 + l.val; omega

/-- The ranks of the block, joined from the pieces. -/
theorem rankOut_canon (x9 : Vec F S16x1x128 .i32) (j : Fin 2048) :
    View.canon (rankPieces (F := F) x9) (ix3 0 0 j) = x9 (ix3 ⟨j.val / 128, by omega⟩ 0 ⟨j.val % 128, by omega⟩) := by
  unfold rankPieces
  rw [View.canon_cons_unit_lit _ _ _ (by decide)]
  unfold k0_pay1
  refine (score_block _ j).trans ?_
  rw [← rankPiece_apply (F := F) x9]
  exact concatenate_ofFn_apply (t := S1x2048) (s₁ := S1x128) 1 (N := 16) (rankPiece (F := F) x9) concatenates_S1x128_S1x128_S1x128_S1x128_S1x128_S1x128_S1x128_S1x128_S1x128_S1x128_S1x128_S1x128_S1x128_S1x128_S1x128_S1x128_S1x2048_d1 rfl 128 rfl (ix2 0 j) ⟨j.val / 128, by omega⟩ rfl (ix2 0 ⟨j.val % 128, by omega⟩) rfl
    (fun b hb => by
      fin_cases b
      · rfl
      · exact absurd rfl hb)

/-- The rank of element `j`: how many scores are above its own. -/
theorem rankOut_apply (x0 : Vec F S1x2048x128 .f32) (x1 : Vec F S1x128 .f32) (x2 : Vec F S128x128 .f32) (x3 : Vec F S1x1 .f32) (j : Fin 2048) :
    rankOut x0 x1 x2 x3 (ix3 0 0 j) = ((∑ i : Fin 2048, (FloatOps.cmpf .ogt (k0_pay73 x0 x2 (x3 (ix2 0 0)) (ix2 i ⟨j.val % 128, by omega⟩))
      (k0_pay71 x0 x1 (x3 (ix2 0 0)) (ix2 0 j))).toNat : ℕ) : BitVec 32) := by
  unfold rankOut
  rw [rankOut_canon, rankAll_apply, repOf_eq]
  refine congrArg _ (Finset.sum_congr rfl fun i _ => ?_)
  rw [thOf_apply, ld_rXs, ld_rWs, biasOf_eq]
  have e : colAt ⟨j.val / 128, by omega⟩ ⟨j.val % 128, by omega⟩ = j := Fin.ext (by show 128 * (j.val / 128) + j.val % 128 = j.val; omega)
  rw [e]

end Cert.Proof.Whole

end
-- ==== Proof.Scored.lean ====
/-
  The scores and the ranks at the ideal values: a score is a row's product with the weights, with the bias; a rank is the
  number of larger scores of its row, whatever the inputs.
-/
module

public import proofs.«01_k».proof.Proof.Arrays
public import proofs.«01_k».proof.Proof.Ranks

@[expose] public section

set_option maxRecDepth 16384

noncomputable section

namespace Cert.Proof.Whole

open Cert.KernelIdeal Cert.KernelIdeal.Gen Cert.Counting
open Idealize.ShloMosaic Idealize.ShloMosaic.TcCoe

/-- A score: the row's product with the weights, and the bias. -/
def scoreAt (X : Vec Ideal S64x2048x128 .f32) (w : Vec Ideal S1x128 .f32) (b : Vec Ideal S1 .f32) (i : Fin 64) (j : Fin 2048) : EReal :=
  (∑ k : Fin 128, X (ix3 i j k) * w (ix2 0 k)) + b (ix1 0)

/-- The bias as a block of one element. -/
theorem biasAt_apply (b : Vec Ideal S1 .f32) : biasAt b (ix2 0 0) = b (ix1 0) :=
  shapeCast_apply _ _ _ (ix1 0) (by
    rw [Shape.rowMajor_val_two, Shape.rowMajor_val_one]
    show 0 = 0 * 1 + 0
    omega)

/-- Each column of the widened weights is the weights. -/
theorem wideOf_apply (w : Vec Ideal S1x128 .f32) (k l : Fin 128) : wideOf w (ix2 k l) = w (ix2 0 k) := by
  unfold wideOf
  rw [shapeCast_apply (s := S1x128x128x1) _ _ _ (ix4 0 k l 0) (by
    rw [Shape.rowMajor_val_two, Shape.rowMajor_val_four]
    show ((0 * 128 + k.val) * 128 + l.val) * 1 + 0 = k.val * 128 + l.val
    omega)]
  rw [broadcastInDim_apply (s := S1x128x1x1) _ _ _ _ (ix4 0 k 0 0) (fun a => by fin_cases a <;> rfl)]
  rw [shapeCast_apply (s := S128x1) _ _ _ (ix2 k 0) (by
    rw [Shape.rowMajor_val_two, Shape.rowMajor_val_four]
    show k.val * 1 + 0 = ((0 * 128 + k.val) * 1 + 0) * 1 + 0
    omega)]
  exact shapeCast_apply _ _ _ (ix2 0 k) (by
    rw [Shape.rowMajor_val_two, Shape.rowMajor_val_two]
    show 0 * 128 + k.val = k.val * 1 + 0
    omega)

/-- The block of inputs without its leading axis. -/
theorem rows_apply (x : Vec Ideal S1x2048x128 .f32) (j : Fin 2048) (k : Fin 128) : k0_pay70 x (ix2 j k) = x (ix3 0 j k) :=
  shapeCast_apply _ _ _ (ix3 0 j k) (by
    rw [Shape.rowMajor_val_two, Shape.rowMajor_val_three]
    show (0 * 2048 + j.val) * 128 + k.val = j.val * 128 + k.val
    omega)

/-- A score by the first product, the row of scores. -/
theorem k0_pay71_apply (x : Vec Ideal S1x2048x128 .f32) (w : Vec Ideal S1x128 .f32) (b : EReal) (j : Fin 2048) :
    k0_pay71 (F := Ideal) x w b (ix2 0 j) = (∑ k : Fin 128, x (ix3 0 j k) * w (ix2 0 k)) + b := by
  have h := Ideal.matmul_transposedRhs_apply (M := 1) (N := 2048) (K := 128) (φ₁ := .f32) (φ₂ := .f32) none w (k0_pay70 (F := Ideal) x) (constant S1x2048 .f32 0x00000000#32) 0 j
  refine (congrArg (· + b) (h.trans ?_))
  show Ideal.ofBits .f32 0x00000000#32 + _ = _
  rw [Ideal.ofBits_zero_f32, zero_add]
  exact Finset.sum_congr rfl fun k _ => by
    show w (ix2 0 k) * k0_pay70 x (ix2 j k) = _
    rw [rows_apply, mul_comm]

/-- A score by the second product, whichever of its equal columns is read. -/
theorem k0_pay73_apply (x : Vec Ideal S1x2048x128 .f32) (w : Vec Ideal S1x128 .f32) (b : EReal) (i : Fin 2048) (l : Fin 128) :
    k0_pay73 (F := Ideal) x (wideOf w) b (ix2 i l) = (∑ k : Fin 128, x (ix3 0 i k) * w (ix2 0 k)) + b := by
  unfold k0_pay73
  have h := Ideal.matmul_plain_apply (M := 2048) (N := 128) (K := 128) (φ₁ := .f32) (φ₂ := .f32) none (k0_pay70 (F := Ideal) x) (wideOf w) (constant S2048x128 .f32 0x00000000#32) i l
  have e : shapeCast S128x128 (wideOf w) shapeCasts_S128x128_S128x128 = wideOf w := funext fun y => shapeCast_apply _ _ _ y rfl
  simp only [e]
  refine (shapeCast_apply _ _ _ (ix2 i l) rfl).trans ?_
  refine (congrArg (· + b) (h.trans ?_))
  show Ideal.ofBits .f32 0x00000000#32 + _ = _
  rw [Ideal.ofBits_zero_f32, zero_add]
  exact Finset.sum_congr rfl fun k _ => by
    show k0_pay70 x (ix2 i k) * wideOf w (ix2 k l) = _
    rw [rows_apply, wideOf_apply]

/-- A score that the first call writes. -/
theorem scoreMat_apply (X : Vec Ideal S64x2048x128 .f32) (w : Vec Ideal S1x128 .f32) (b : Vec Ideal S1 .f32) (i : Fin 64) (j : Fin 2048) :
    scoreMat X w b (ij i j) = scoreAt X w b i j := by
  unfold scoreMat
  refine (scoreOut_apply _ _ _ j).trans ?_
  rw [k0_pay71_apply, biasAt_apply]
  rfl

/-- A comparison as a number: one if it holds. -/
theorem cmpf_toNat (a b : EReal) : (FloatOps.cmpf (F := Ideal) (φ := .f32) .ogt a b).toNat = if b < a then 1 else 0 := by
  show (BitVec.ofBool (decide (b < a))).toNat = _
  by_cases h : b < a <;> simp [h]

/-- A rank that the first call writes: how many scores of the row are larger. -/
theorem rankMat_apply (X : Vec Ideal S64x2048x128 .f32) (w : Vec Ideal S1x128 .f32) (b : Vec Ideal S1 .f32) (i : Fin 64) (j : Fin 2048) :
    rankMat X w b (ij i j) = ((Finset.univ.filter fun k : Fin 2048 => scoreAt X w b i j < scoreAt X w b i k).card : BitVec 32) := by
  unfold rankMat
  refine (rankOut_apply _ _ _ _ j).trans ?_
  rw [Finset.card_filter]
  refine congrArg _ (Finset.sum_congr rfl fun k _ => ?_)
  rw [k0_pay71_apply, k0_pay73_apply, biasAt_apply, cmpf_toNat]
  rfl

/-- The same, as a natural number. -/
theorem ranksOf_rankMat (X : Vec Ideal S64x2048x128 .f32) (w : Vec Ideal S1x128 .f32) (b : Vec Ideal S1 .f32) (i : Fin 64) (j : Fin 2048) :
    ranksOf (rankMat X w b) i j = (Finset.univ.filter fun k : Fin 2048 => scoreAt X w b i j < scoreAt X w b i k).card := by
  unfold ranksOf
  rw [rankMat_apply]
  have h : (Finset.univ.filter fun k : Fin 2048 => scoreAt X w b i j < scoreAt X w b i k).card ≤ 2048 := by
    refine (Finset.card_le_univ _).trans ?_
    simp
  show (BitVec.ofNat 32 _).toNat = _
  rw [BitVec.toNat_ofNat]
  exact Nat.mod_eq_of_lt (by omega)

/-- A smaller rank is a larger score. -/
theorem ranksOf_lt_iff (X : Vec Ideal S64x2048x128 .f32) (w : Vec Ideal S1x128 .f32) (b : Vec Ideal S1 .f32) (i : Fin 64) (j k : Fin 2048) :
    ranksOf (rankMat X w b) i j < ranksOf (rankMat X w b) i k ↔ scoreAt X w b i k < scoreAt X w b i j := by
  rw [ranksOf_rankMat, ranksOf_rankMat]
  constructor
  · intro h
    by_contra hc
    refine absurd h (not_lt.2 (Finset.card_le_card fun l hl => ?_))
    simp only [Finset.mem_filter, Finset.mem_univ, true_and] at hl ⊢
    exact (not_lt.1 hc).trans_lt hl
  · intro h
    refine Finset.card_lt_card ⟨fun l hl => ?_, fun hs => ?_⟩
    · simp only [Finset.mem_filter, Finset.mem_univ, true_and] at hl ⊢
      exact h.trans hl
    · have := hs (show j ∈ _ by simpa using h)
      simp at this

/-- The ranks of a row are a ranking. -/
theorem ranking (X : Vec Ideal S64x2048x128 .f32) (w : Vec Ideal S1x128 .f32) (b : Vec Ideal S1 .f32) (i : Fin 64) :
    IsRanking (ranksOf (rankMat X w b) i) := by
  intro j
  refine (ranksOf_rankMat X w b i j).trans ?_
  simp only [ranksOf_lt_iff]

end Cert.Proof.Whole

end
-- ==== Proof.Ends.lean ====
/-
  How the whole kernel ends at the ideal values.
-/
module

public import proofs.«01_k».proof.Proof.Scored

@[expose] public section

set_option maxRecDepth 16384

noncomputable section

namespace Cert.Proof.Whole

open Cert.KernelIdeal Cert.KernelIdeal.Gen Cert.Counting
open Idealize.ShloMosaic Idealize.ShloMosaic.TcCoe Idealize.SL.Sem

variable (m : (ℓ : Loc nD τ sig) → Buf (Elt Ideal) ℓ) (ρ : Dev nD → PrngReg)

/-- The inputs, the weights and the bias of a device. -/
abbrev inX (d : Dev nD) : Vec Ideal S64x2048x128 .f32 := m (d, Proc.devRef .tc main_arg0)
abbrev inW (d : Dev nD) : Vec Ideal S1x128 .f32 := m (d, Proc.devRef .tc main_arg1)
abbrev inB (d : Dev nD) : Vec Ideal S1 .f32 := m (d, Proc.devRef .tc main_arg2)

/-- The ranks that the first call leaves are a ranking in each row. -/
theorem rankOf_ranking (d : Dev nD) (i : Fin 64) : IsRanking (ranksOf (rankOf m d) i) := by
  rw [rankOf_eq]
  exact ranking _ _ _ i

/-- The kernel runs and ends with its two results, its arguments unchanged and every counter at zero. -/
theorem kernel_ends : θ_run (Cert.KernelIdeal.defs (F := Ideal)) (Cert.KernelIdeal.threads (F := Ideal)) ⟨m, fun _ => 0, ρ⟩ fun r =>
    (∀ c : Dev nD, r.2.mem ((c.tc : Thread nD τ).loc main_v9) = (dC m c).arrAt 1 cfg2.N
      ∧ r.2.mem ((c.tc : Thread nD τ).loc main_v8_1) = idxOf (rankMat (inX m c) (inW m c) (inB m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 := by
  refine (θ_run _ _ _).mono (fun r h => ⟨fun c => ?_, h.2⟩) (run_main (F := Ideal) m ρ (rankOf_ranking m))
  exact ⟨(h.1 c (Proc.devRef .tc main_v9) (by decide)).trans (V5_sums m c),
    (h.1 c (Proc.devRef .tc main_v8_1) (by decide)).trans ((V5_chosen m c).trans (congrArg idxOf (rankOf_eq m c))),
    (h.1 c (Proc.devRef .tc main_arg0) (by decide)).trans (V5_arg0 m c), (h.1 c (Proc.devRef .tc main_arg1) (by decide)).trans (V5_arg1 m c),
    (h.1 c (Proc.devRef .tc main_arg2) (by decide)).trans (V5_arg2 m c), (h.1 c (Proc.devRef .tc main_arg3) (by decide)).trans (V5_arg3 m c)⟩

end Cert.Proof.Whole

end
-- ==== Proof.Lse.lean ====
/-
  Logarithms of sums of exponentials at the ideal values: one doubling step, and the sums over a stretch of a row.
-/
module

public import Idealize.ShloMosaic.PureOps
public import Idealize.ShloMosaic.PureOps.Ideal.Laws
public import Mathlib.Analysis.SpecialFunctions.Log.Basic
public import Mathlib.Data.EReal.Operations

@[expose] public section

noncomputable section

namespace Cert.Lse

open Idealize.ShloMosaic

/-- Two logarithms joined: the larger, and the logarithm of one plus the exponential of minus their distance. -/
def joined (x y : EReal) : EReal := max x y + Ideal.log1p (Ideal.exp (0 - max (x - y) (-(x - y))))

/-- The logarithm of one plus the exponential of a real. -/
theorem log1p_exp (r : ℝ) : Ideal.log1p (Ideal.exp (r : EReal)) = ((Real.log (1 + Real.exp r) : ℝ) : EReal) := by
  unfold Ideal.log1p
  rw [Ideal.exp_coe, ← EReal.coe_one, ← EReal.coe_add, Ideal.log_coe, if_neg (not_le.mpr (by positivity))]

/-- Joining two logarithms of positive reals gives the logarithm of the sum. -/
theorem joined_real {a b : ℝ} (ha : 0 < a) (hb : 0 < b) :
    joined ((Real.log a : ℝ) : EReal) ((Real.log b : ℝ) : EReal) = ((Real.log (a + b) : ℝ) : EReal) := by
  have key : ∀ {a b : ℝ}, 0 < a → 0 < b → Real.log a + Real.log (1 + Real.exp (-(Real.log a - Real.log b))) = Real.log (a + b) := by
    intro a b ha hb
    rw [neg_sub, Real.exp_sub, Real.exp_log ha, Real.exp_log hb, ← Real.log_mul ha.ne' (by positivity)]
    congr 1
    field_simp
  have hs : ∀ x y : ℝ, (0 : EReal) - max ((x : EReal) - (y : EReal)) (-((x : EReal) - (y : EReal))) = ((-max (x - y) (-(x - y)) : ℝ) : EReal) := by
    intro x y
    rw [← EReal.coe_sub, ← EReal.coe_neg, ← EReal.coe_strictMono.monotone.map_max, ← EReal.coe_zero, ← EReal.coe_sub, zero_sub]
  unfold joined
  rw [hs, log1p_exp, ← EReal.coe_strictMono.monotone.map_max, ← EReal.coe_add]
  congr 1
  rcases le_total (Real.log b) (Real.log a) with h | h
  · rw [max_eq_left h, max_eq_left (by linarith)]
    exact key ha hb
  · rw [max_eq_right h, max_eq_right (by linarith), show -(Real.log a - Real.log b) = Real.log b - Real.log a by ring, add_comm a b]
    exact key hb ha

/-- Joining a real with minus infinity gives the real. -/
theorem joined_bot (x : ℝ) : joined (x : EReal) ⊥ = x := by
  unfold joined
  rw [EReal.coe_sub_bot, max_eq_left (a := (⊤ : EReal)) le_top, max_eq_left (bot_le), zero_sub, EReal.neg_top, Ideal.exp_bot]
  unfold Ideal.log1p
  rw [add_zero, ← EReal.coe_one, Ideal.log_coe, if_neg (by norm_num), Real.log_one, EReal.coe_zero, add_zero]

variable {n : ℕ}

/-- The sum of the exponentials of `d` entries of a row from position `t` on, as far as the row goes. -/
def stretch (v : Fin n → ℝ) (t d : ℕ) : ℝ := ∑ p ∈ Finset.univ.filter (fun p : Fin n => t ≤ p.val ∧ p.val < t + d), Real.exp (v p)

/-- The sum over a stretch that begins in the row is positive. -/
theorem stretch_pos (v : Fin n → ℝ) {t d : ℕ} (ht : t < n) (hd : 0 < d) : 0 < stretch v t d :=
  Finset.sum_pos (fun _ _ => Real.exp_pos _) ⟨⟨t, ht⟩, Finset.mem_filter.mpr ⟨Finset.mem_univ _, le_refl _, by show t < t + d; omega⟩⟩

/-- Over one that begins past the row it is zero. -/
theorem stretch_past (v : Fin n → ℝ) {t : ℕ} (d : ℕ) (ht : n ≤ t) : stretch v t d = 0 :=
  Finset.sum_eq_zero fun p hp => absurd (Finset.mem_filter.mp hp).2.1 (by omega)

/-- Over one element it is the exponential. -/
theorem stretch_one (v : Fin n → ℝ) (t : Fin n) : stretch v t.val 1 = Real.exp (v t) := by
  unfold stretch
  rw [show Finset.univ.filter (fun p : Fin n => t.val ≤ p.val ∧ p.val < t.val + 1) = {t} from ?_, Finset.sum_singleton]
  ext p
  simp only [Finset.mem_filter, Finset.mem_univ, true_and, Finset.mem_singleton, Fin.ext_iff]
  omega

/-- Twice as long a stretch is the stretch and the one after it. -/
theorem stretch_double (v : Fin n → ℝ) (t d : ℕ) : stretch v t (2 * d) = stretch v t d + stretch v (t + d) d := by
  unfold stretch
  rw [← Finset.sum_union (Finset.disjoint_left.mpr fun p hp hq => by
    have h1 := (Finset.mem_filter.mp hp).2
    have h2 := (Finset.mem_filter.mp hq).2
    omega)]
  congr 1
  ext p
  simp only [Finset.mem_filter, Finset.mem_univ, true_and, Finset.mem_union]
  omega

/-- A stretch as long as the row is everything from the position on. -/
theorem stretch_all (v : Fin n → ℝ) (t : ℕ) : stretch v t n = ∑ p ∈ Finset.univ.filter (fun p : Fin n => t ≤ p.val), Real.exp (v p) := by
  unfold stretch
  congr 1
  ext p
  simp only [Finset.mem_filter, Finset.mem_univ, true_and]
  omega

/-- A row `x` of logarithms of stretches of length `d`, and the same row moved by `d` with minus infinity behind it, joined,
are the logarithms of stretches of length `2 d`. -/
theorem joined_stretch (v : Fin n → ℝ) {d : ℕ} (hd : 0 < d) (x y : Fin n → EReal)
    (hx : ∀ t, x t = ((Real.log (stretch v t.val d) : ℝ) : EReal))
    (hy : ∀ t : Fin n, ∀ h : t.val + d < n, y t = x ⟨t.val + d, h⟩) (hz : ∀ t : Fin n, n ≤ t.val + d → y t = ⊥) (t : Fin n) :
    joined (x t) (y t) = ((Real.log (stretch v t.val (2 * d)) : ℝ) : EReal) := by
  rw [stretch_double, hx]
  by_cases h : t.val + d < n
  · rw [hy t h, hx]
    exact joined_real (stretch_pos v t.isLt hd) (stretch_pos v h hd)
  · rw [hz t (not_lt.mp h), stretch_past v d (not_lt.mp h), add_zero]
    exact joined_bot _

end Cert.Lse
-- ==== Proof.Logs.lean ====
/-
  The last call at the ideal values: of a row of real sorted scores it leaves each score less the logarithm of the sum of the
  exponentials from it on.
-/
module

public import proofs.«01_k».proof.Proof.Scored
public import proofs.«01_k».proof.Proof.Lse

@[expose] public section

set_option maxRecDepth 16384

noncomputable section

namespace Cert.Proof.Whole

open Cert.KernelIdeal Cert.KernelIdeal.Gen Cert.Lse
open Idealize.ShloMosaic Idealize.ShloMosaic.TcCoe

/-- A block moved to the left by `d`, minus infinity behind it. -/
def movedBy (d e : ℕ) (h1 : S8x2048.Slices ![0, d] ⟨2, ![8, e]⟩) (h2 : Shape.Concatenates [⟨2, ![8, e]⟩, ⟨2, ![8, d]⟩] S8x2048 1)
    (a : Vec Ideal S8x2048 .f32) : Vec Ideal S8x2048 .f32 :=
  concatenate S8x2048 1 [⟨⟨2, ![8, e]⟩, extractStridedSlice (s := S8x2048) ⟨2, ![8, e]⟩ ![0, d] a h1⟩,
    ⟨⟨2, ![8, d]⟩, broadcast (⟨2, ![8, d]⟩ : Shape) (Scalar.ofBits (F := Ideal) .f32 0xFF800000#32)⟩] h2

/-- A block joined with itself moved. -/
def doubled (d e : ℕ) (h1 : S8x2048.Slices ![0, d] ⟨2, ![8, e]⟩) (h2 : Shape.Concatenates [⟨2, ![8, e]⟩, ⟨2, ![8, d]⟩] S8x2048 1)
    (a : Vec Ideal S8x2048 .f32) : Vec Ideal S8x2048 .f32 :=
  addf (maximumf a (movedBy d e h1 h2 a)) (log1p (exp (subf (broadcast S8x2048 (Scalar.ofBits (F := Ideal) .f32 0x00000000#32))
    (absf (subf a (movedBy d e h1 h2 a))))))

/-- One doubling step at an element. -/
theorem doubled_apply (d e : ℕ) (h1) (h2) (a : Vec Ideal S8x2048 .f32) (z : Fin 8) (t : Fin 2048) :
    doubled d e h1 h2 a (ix2 z t) = joined (a (ix2 z t)) (movedBy d e h1 h2 a (ix2 z t)) := by
  show max _ _ + Ideal.log1p (Ideal.exp (Ideal.ofBits .f32 0x00000000#32 - _)) = _
  rw [Ideal.ofBits_zero_f32]
  rfl

/-- The moved row at an element that the row still holds. -/
theorem movedBy_left (d e : ℕ) (h1) (h2) (a : Vec Ideal S8x2048 .f32) (z : Fin 8) (t : Fin 2048) (he : d + e = 2048) (h : t.val + d < 2048) :
    movedBy d e h1 h2 a (ix2 z t) = a (ix2 z ⟨t.val + d, h⟩) := by
  refine (concatenate_pair_apply_left (t := S8x2048) (s₁ := ⟨2, ![8, e]⟩) (s₂ := ⟨2, ![8, d]⟩) 1 _ _ h2 (ix2 z t) rfl
    (ix2 (n0 := 8) (n1 := e) z ⟨t.val, by omega⟩) (fun b => by fin_cases b <;> rfl)).trans ?_
  refine congrArg a ?_
  funext b
  apply Fin.ext
  fin_cases b
  · show 0 + z.val = z.val
    omega
  · show d + t.val = t.val + d
    omega

/-- The moved row past the row's end is minus infinity. -/
theorem movedBy_right (d e : ℕ) (h1) (h2) (a : Vec Ideal S8x2048 .f32) (z : Fin 8) (t : Fin 2048) (he : d + e = 2048) (h : 2048 ≤ t.val + d) :
    movedBy d e h1 h2 a (ix2 z t) = ⊥ := by
  have ht := t.isLt
  refine (concatenate_pair_apply_right (t := S8x2048) (s₁ := ⟨2, ![8, e]⟩) (s₂ := ⟨2, ![8, d]⟩) 1 _ _ h2 (ix2 z t) rfl rfl
    (ix2 (n0 := 8) (n1 := d) z ⟨t.val - e, by omega⟩) (fun b hb => ?_) ?_).trans ?_
  · fin_cases b
    · rfl
    · exact absurd rfl hb
  · show t.val - e + e = t.val
    omega
  · show Ideal.ofBits .f32 0xFF800000#32 = ⊥
    simp [Ideal.ofBits, Ideal.ieee]

/-- Row `z` of a block holds the logarithms of the stretches of length `d`. -/
def Holds (v : Fin 2048 → ℝ) (z : Fin 8) (d : ℕ) (a : Vec Ideal S8x2048 .f32) : Prop :=
  ∀ t : Fin 2048, a (ix2 z t) = ((Real.log (stretch v t.val d) : ℝ) : EReal)

/-- One step doubles the stretches. -/
theorem Holds.doubled {v : Fin 2048 → ℝ} {z : Fin 8} {d : ℕ} {a : Vec Ideal S8x2048 .f32} (h : Holds v z d a) (e : ℕ) (h1) (h2)
    (hd : 0 < d := by decide) (he : d + e = 2048 := by decide) : Holds v z (2 * d) (doubled d e h1 h2 a) := fun t => by
  rw [doubled_apply]
  exact joined_stretch v hd (fun t => a (ix2 z t)) (fun t => movedBy d e h1 h2 a (ix2 z t)) h
    (fun t ht => movedBy_left d e h1 h2 a z t he ht) (fun t ht => movedBy_right d e h1 h2 a z t he ht) t

set_option maxHeartbeats 1000000 in
/-- The body's term: eleven steps, and the block less what they give. -/
theorem suffixed_eq (x : Vec Ideal S8x2048 .f32) : suffixed x = subf (k2_pay2 x)
    (doubled 1024 1024 slices_S8x2048_o0_1024_S8x1024 concatenates_S8x1024_S8x1024_S8x2048_d1
    (doubled 512 1536 slices_S8x2048_o0_512_S8x1536 concatenates_S8x1536_S8x512_S8x2048_d1
    (doubled 256 1792 slices_S8x2048_o0_256_S8x1792 concatenates_S8x1792_S8x256_S8x2048_d1
    (doubled 128 1920 slices_S8x2048_o0_128_S8x1920 concatenates_S8x1920_S8x128_S8x2048_d1
    (doubled 64 1984 slices_S8x2048_o0_64_S8x1984 concatenates_S8x1984_S8x64_S8x2048_d1
    (doubled 32 2016 slices_S8x2048_o0_32_S8x2016 concatenates_S8x2016_S8x32_S8x2048_d1
    (doubled 16 2032 slices_S8x2048_o0_16_S8x2032 concatenates_S8x2032_S8x16_S8x2048_d1
    (doubled 8 2040 slices_S8x2048_o0_8_S8x2040 concatenates_S8x2040_S8x8_S8x2048_d1
    (doubled 4 2044 slices_S8x2048_o0_4_S8x2044 concatenates_S8x2044_S8x4_S8x2048_d1
    (doubled 2 2046 slices_S8x2048_o0_2_S8x2046 concatenates_S8x2046_S8x2_S8x2048_d1
    (doubled 1 2047 slices_S8x2048_o0_1_S8x2047 concatenates_S8x2047_S8x1_S8x2048_d1 (k2_pay2 x)))))))))))) := rfl

/-- What the body leaves in a row of real scores: each score less the logarithm of the sum of the exponentials from it on. -/
theorem suffixOut_apply (x : Vec Ideal S8x2048 .f32) (z : Fin 8) (v : Fin 2048 → ℝ) (hx : ∀ t, x (ix2 z t) = ((v t : ℝ) : EReal)) (t : Fin 2048) :
    suffixOut x (ix2 z t) = ((v t - Real.log (∑ p ∈ Finset.univ.filter (fun p : Fin 2048 => t.val ≤ p.val), Real.exp (v p)) : ℝ) : EReal) := by
  have hc : suffixOut x = suffixed x := by
    unfold suffixOut
    rw [ld_r2_0]
    exact View.canon_cons_unit_lit _ _ _ (by decide)
  have hk : k2_pay2 x = x := shapeCast_self _ _
  have h0 : Holds v z 1 x := fun t => by rw [hx, stretch_one, Real.log_exp]
  have h := ((((((((((h0.doubled 2047 slices_S8x2048_o0_1_S8x2047 concatenates_S8x2047_S8x1_S8x2048_d1).doubled
    2046 slices_S8x2048_o0_2_S8x2046 concatenates_S8x2046_S8x2_S8x2048_d1).doubled
    2044 slices_S8x2048_o0_4_S8x2044 concatenates_S8x2044_S8x4_S8x2048_d1).doubled
    2040 slices_S8x2048_o0_8_S8x2040 concatenates_S8x2040_S8x8_S8x2048_d1).doubled
    2032 slices_S8x2048_o0_16_S8x2032 concatenates_S8x2032_S8x16_S8x2048_d1).doubled
    2016 slices_S8x2048_o0_32_S8x2016 concatenates_S8x2016_S8x32_S8x2048_d1).doubled
    1984 slices_S8x2048_o0_64_S8x1984 concatenates_S8x1984_S8x64_S8x2048_d1).doubled
    1920 slices_S8x2048_o0_128_S8x1920 concatenates_S8x1920_S8x128_S8x2048_d1).doubled
    1792 slices_S8x2048_o0_256_S8x1792 concatenates_S8x1792_S8x256_S8x2048_d1).doubled
    1536 slices_S8x2048_o0_512_S8x1536 concatenates_S8x1536_S8x512_S8x2048_d1).doubled
    1024 slices_S8x2048_o0_1024_S8x1024 concatenates_S8x1024_S8x1024_S8x2048_d1
  rw [hc, suffixed_eq, hk]
  refine (congrArg₂ (fun a b : EReal => a - b) (hx t) (h t)).trans ?_
  rw [← EReal.coe_sub]
  rw [show stretch v t.val (2 * (2 * (2 * (2 * (2 * (2 * (2 * (2 * (2 * (2 * (2 * 1))))))))))) = _ from stretch_all v t.val]

end Cert.Proof.Whole
-- ==== Proof.Greedy.lean ====
/-
  One step of the greedy decoding on a row of real scores: with the elements already chosen at minus infinity, the softmax is
  largest exactly at the largest remaining scores, the first of them is the next element of the order, and the logarithm
  of its probability is its score less the logarithm of the sum of the remaining exponentials.
-/
module

public import proofs.«01_k».proof.Proof.Lse
public import Idealize.ShloMosaic.PureOps.Reduce
public import Idealize.ShloMosaic.Lib.Pointwise.Select

@[expose] public section

noncomputable section

namespace Cert.Greedy

open Idealize.ShloMosaic

variable {n : ℕ}

/-- A row's score with the elements already chosen at minus infinity. -/
def masked (s : Fin n → ℝ) (done : Fin n → Prop) [DecidablePred done] (j : Fin n) : EReal := if done j then ⊥ else (s j : EReal)

/-- The largest of a row, from minus infinity. -/
def largest (f : Fin n → EReal) : EReal := Finset.univ.fold max ⊥ f

/-- The exponentials of a row less its largest entry. -/
def weight (f : Fin n → EReal) (j : Fin n) : EReal := Ideal.exp (f j - max ⊥ (largest f))

/-- The softmax of a row. -/
def prob (f : Fin n → EReal) (j : Fin n) : EReal := Ideal.div (weight f j) (0 + ∑ k, weight f k)

/-- The first position at which a row is largest. -/
def pick (f : Fin n → EReal) : BitVec 32 :=
  Finset.univ.fold IntOp.minsi 2147483647#32 (fun j => Scalar.select (Ideal.cmp .oeq (f j) (largest f)) (BitVec.ofNat 32 j.val) 2048#32)

/-- A sum of real numbers, taken among the extended reals. -/
theorem coe_sum {ι : Type} (S : Finset ι) (f : ι → ℝ) : ((∑ k ∈ S, f k : ℝ) : EReal) = ∑ k ∈ S, (f k : EReal) := by
  classical
  induction S using Finset.induction_on with
  | empty => rfl
  | insert a S h ih => rw [Finset.sum_insert h, Finset.sum_insert h, EReal.coe_add, ih]

/-- A value that no other exceeds is the largest. -/
theorem largest_eq {f : Fin n → EReal} {c : Fin n} (h : ∀ j, f j ≤ f c) : largest f = f c :=
  le_antisymm (Finset.fold_max_le _ |>.mpr ⟨bot_le, fun j _ => h j⟩) (Finset.le_fold_max _ |>.mpr (Or.inr ⟨c, Finset.mem_univ _, le_refl _⟩))

/-- The signed minimum of two words. -/
theorem minsi_toInt (a b : BitVec 32) : (IntOp.minsi a b).toInt = min a.toInt b.toInt := by
  unfold IntOp.minsi
  rw [min_def]
  simp only [BitVec.slt]
  split_ifs <;> simp_all <;> omega

/-- A fold of signed minima is an entry that no other and not the start is below. -/
theorem fold_minsi_eq (init : BitVec 32) {f : Fin n → BitVec 32} {c : Fin n} (hi : (f c).toInt ≤ init.toInt)
    (h : ∀ j, (f c).toInt ≤ (f j).toInt) : Finset.univ.fold IntOp.minsi init f = f c := by
  apply BitVec.eq_of_toInt_eq
  have := Finset.fold_hom (op := IntOp.minsi) (op' := (min : ℤ → ℤ → ℤ)) (m := BitVec.toInt) (s := (Finset.univ : Finset (Fin n))) (f := f) (b := init) minsi_toInt
  rw [← this]
  exact le_antisymm ((Finset.fold_min_le _).mpr (Or.inr ⟨c, Finset.mem_univ _, le_refl _⟩)) ((Finset.le_fold_min _).mpr ⟨hi, fun j _ => h j⟩)

variable {s : Fin n → ℝ} {σ : Fin n → Fin n} {done : Fin n → Prop} [DecidablePred done] {t : Fin n}

/-- The row's remaining exponentials, against the next score. -/
def total (s : Fin n → ℝ) (done : Fin n → Prop) [DecidablePred done] (c : Fin n) : ℝ := ∑ j, if done j then 0 else Real.exp (s j - s c)

section Step

variable (hσ : Function.Bijective σ) (hlt : ∀ p q, p < q → s (σ q) < s (σ p) ∨ (s (σ q) = s (σ p) ∧ σ p < σ q)) (hd : ∀ q, done (σ q) ↔ q < t)

include hσ hlt hd

/-- No element that is left comes before the next of the order. -/
theorem next_le (j : Fin n) (hj : ¬ done j) : s j ≤ s (σ t) ∧ (s j = s (σ t) → σ t ≤ j) := by
  obtain ⟨q, rfl⟩ := hσ.2 j
  have hq : t ≤ q := not_lt.mp fun h => hj ((hd q).mpr h)
  rcases hq.eq_or_lt with rfl | h
  · exact ⟨le_refl _, fun _ => le_refl _⟩
  · rcases hlt _ _ h with h' | ⟨h', h''⟩
    · exact ⟨h'.le, fun e => absurd e h'.ne⟩
    · exact ⟨h'.le, fun _ => h''.le⟩

/-- The next of the order is not chosen yet. -/
theorem next_open : ¬ done (σ t) := fun h => lt_irrefl _ ((hd t).mp h)

/-- The largest masked score is that of the next of the order. -/
theorem largest_masked : largest (masked s done) = (s (σ t) : EReal) := by
  have hc : masked s done (σ t) = (s (σ t) : EReal) := if_neg (next_open hσ hlt hd)
  rw [← hc]
  refine largest_eq fun j => ?_
  rw [hc]
  unfold masked
  split_ifs with h
  · exact bot_le
  · exact EReal.coe_le_coe_iff.mpr (next_le hσ hlt hd j h).1

/-- The exponential of a masked score less the largest; zero if it is chosen. -/
theorem weight_masked (j : Fin n) : weight (masked s done) j = ((if done j then 0 else Real.exp (s j - s (σ t)) : ℝ) : EReal) := by
  unfold weight
  rw [largest_masked hσ hlt hd, max_eq_right bot_le]
  unfold masked
  split_ifs with h
  · rw [EReal.bot_sub, Ideal.exp_bot, EReal.coe_zero]
  · rw [← EReal.coe_sub, Ideal.exp_coe]

/-- Their sum is positive. -/
theorem total_pos : 0 < total s done (σ t) := by
  refine lt_of_lt_of_le (Real.exp_pos (s (σ t) - s (σ t))) ?_
  have := Finset.single_le_sum (f := fun j => if done j then (0 : ℝ) else Real.exp (s j - s (σ t)))
    (fun j _ => by show (0 : ℝ) ≤ if done j then (0 : ℝ) else _; split_ifs; exacts [le_refl _, (Real.exp_pos _).le]) (Finset.mem_univ (σ t))
  rw [if_neg (next_open hσ hlt hd)] at this
  exact this

/-- A probability under the mask. -/
theorem prob_masked (j : Fin n) :
    prob (masked s done) j = (((if done j then 0 else Real.exp (s j - s (σ t))) / total s done (σ t) : ℝ) : EReal) := by
  unfold prob
  simp only [weight_masked hσ hlt hd]
  rw [zero_add, show (∑ k, ((if done k then 0 else Real.exp (s k - s (σ t)) : ℝ) : EReal)) = ((total s done (σ t) : ℝ) : EReal) from (coe_sum _ _).symm]
  rw [Ideal.div_coe (total_pos hσ hlt hd).ne', ← EReal.coe_mul, mul_one_div]

/-- The largest probability. -/
theorem largest_prob : largest (prob (masked s done)) = ((1 / total s done (σ t) : ℝ) : EReal) := by
  have hc : prob (masked s done) (σ t) = ((1 / total s done (σ t) : ℝ) : EReal) := by
    rw [prob_masked hσ hlt hd, if_neg (next_open hσ hlt hd), sub_self, Real.exp_zero]
  rw [← hc]
  refine largest_eq fun j => ?_
  rw [hc, prob_masked hσ hlt hd]
  refine EReal.coe_le_coe_iff.mpr (div_le_div_of_nonneg_right ?_ (total_pos hσ hlt hd).le)
  split_ifs with h
  · exact zero_le_one
  · exact Real.exp_le_one_iff.mpr (sub_nonpos.mpr (next_le hσ hlt hd j h).1)

/-- A probability is the largest where the element is left and its score is the largest left. -/
theorem prob_largest_iff (j : Fin n) : prob (masked s done) j = largest (prob (masked s done)) ↔ ¬ done j ∧ s j = s (σ t) := by
  have hz := total_pos hσ hlt hd
  rw [largest_prob hσ hlt hd, prob_masked hσ hlt hd, EReal.coe_eq_coe_iff, div_left_inj' hz.ne']
  split_ifs with h
  · exact ⟨fun e => absurd e zero_ne_one, fun e => absurd h e.1⟩
  · rw [Real.exp_eq_one_iff, sub_eq_zero]
    exact ⟨fun e => ⟨h, e⟩, fun e => e.2⟩

/-- The first largest probability is at the next element of the order. -/
theorem pick_prob (hn : n ≤ 2048) : pick (prob (masked s done)) = BitVec.ofNat 32 (σ t).val := by
  have hi : ∀ k : ℕ, k ≤ 2048 → (BitVec.ofNat 32 k).toInt = k := fun k hk => by
    have h : (BitVec.ofNat 32 k).toNat = k := by rw [BitVec.toNat_ofNat]; omega
    rw [BitVec.toInt_eq_toNat_cond, h, if_pos (by omega)]
  have hc : (fun j : Fin n => Scalar.select (Ideal.cmp .oeq (prob (masked s done) j) (largest (prob (masked s done)))) (BitVec.ofNat 32 j.val) 2048#32) (σ t)
      = BitVec.ofNat 32 (σ t).val := by
    show Scalar.select _ _ _ = _
    rw [show Ideal.cmp .oeq _ _ = 1#1 from (Ideal.cmp_oeq_eq_one _ _).mpr ((prob_largest_iff hσ hlt hd (σ t)).mpr ⟨next_open hσ hlt hd, rfl⟩)]
    rfl
  have hl := (σ t).isLt
  dsimp only at hc
  unfold pick
  refine (fold_minsi_eq _ (c := σ t) ?_ fun j => ?_).trans hc
  · rw [hc, hi _ (by omega)]
    show ((σ t).val : ℤ) ≤ 2147483647
    omega
  · rw [hc, hi _ (by omega)]
    have hj := j.isLt
    by_cases h : prob (masked s done) j = largest (prob (masked s done))
    · have h' := (prob_largest_iff hσ hlt hd j).mp h
      have h'' : (σ t).val ≤ j.val := (next_le hσ hlt hd j h'.1).2 h'.2
      rw [show Ideal.cmp .oeq _ _ = 1#1 from (Ideal.cmp_oeq_eq_one _ _).mpr h]
      show _ ≤ (BitVec.ofNat 32 j.val).toInt
      rw [hi _ (by omega)]
      omega
    · rw [show Ideal.cmp .oeq (prob (masked s done) j) (largest (prob (masked s done))) = 0#1 by rw [Ideal.cmp_oeq, decide_eq_false h]; rfl]
      show _ ≤ (2048 : ℤ)
      omega

/-- The logarithm of the next element's probability. -/
theorem log_prob : Ideal.log (prob (masked s done) (σ t))
    = ((s (σ t) - Real.log (∑ q ∈ Finset.univ.filter (fun q : Fin n => t ≤ q), Real.exp (s (σ q))) : ℝ) : EReal) := by
  have hz := total_pos hσ hlt hd
  have ht : total s done (σ t) = (∑ q ∈ Finset.univ.filter (fun q : Fin n => t ≤ q), Real.exp (s (σ q))) / Real.exp (s (σ t)) := by
    unfold total
    rw [← hσ.sum_comp (fun j => if done j then (0 : ℝ) else Real.exp (s j - s (σ t))), Finset.sum_div, Finset.sum_filter]
    refine Finset.sum_congr rfl fun q _ => ?_
    rw [Real.exp_sub]
    by_cases h : q < t
    · rw [if_pos ((hd q).mpr h), if_neg (not_le.mpr h)]
    · rw [if_neg (fun e => h ((hd q).mp e)), if_pos (not_lt.mp h)]
  have hp : 0 < ∑ q ∈ Finset.univ.filter (fun q : Fin n => t ≤ q), Real.exp (s (σ q)) :=
    Finset.sum_pos (fun _ _ => Real.exp_pos _) ⟨t, Finset.mem_filter.mpr ⟨Finset.mem_univ _, le_refl _⟩⟩
  rw [prob_masked hσ hlt hd, if_neg (next_open hσ hlt hd), sub_self, Real.exp_zero, Ideal.log_coe, if_neg (not_le.mpr (by positivity)), one_div,
    Real.log_inv, ht, Real.log_div hp.ne' (Real.exp_pos _).ne', Real.log_exp, neg_sub]

end Step

end Cert.Greedy
-- ==== Proof.Reads.lean ====
/-
  The reference's operations read at an index: its reductions along a row, its mask's update, its choice's probability
  and its results' rows.
-/
module

public import proofs.«01_k».proof.Proof.Order
public import proofs.«01_k».proof.Proof.Greedy
public import proofs.«01_k».proof.Proof.Gen.ReferenceIdeal.Run
public import Idealize.ShloMosaic.Lib.WordCmp
public import Idealize.ShloMosaic.Lib.IdealHost
public import Idealize.ShloMosaic.PureOps.Reduce
public import Idealize.ShloMosaic.Lib.Pipeline.Value
public import Idealize.ShloMosaic.Lib.Pipeline.ValueKit
public import Idealize.ShloMosaic.Lib.Pointwise.Reduce
public import Idealize.ShloMosaic.Lib.Pointwise.ShapeOpsCore
public import Idealize.ShloMosaic.Lib.Routing.OpsSet
public import Idealize.ShloMosaic.Lib.Routing.OpsPair

@[expose] public section

set_option maxRecDepth 16384

noncomputable section

namespace Cert.Proof.Decode

open Cert.ReferenceIdeal Cert.ReferenceIdeal.Gen Cert.ReferenceIdeal.Value Cert.Greedy
open Idealize.ShloMosaic Idealize.ShloMosaic.TcCoe
open Idealize.ShloMosaic.WordCmp

/-- Minus infinity, as it is written. -/
theorem minus_inf : Ideal.ofBits .f32 0xFF800000#32 = ⊥ := by simp [Ideal.ofBits, Ideal.ieee]

/-- A column of values spread over the rows. -/
theorem spread_apply {α : Type} (x : S64.Idx → α) (i : Fin 64) (j : Fin 2048) :
    broadcastInDim S64x2048 ![0, 1] bcast_S64x1_S64x2048_0_1 (broadcastInDim S64x1 ![0] bcast_S64_S64x1_0 x) (ix2 i j) = x (ix1 i) :=
  (broadcastInDim_apply _ _ _ _ (ix2 (n0 := 64) (n1 := 1) i 0) (fun a => by fin_cases a <;> rfl)).trans
    (broadcastInDim_apply _ _ _ _ (ix1 (n0 := 64) i) (fun a => by fin_cases a; rfl))

/-- A list as a column. -/
theorem column_apply {α : Type} (x : S64.Idx → α) (i : Fin 64) :
    broadcastInDim S64x1 ![0] bcast_S64_S64x1_0 x (ix2 i (0 : Fin 1)) = x (ix1 i) :=
  broadcastInDim_apply _ _ _ _ (ix1 (n0 := 64) i) (fun a => by fin_cases a; rfl)

/-- The maximum along the rows. -/
theorem reduce_max_apply (x : FVec Ideal S64x2048 .f32) (i : Fin 64) :
    Host.reduce (FloatOps.maximumf (F := Ideal) (φ := .f32)) x (constant S_ .f32 0xFF800000#32) reducesTo_S64x2048_S64_d1 h_S_ (ix1 i) = largest (fun j => x (ix2 i j)) := by
  rw [Host.reduce_eq_fold, show (constant (F := Ideal) S_ .f32 0xFF800000#32) (Shape.Idx.first h_S_) = ⊥ from minus_inf]
  exact Shape.ReducesTo.fold_fiber_r2_a1 (n0 := 64) (n1 := 2048) reducesTo_S64x2048_S64_d1 (ix1 i) (FloatOps.maximumf (F := Ideal) (φ := .f32)) _ _

/-- The sum along the rows. -/
theorem reduce_add_apply (x : FVec Ideal S64x2048 .f32) (i : Fin 64) :
    Host.reduceAdd x (constant S_ .f32 0x00000000#32) reducesTo_S64x2048_S64_d1 h_S_ (ix1 i) = 0 + ∑ j : Fin 2048, x (ix2 i j) := by
  show Ideal.hostReduceAdd reducesTo_S64x2048_S64_d1 x (Ideal.ofBits .f32 0x00000000#32) (ix1 i) = _
  refine (Ideal.hostReduceAdd_r2_a1 (n0 := 64) (n1 := 2048) reducesTo_S64x2048_S64_d1 x _ (ix1 i)).trans ?_
  rw [Ideal.ofBits_zero_f32]
  rfl

/-- The signed minimum along the rows. -/
theorem reduce_min_apply (x : IVec S64x2048 32) (i : Fin 64) :
    Host.reduce IntOp.minsi x (constantI S_ 32 2147483647#32) reducesTo_S64x2048_S64_d1 h_S_ (ix1 i)
      = Finset.univ.fold IntOp.minsi 2147483647#32 (fun j : Fin 2048 => x (ix2 i j)) := by
  rw [Host.reduce_eq_fold]
  exact Shape.ReducesTo.fold_fiber_r2_a1 (n0 := 64) (n1 := 2048) reducesTo_S64x2048_S64_d1 (ix1 i) IntOp.minsi _ _

/-! ## The mask's update -/

/-- An update lands where its two index words say. -/
theorem lands (idx : IVec S64x2 32) (a : Fin 64) (r : Fin 64) (c : Fin 2048) :
    scatter_S64x2048_S64x2_S64_n_01_01_1.resultIdx? (ix1 (n0 := 64) a) idx = some (ix2 r c)
      ↔ (idx (ix2 a (0 : Fin 2))).toInt = r.val ∧ (idx (ix2 a (1 : Fin 2))).toInt = c.val := by
  have hwin : ∀ q : Fin 2, scatter_S64x2048_S64x2_S64_n_01_01_1.window (ix1 (n0 := 64) a) q = 0 := fun q => by
    unfold ScatterDims.window
    rw [dif_neg fun h => (of_decide_eq_true (List.mem_filter.1 h).2) (by
      show q ∈ ([0, 1] : List (Fin 2))
      fin_cases q <;> simp)]
  have hm : ∀ q : Fin 2, q ∈ scatter_S64x2048_S64x2_S64_n_01_01_1.scatterDimsToOperandDims := fun q => by
    show q ∈ ([0, 1] : List (Fin 2))
    fin_cases q <;> simp
  have hsi : ∀ q : Fin 2, scatter_S64x2048_S64x2_S64_n_01_01_1.siIdx (ix1 (n0 := 64) a)
      ⟨scatter_S64x2048_S64x2_S64_n_01_01_1.scatterDimsToOperandDims.idxOf q, List.idxOf_lt_length_iff.2 (hm q)⟩ = ix2 a q := fun q => by
    funext b
    apply Fin.ext
    match b with
    | ⟨0, _⟩ => rfl
    | ⟨1, _⟩ =>
      show List.idxOf q ([0, 1] : List (Fin 2)) = q.val
      fin_cases q <;> rfl
  have hstart : ∀ q : Fin 2, scatter_S64x2048_S64x2_S64_n_01_01_1.start (ix1 (n0 := 64) a) idx q = (idx (ix2 a q)).toInt := fun q => by
    unfold ScatterDims.start
    rw [dif_pos (hm q), hsi]
  refine (Routing.resultIdx?_ix2 (R := 64) (C := 2048) scatter_S64x2048_S64x2_S64_n_01_01_1 (ix1 (n0 := 64) a) idx r c).trans ?_
  rw [hstart, hstart, hwin, hwin]
  omega

/-- The mask after an update that sets one element of each row. -/
theorem set_apply {α : Type} (x : S64x2048.Idx → α) (idx : IVec S64x2 32) (upd : S64.Idx → α) (v : α) (hv : ∀ k, upd k = v) (c : Fin 64 → Fin 2048)
    (h0 : ∀ a : Fin 64, (idx (ix2 a (0 : Fin 2))).toInt = a.val) (h1 : ∀ a : Fin 64, (idx (ix2 a (1 : Fin 2))).toInt = (c a).val) (i : Fin 64) (j : Fin 2048) :
    Host.scatter scatter_S64x2048_S64x2_S64_n_01_01_1 (fun _ b => b) x idx upd (ix2 i j) = if j = c i then v else x (ix2 i j) := by
  by_cases h : j = c i
  · rw [if_pos h]
    exact Routing.scatter_set_hit _ x idx upd _ v (fun k _ => hv k) (ix1 (n0 := 64) i) ((lands idx i i j).mpr ⟨h0 i, by rw [h]; exact h1 i⟩)
  · rw [if_neg h]
    refine Routing.scatter_set_miss _ x idx upd _ fun k hk => h ?_
    obtain ⟨a, rfl⟩ : ∃ a : Fin 64, k = ix1 (n0 := 64) a := ⟨k 0, eq_ix1 k⟩
    have e := (lands idx a i j).mp hk
    have ha : a = i := Fin.ext (by have := h0 a; rw [e.1] at this; exact_mod_cast this.symm)
    subst ha
    exact Fin.ext (by have := h1 a; rw [e.2] at this; exact_mod_cast this)

/-- Two columns side by side. -/
theorem pair_left (x y : IVec S64x1 32) (a : Fin 64) :
    concatenate S64x2 1 [⟨S64x1, x⟩, ⟨S64x1, y⟩] concatenates_S64x1_S64x1_S64x2_d1 (ix2 a (0 : Fin 2)) = x (ix2 a (0 : Fin 1)) :=
  concatenate_pair_apply_left (t := S64x2) (s₁ := S64x1) (s₂ := S64x1) 1 x y _ (ix2 a (0 : Fin 2)) rfl (ix2 (n0 := 64) (n1 := 1) a 0)
    (fun b => by fin_cases b <;> rfl)

/-- The second of a pair of columns. -/
theorem pair_right (x y : IVec S64x1 32) (a : Fin 64) :
    concatenate S64x2 1 [⟨S64x1, x⟩, ⟨S64x1, y⟩] concatenates_S64x1_S64x1_S64x2_d1 (ix2 a (1 : Fin 2)) = y (ix2 a (0 : Fin 1)) :=
  concatenate_pair_apply_right (t := S64x2) (s₁ := S64x1) (s₂ := S64x1) 1 x y _ (ix2 a (1 : Fin 2)) rfl rfl (ix2 (n0 := 64) (n1 := 1) a 0)
    (fun b hb => by
      fin_cases b
      · rfl
      · exact absurd rfl hb) rfl

/-! ## The choice's probability -/

/-- The take's gather, read at a row. -/
theorem taken_row {α : Type} (v : S64x2048.Idx → α) (s : IVec S64x1x1 32) (i : Fin 64) (k : Fin 2048) (h : (s (ix3 i (0 : Fin 1) (0 : Fin 1))).toNat = k.val) :
    Host.gather gather_S64x2048_S64x1x1_S64x1_n_1_0_0_1_2_11 v s (ix2 i (0 : Fin 1)) = v (ix2 i k) := by
  unfold Host.gather
  congr 1
  funext a
  refine Fin.ext ?_
  show GatherDims.start gather_S64x2048_S64x1x1_S64x1_n_1_0_0_1_2_11 (ix2 i (0 : Fin 1)) s a + GatherDims.batchCoord gather_S64x2048_S64x1x1_S64x1_n_1_0_0_1_2_11 (ix2 i (0 : Fin 1)) a
      + GatherDims.offCoord gather_S64x2048_S64x1x1_S64x1_n_1_0_0_1_2_11 (ix2 i (0 : Fin 1)) a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S64x2048_S64x1x1_S64x1_n_1_0_0_1_2_11.operandBatchingDims from List.mem_singleton.mpr rfl)]
    rfl
  | 1 =>
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S64x2048_S64x1x1_S64x1_n_1_0_0_1_2_11.startIndexMap from List.mem_singleton.mpr rfl)]
    have hsi : GatherDims.siIdx gather_S64x2048_S64x1x1_S64x1_n_1_0_0_1_2_11 (ix2 i (0 : Fin 1)) ⟨List.idxOf (1 : Fin 2) gather_S64x2048_S64x1x1_S64x1_n_1_0_0_1_2_11.startIndexMap,
        List.idxOf_lt_length_iff.2 (List.mem_singleton.mpr rfl)⟩ = ix3 i (0 : Fin 1) (0 : Fin 1) := by
      funext b; refine Fin.ext ?_
      match b with
      | ⟨0, _⟩ => rfl
      | ⟨1, _⟩ => rfl
      | ⟨2, _⟩ => rfl
    rw [hsi]
    show min (s (ix3 i (0 : Fin 1) (0 : Fin 1))).toInt.toNat 2047 = k.val
    rw [toInt_eq_toNat_of_lt_half (by rw [h]; exact lt_trans k.isLt (by decide)), Int.toNat_natCast, h]
    have := k.isLt
    omega

/-- The bounds of the take hold of indices inside the row. -/
theorem inside_eq (s : IVec S64x1x1 32) (h : ∀ y, (s y).toNat < 2048) (x : S64x1.Idx) :
    Host.reduce IntOp.andi (andi (cmpi .sge s (broadcastInDim S64x1x1 ![] bcast_S_S64x1x1 (constantI S_ 32 0#32)))
      (cmpi .sle s (broadcastInDim S64x1x1 ![0, 1, 2] bcast_S1x1x1_S64x1x1_0_1_2 (broadcastInDim S1x1x1 ![2] bcast_S1_S1x1x1_2 (constantI S1 32 2047#32)))))
      (constantI S_ 1 1#1) reducesTo_S64x1x1_S64x1_d2 h_S_ x = 1#1 := by
  rw [Host.reduce_eq_foldl]
  refine Cert.Counting.foldl_ones _ _ fun y _ => ?_
  show IntOp.andi (IntOp.cmpi .sge (s y) 0#32) (IntOp.cmpi .sle (s y) 2047#32) = 1#1
  have hy := h y
  rw [cmpi_sge_of_lt (lt_trans hy (by decide)) (by decide), cmpi_sle_of_lt (lt_trans hy (by decide)) (by decide),
    decide_eq_true (show (0#32).toNat ≤ (s y).toNat from Nat.zero_le _), decide_eq_true (show (s y).toNat ≤ (2047#32).toNat from Nat.le_of_lt_succ hy)]
  rfl

/-- A wrapped word that isn't negative is the word. -/
theorem wrapped (x a : BitVec 32) (h : x.toNat < 2048) : Scalar.select (IntOp.cmpi .slt x 0#32) a x = x :=
  Routing.wrap_of_lt x a (lt_trans h (by decide))

/-! ## The results' rows -/

/-- A result after the update of its row `t`. -/
theorem row_apply {α : Type} (x : S2048x64.Idx → α) (u : S64.Idx → α) (start : Fin 2 → Int) (t : Fin 2048) (h0 : start 0 = t.val) (h1 : start 1 = 0)
    (p : Fin 2048) (i : Fin 64) :
    Host.dynamicUpdateSlice x (broadcastInDim S1x64 ![1] bcast_S64_S1x64_1 u) start updateFits_S2048x64_S1x64 (ix2 p i) = if p = t then u (ix1 i) else x (ix2 p i) := by
  have c0 : Host.clampedStart S2048x64 S1x64 updateFits_S2048x64_S1x64.1 start 0 = t.val :=
    Host.clampedStart_of_le _ _ _ _ h0 (by show t.val + 1 ≤ 2048; have := t.isLt; omega)
  have c1 : Host.clampedStart S2048x64 S1x64 updateFits_S2048x64_S1x64.1 start 1 = 0 :=
    Host.clampedStart_of_le _ _ _ _ h1 (by show 0 + 64 ≤ 64; omega)
  rw [Host.dynamicUpdateSlice_apply]
  by_cases h : p = t
  · subst h
    rw [if_pos rfl, dif_pos (fun a => by
      match a with
      | 0 => rw [c0]; exact ⟨le_refl _, Nat.lt_succ_self _⟩
      | 1 => rw [c1]; exact ⟨Nat.zero_le _, by show i.val < 0 + 64; have := i.isLt; omega⟩)]
    refine broadcastInDim_apply _ _ _ _ (ix1 (n0 := 64) i) (fun a => ?_)
    fin_cases a
    show i.val = i.val - Host.clampedStart S2048x64 S1x64 updateFits_S2048x64_S1x64.1 start 1
    rw [c1]; rfl
  · rw [if_neg h, dif_neg (fun hin => h (Fin.ext ?_))]
    have := hin 0
    rw [c0] at this
    have h2 : t.val ≤ p.val ∧ p.val < t.val + 1 := this
    omega

end Cert.Proof.Decode
-- ==== Proof.Trip.lean ====
/-
  One trip of the reference's loop at the ideal values: from the elements chosen so far, the next element of the order and
  the logarithm of its probability.
-/
module

public import proofs.«01_k».proof.Proof.Reads

@[expose] public section

set_option maxRecDepth 16384

noncomputable section

namespace Cert.Proof.Decode

open Cert.ReferenceIdeal Cert.ReferenceIdeal.Gen Cert.ReferenceIdeal.Value Cert.Greedy
open Idealize.ShloMosaic Idealize.ShloMosaic.TcCoe

variable (V : Valuation τ sig (Elt Ideal))

/-- The scores the loop carries. -/
def scoresIn : FVec Ideal S64x2048 .f32 := V (Proc.devRef .tc main_v10_0)
/-- The row numbers it carries. -/
def rowsIn : IVec S64 32 := V (Proc.devRef .tc main_v10_1)
/-- The trip's number. -/
def countIn : IVec S_ 32 := V (Proc.devRef .tc main_v10_2)
/-- The mask of the elements chosen. -/
def maskIn : IVec S64x2048 1 := V (Proc.devRef .tc main_v10_3)
/-- The log-probabilities written so far. -/
def logsIn : FVec Ideal S2048x64 .f32 := V (Proc.devRef .tc main_v10_4)
/-- The elements written so far. -/
def picksIn : IVec S2048x64 32 := V (Proc.devRef .tc main_v10_5)

/-- The scores with the chosen elements at minus infinity. -/
def hidden : FVec Ideal S64x2048 .f32 := res_main_while0b_v13 V
/-- The exponentials of the scores less their row's largest. -/
def weights : FVec Ideal S64x2048 .f32 := res_main_while0b_v20 V
/-- The softmax. -/
def probs : FVec Ideal S64x2048 .f32 := res_main_while0b_v24 V
/-- The elements chosen on this trip. -/
def chosen : IVec S64 32 := res_main_while0b_v31 V
/-- The take's start indices. -/
def startsAt : IVec S64x1x1 32 := res_main_while0b_call2_v5 V

/-- The masked scores at an element. -/
theorem hidden_apply (i : Fin 64) (s : Fin 2048 → ℝ) (hs : ∀ j, scoresIn V (ix2 i j) = (s j : EReal)) (j : Fin 2048) :
    hidden V (ix2 i j) = masked s (fun j => maskIn V (ix2 i j) = 1#1) j := by
  show Scalar.select (maskIn V (ix2 i j)) (Ideal.ofBits .f32 0xFF800000#32) (scoresIn V (ix2 i j)) = _
  rw [minus_inf, hs]
  rfl

/-- The exponentials at an element. -/
theorem weights_apply (i : Fin 64) (j : Fin 2048) : weights V (ix2 i j) = weight (fun j => hidden V (ix2 i j)) j := by
  show Ideal.exp (hidden V (ix2 i j) - broadcastInDim S64x2048 ![0, 1] bcast_S64x1_S64x2048_0_1 (broadcastInDim S64x1 ![0] bcast_S64_S64x1_0
    (maximumf (broadcastInDim S64 ![] bcast_S_S64 (constant (F := Ideal) S_ .f32 0xFF800000#32))
      (Host.reduce (FloatOps.maximumf (F := Ideal) (φ := .f32)) (hidden V) (constant S_ .f32 0xFF800000#32) reducesTo_S64x2048_S64_d1 h_S_))) (ix2 i j)) = _
  rw [spread_apply]
  show Ideal.exp (hidden V (ix2 i j) - max (Ideal.ofBits .f32 0xFF800000#32)
      (Host.reduce (FloatOps.maximumf (F := Ideal) (φ := .f32)) (hidden V) (constant S_ .f32 0xFF800000#32) reducesTo_S64x2048_S64_d1 h_S_ (ix1 i))) = _
  rw [reduce_max_apply, minus_inf]
  rfl

/-- The softmax at an element. -/
theorem probs_apply (i : Fin 64) (j : Fin 2048) : probs V (ix2 i j) = prob (fun j => hidden V (ix2 i j)) j := by
  show Ideal.div (weights V (ix2 i j)) (broadcastInDim S64x2048 ![0, 1] bcast_S64x1_S64x2048_0_1 (broadcastInDim S64x1 ![0] bcast_S64_S64x1_0
    (Host.reduceAdd (weights V) (constant S_ .f32 0x00000000#32) reducesTo_S64x2048_S64_d1 h_S_)) (ix2 i j)) = _
  rw [spread_apply, reduce_add_apply]
  simp only [weights_apply]
  rfl

/-- The positions of a row's entries equal to a value of the row, 2048 elsewhere. -/
theorem marked_apply (p : FVec Ideal S64x2048 .f32) (u : FVec Ideal S64 .f32) (i : Fin 64) (j : Fin 2048) :
    select (cmpf .oeq p (broadcastInDim S64x2048 ![0, 1] bcast_S64x1_S64x2048_0_1 (broadcastInDim S64x1 ![0] bcast_S64_S64x1_0 u)))
      (broadcastInDim S64x2048 ![1] bcast_S2048_S64x2048_1 (iotaInDim S2048 32 0)) (broadcastInDim S64x2048 ![] bcast_S_S64x2048 (id (constantI S_ 32 2048#32))) (ix2 i j)
      = Scalar.select (Ideal.cmp .oeq (p (ix2 i j)) (u (ix1 i))) (BitVec.ofNat 32 j.val) 2048#32 := by
  have e1 := spread_apply u i j
  have e2 : broadcastInDim S64x2048 ![1] bcast_S2048_S64x2048_1 (iotaInDim S2048 32 0) (ix2 i j) = BitVec.ofNat 32 j.val :=
    broadcastInDim_apply _ _ _ _ (ix1 (n0 := 2048) j) (fun a => by fin_cases a; rfl)
  have e3 : broadcastInDim S64x2048 ![] bcast_S_S64x2048 (id (constantI S_ 32 2048#32)) (ix2 i j) = 2048#32 := rfl
  unfold select
  rw [e2, e3]
  unfold cmpf
  rw [e1]
  rfl

/-- The element chosen in a row. -/
theorem chosen_apply (i : Fin 64) : chosen V (ix1 i) = pick (fun j => probs V (ix2 i j)) := by
  unfold chosen res_main_while0b_v31
  rw [reduce_min_apply]
  unfold pick
  refine congrArg (Finset.univ.fold IntOp.minsi 2147483647#32) (funext fun j => ?_)
  rw [marked_apply]
  exact congrArg (fun z => Scalar.select (Ideal.cmp .oeq (probs V (ix2 i j)) z) (BitVec.ofNat 32 j.val) 2048#32) (reduce_max_apply (probs V) i)

/-- The loop's buffers before trip `t`: the scores, and what the first `t` trips chose and wrote. -/
structure At (s : Fin 64 → Fin 2048 → ℝ) (σ : Fin 64 → Fin 2048 → Fin 2048) (t : ℕ) : Prop where
  scores : ∀ i j, scoresIn V (ix2 i j) = (s i j : EReal)
  rows : ∀ i, rowsIn V (ix1 i) = BitVec.ofNat 32 i.val
  count : ∀ y, countIn V y = BitVec.ofNat 32 t
  mask : ∀ i q, maskIn V (ix2 i (σ i q)) = 1#1 ↔ q.val < t
  logs : ∀ i (p : Fin 2048), p.val < t → logsIn V (ix2 p i)
    = ((s i (σ i p) - Real.log (∑ q ∈ Finset.univ.filter (fun q : Fin 2048 => p ≤ q), Real.exp (s i (σ i q))) : ℝ) : EReal)
  picks : ∀ i (p : Fin 2048), p.val < t → picksIn V (ix2 p i) = BitVec.ofNat 32 (σ i p).val

variable {V} {s : Fin 64 → Fin 2048 → ℝ} {σ : Fin 64 → Fin 2048 → Fin 2048} {t : Fin 2048}

section

variable (h : At V s σ t.val) (hσ : ∀ i, Function.Bijective (σ i))
  (hlt : ∀ i p q, p < q → s i (σ i q) < s i (σ i p) ∨ (s i (σ i q) = s i (σ i p) ∧ σ i p < σ i q))

include h hσ hlt

/-- The trip chooses the next element of the order. -/
theorem chosen_eq (i : Fin 64) : chosen V (ix1 i) = BitVec.ofNat 32 (σ i t).val := by
  rw [chosen_apply]
  simp only [probs_apply, hidden_apply V i (s i) (h.scores i)]
  exact pick_prob (hσ i) (hlt i) (fun q => h.mask i q) (le_refl _)

/-- It is the next of the order. -/
theorem chosen_toNat (i : Fin 64) : (chosen V (ix1 i)).toNat = (σ i t).val := by
  rw [chosen_eq h hσ hlt, BitVec.toNat_ofNat]
  have := (σ i t).isLt
  omega

/-- The logarithm of its probability. -/
theorem log_eq (i : Fin 64) : Ideal.log (probs V (ix2 i (σ i t)))
    = ((s i (σ i t) - Real.log (∑ q ∈ Finset.univ.filter (fun q : Fin 2048 => t ≤ q), Real.exp (s i (σ i q))) : ℝ) : EReal) := by
  simp only [probs_apply, hidden_apply V i (s i) (h.scores i)]
  exact log_prob (hσ i) (hlt i) (fun q => h.mask i q)

/-- The take starts at the choice. -/
theorem startsAt_apply (i : Fin 64) : startsAt V (ix3 i (0 : Fin 1) (0 : Fin 1)) = chosen V (ix1 i) := by
  have e : res_main_while0b_v32 V (ix2 (n0 := 64) (n1 := 1) i 0) = chosen V (ix1 i) := column_apply (chosen V) i
  refine (shapeCast_apply (s := S64x1) _ _ _ (ix2 (n0 := 64) (n1 := 1) i 0) (by
    rw [Shape.rowMajor_val_two, Shape.rowMajor_val_three]
    show i.val * 1 + 0 = (i.val * 1 + 0) * 1 + 0
    omega)).trans ?_
  show Scalar.select (IntOp.cmpi .slt (res_main_while0b_v32 V (ix2 (n0 := 64) (n1 := 1) i 0)) 0#32)
    (IntOp.addi (res_main_while0b_v32 V (ix2 (n0 := 64) (n1 := 1) i 0)) 2048#32) (res_main_while0b_v32 V (ix2 (n0 := 64) (n1 := 1) i 0)) = _
  rw [e]
  exact wrapped _ _ (by rw [chosen_toNat h hσ hlt]; exact (σ i t).isLt)

/-- The next trip's number. -/
theorem next_count (y : S_.Idx) : countIn (STEP V) y = BitVec.ofNat 32 (t.val + 1) := by
  unfold countIn
  rw [STEP_main_v10_2]
  show IntOp.addi (countIn V y) 1#32 = _
  rw [h.count]
  show BitVec.ofNat 32 t.val + 1#32 = _
  rw [BitVec.ofNat_add]

/-- The mask after a trip has the chosen element too. -/
theorem next_mask (i : Fin 64) (j : Fin 2048) : maskIn (STEP V) (ix2 i j) = if j = σ i t then 1#1 else maskIn V (ix2 i j) := by
  have hr : ∀ a : Fin 64, (rowsIn V (ix1 a)).toNat = a.val := fun a => by
    rw [h.rows, BitVec.toNat_ofNat]
    have := a.isLt
    omega
  unfold maskIn
  rw [STEP_main_v10_3]
  unfold step_main_v10_3
  rw [id_eq]
  refine set_apply _ _ _ 1#1 (fun k => rfl) (fun i => σ i t) (fun a => ?_) (fun a => ?_) i j
  · rw [pair_left, column_apply]
    show (Scalar.select (IntOp.cmpi .slt (rowsIn V (ix1 a)) 0#32) (IntOp.addi (rowsIn V (ix1 a)) 64#32) (rowsIn V (ix1 a))).toInt = _
    have ha := a.isLt
    rw [wrapped _ _ (by rw [hr]; omega), WordCmp.toInt_eq_toNat_of_lt_half (by rw [hr]; omega), hr]
  · rw [pair_right, column_apply]
    show (Scalar.select (IntOp.cmpi .slt (chosen V (ix1 a)) 0#32) (IntOp.addi (chosen V (ix1 a)) 2048#32) (chosen V (ix1 a))).toInt = _
    have ha := (σ a t).isLt
    rw [wrapped _ _ (by rw [chosen_toNat h hσ hlt]; omega), WordCmp.toInt_eq_toNat_of_lt_half (by rw [chosen_toNat h hσ hlt]; omega), chosen_toNat h hσ hlt]

/-- The written row is the trip's. -/
theorem start_row : ((fun k => (((![V (Proc.devRef .tc main_v10_2), constantI S_ 32 0#32] : Fin 2 → (⟨S_, .i32⟩ : BufTy).Contents (Elt Ideal))) k (Shape.Idx.first h_S_)).toInt) : Fin 2 → ℤ) 0 = t.val := by
  show (countIn V (Shape.Idx.first h_S_)).toInt = _
  have ht := t.isLt
  have e : (BitVec.ofNat 32 t.val).toNat = t.val := by rw [BitVec.toNat_ofNat]; omega
  rw [h.count, WordCmp.toInt_eq_toNat_of_lt_half (by rw [e]; omega), e]

/-- The elements after a trip. -/
theorem next_picks (p : Fin 2048) (i : Fin 64) : picksIn (STEP V) (ix2 p i) = if p = t then BitVec.ofNat 32 (σ i t).val else picksIn V (ix2 p i) := by
  rw [← chosen_eq h hσ hlt i]
  unfold picksIn
  rw [STEP_main_v10_5]
  exact row_apply _ _ _ t (start_row h hσ hlt) rfl p i

/-- The log-probabilities after a trip. -/
theorem next_logs (p : Fin 2048) (i : Fin 64) : logsIn (STEP V) (ix2 p i)
    = if p = t then ((s i (σ i t) - Real.log (∑ q ∈ Finset.univ.filter (fun q : Fin 2048 => t ≤ q), Real.exp (s i (σ i q))) : ℝ) : EReal) else logsIn V (ix2 p i) := by
  rw [← log_eq h hσ hlt i]
  unfold logsIn
  rw [STEP_main_v10_4]
  refine (row_apply _ _ _ t (start_row h hσ hlt) rfl p i).trans ?_
  refine congrArg (fun z => if p = t then z else _) (congrArg Ideal.log ?_)
  refine (shapeCast_apply (s := S64x1) _ _ _ (ix2 (n0 := 64) (n1 := 1) i 0) (by
    rw [Shape.rowMajor_val_two, Shape.rowMajor_val_one]
    show i.val * 1 + 0 = i.val
    omega)).trans ?_
  have ho : ∀ y, (startsAt V y).toNat < 2048 := fun y => by
    obtain ⟨a, rfl⟩ : ∃ a : Fin 64, y = ix3 a (0 : Fin 1) (0 : Fin 1) := ⟨y 0, by
      funext b
      match b with
      | ⟨0, _⟩ => rfl
      | ⟨1, _⟩ => exact Subsingleton.elim (α := Fin 1) _ _
      | ⟨2, _⟩ => exact Subsingleton.elim (α := Fin 1) _ _⟩
    rw [startsAt_apply h hσ hlt, chosen_toNat h hσ hlt]
    exact (σ a t).isLt
  refine (congrArg (fun z => Scalar.select z _ _) (inside_eq (startsAt V) ho (ix2 (n0 := 64) (n1 := 1) i 0))).trans ?_
  exact taken_row (probs V) (startsAt V) i (σ i t) (by rw [startsAt_apply h hσ hlt, chosen_toNat h hσ hlt])

/-- A trip. -/
theorem At.next : At (STEP V) s σ (t.val + 1) where
  scores i j := by
    unfold scoresIn
    rw [STEP_main_v10_0]
    exact h.scores i j
  rows i := by
    unfold rowsIn
    rw [STEP_main_v10_1]
    exact h.rows i
  count := next_count h hσ hlt
  mask i q := by
    rw [next_mask h hσ hlt]
    by_cases e : q = t
    · subst e
      rw [if_pos rfl]
      exact ⟨fun _ => Nat.lt_succ_self _, fun _ => rfl⟩
    · rw [if_neg (fun e' => e ((hσ i).1 e')), h.mask]
      have : q.val ≠ t.val := fun e' => e (Fin.ext e')
      omega
  logs i p hp := by
    rw [next_logs h hσ hlt]
    by_cases e : p = t
    · rw [if_pos e, e]
    · rw [if_neg e]
      exact h.logs i p (by have : p.val ≠ t.val := fun e' => e (Fin.ext e'); omega)
  picks i p hp := by
    rw [next_picks h hσ hlt]
    by_cases e : p = t
    · rw [if_pos e, e]
    · rw [if_neg e]
      exact h.picks i p (by have : p.val ≠ t.val := fun e' => e (Fin.ext e'); omega)

end

/-- All the trips. -/
theorem At.iterate {V : Valuation τ sig (Elt Ideal)} (h : At V s σ 0) (hσ : ∀ i, Function.Bijective (σ i))
    (hlt : ∀ i p q, p < q → s i (σ i q) < s i (σ i p) ∨ (s i (σ i q) = s i (σ i p) ∧ σ i p < σ i q)) : ∀ t : ℕ, t ≤ 2048 → At (STEP^[t] V) s σ t
  | 0, _ => h
  | t + 1, ht => by
    rw [Function.iterate_succ_apply']
    exact At.next (t := ⟨t, ht⟩) (At.iterate h hσ hlt t (Nat.le_of_succ_le ht)) hσ hlt

end Cert.Proof.Decode
-- ==== Proof.Entry.lean ====
/-
  The reference's loop at its entry: the scores, no element chosen, nothing written.
-/
module

public import proofs.«01_k».proof.Proof.Trip
public import Idealize.ShloMosaic.Lib.StableHlo.RunRead
public import Idealize.ShloMosaic.Lib.Pointwise.Contract

@[expose] public section

set_option maxRecDepth 16384

noncomputable section

namespace Cert.Proof.Decode

open Cert.ReferenceIdeal Cert.ReferenceIdeal.Gen Cert.ReferenceIdeal.Value Cert.Greedy
open Idealize.ShloMosaic Idealize.ShloMosaic.TcCoe Idealize.ShloMosaic.StableHlo

/-- The product of the inputs with the weights. -/
theorem product_apply (x : FVec Ideal S64x2048x128 .f32) (w : FVec Ideal S1x128 .f32) (i : Fin 64) (j : Fin 2048) :
    Host.dotGeneral dot_S64x2048x128_S128x1_S64x2048x1_2_0_01_1_n_n none x (transpose S128x1 [1, 0] w transposes_S1x128_S128x1_1_0) (ix3 i j (0 : Fin 1))
      = ∑ k : Fin 128, x (ix3 i j k) * w (ix2 (0 : Fin 1) k) := by
  simp only [pointwise]
  rw [zero_add]

/-- The bias, wherever it is added. -/
theorem bias_apply (b : FVec Ideal S1 .f32) (y : S64x2048x1.Idx) :
    broadcastInDim S64x2048x1 ![0, 1, 2] bcast_S1x1x1_S64x2048x1_0_1_2 (broadcastInDim S1x1x1 ![2] bcast_S1_S1x1x1_2 b) y = b (ix1 (0 : Fin 1)) :=
  (broadcastInDim_apply _ _ _ _ (ix3 (0 : Fin 1) (0 : Fin 1) (0 : Fin 1)) (fun a => by fin_cases a <;> rfl)).trans
    (broadcastInDim_apply _ _ _ _ (ix1 (0 : Fin 1)) (fun a => by fin_cases a; rfl))

/-- The scores of the inputs, the weights and the bias. -/
def baseOf (x : FVec Ideal S64x2048x128 .f32) (w : FVec Ideal S1x128 .f32) (b : FVec Ideal S1 .f32) : FVec Ideal S64x2048 .f32 :=
  shapeCast S64x2048 (addf (Host.dotGeneral dot_S64x2048x128_S128x1_S64x2048x1_2_0_01_1_n_n none x (transpose S128x1 [1, 0] w transposes_S1x128_S128x1_1_0))
    (broadcastInDim S64x2048x1 ![0, 1, 2] bcast_S1x1x1_S64x2048x1_0_1_2 (broadcastInDim S1x1x1 ![2] bcast_S1_S1x1x1_2 b))) shapeCasts_S64x2048x1_S64x2048

/-- A score of the reference: the row's product with the weights, and the bias. -/
theorem baseOf_apply (x : FVec Ideal S64x2048x128 .f32) (w : FVec Ideal S1x128 .f32) (b : FVec Ideal S1 .f32) (i : Fin 64) (j : Fin 2048) :
    baseOf x w b (ix2 i j) = (∑ k : Fin 128, x (ix3 i j k) * w (ix2 (0 : Fin 1) k)) + b (ix1 (0 : Fin 1)) := by
  refine (shapeCast_apply (s := S64x2048x1) _ _ _ (ix3 i j (0 : Fin 1)) (by
    rw [Shape.rowMajor_val_two, Shape.rowMajor_val_three]
    show (i.val * 2048 + j.val) * 1 + 0 = i.val * 2048 + j.val
    omega)).trans ?_
  exact congrArg₂ (fun a b : EReal => a + b) (product_apply x w i j) (bias_apply b _)

variable (m : (ℓ : Loc nD τ sig) → Buf (Elt Ideal) ℓ) (c : Dev nD)

/-- The inputs. -/
def argX : FVec Ideal S64x2048x128 .f32 := m ((c.tc : Thread nD τ).loc main_arg0)
/-- The weights. -/
def argW : FVec Ideal S1x128 .f32 := m ((c.tc : Thread nD τ).loc main_arg1)
/-- The bias. -/
def argB : FVec Ideal S1 .f32 := m ((c.tc : Thread nD τ).loc main_arg2)

/-- The loop is entered with the scores. -/
theorem entry_scores : scoresIn (entryContents preI m c) = baseOf (argX m c) (argW m c) (argB m c) := by
  unfold scoresIn
  simp only [entryContents, afterL_cons, afterL_nil]
  after_reads_simp
  rfl

/-- It is entered with the row numbers. -/
theorem entry_rows : rowsIn (entryContents preI m c) = iotaInDim S64 32 0 := by
  unfold rowsIn
  simp only [entryContents, afterL_cons, afterL_nil]
  after_reads_simp
  rfl

/-- It is entered with no element chosen. -/
theorem entry_mask : maskIn (entryContents preI m c) = fun _ => 0#1 := by
  unfold maskIn
  simp only [entryContents, afterL_cons, afterL_nil]
  after_reads_simp
  rfl

/-- The loop's buffers at its entry. -/
theorem entry_at (s : Fin 64 → Fin 2048 → ℝ) (σ : Fin 64 → Fin 2048 → Fin 2048)
    (hs : ∀ i j, (∑ k : Fin 128, argX m c (ix3 i j k) * argW m c (ix2 (0 : Fin 1) k)) + argB m c (ix1 (0 : Fin 1)) = (s i j : EReal)) :
    At (entryContents preI m c) s σ 0 where
  scores i j := by rw [entry_scores, baseOf_apply, hs]
  rows i := by rw [entry_rows]; rfl
  count y := congrFun (ctr_entry m c) y
  mask i q := by
    rw [entry_mask]
    exact ⟨fun e => absurd (show (0#1 : BitVec 1) = 1#1 from e) (by decide), fun e => absurd e (Nat.not_lt_zero _)⟩
  logs i p hp := absurd hp (Nat.not_lt_zero _)
  picks i p hp := absurd hp (Nat.not_lt_zero _)

/-- The reference's results on real scores: the elements of each row in the order `σ`, and each one's score less the logarithm of
the sum of the exponentials from it on. -/
theorem results (s : Fin 64 → Fin 2048 → ℝ) (σ : Fin 64 → Fin 2048 → Fin 2048)
    (hs : ∀ i j, (∑ k : Fin 128, argX m c (ix3 i j k) * argW m c (ix2 (0 : Fin 1) k)) + argB m c (ix1 (0 : Fin 1)) = (s i j : EReal))
    (hσ : ∀ i, Function.Bijective (σ i))
    (hlt : ∀ i p q, p < q → s i (σ i q) < s i (σ i p) ∨ (s i (σ i q) = s i (σ i p) ∧ σ i p < σ i q)) (i : Fin 64) (p : Fin 2048) :
    (out_main_v11 (STEP^[2048] (entryContents preI m c)) : FVec Ideal S64x2048 .f32) (ix2 i p)
        = ((s i (σ i p) - Real.log (∑ q ∈ Finset.univ.filter (fun q : Fin 2048 => p ≤ q), Real.exp (s i (σ i q))) : ℝ) : EReal)
      ∧ (out_main_v12 (STEP^[2048] (entryContents preI m c)) : IVec S64x2048 32) (ix2 i p) = BitVec.ofNat 32 (σ i p).val := by
  have h := (entry_at m c s σ hs).iterate hσ hlt 2048 (le_refl _)
  constructor
  · refine Eq.trans ?_ (h.logs i p p.isLt)
    exact transpose_apply (s := S2048x64) _ _ _ _ (ix2 p i) (fun a => by fin_cases a <;> rfl)
  · refine Eq.trans ?_ (h.picks i p p.isLt)
    exact transpose_apply (s := S2048x64) _ _ _ _ (ix2 p i) (fun a => by fin_cases a <;> rfl)

end Cert.Proof.Decode
-- ==== Proof.Agree.lean ====
/-
  On finite inputs the kernel and the reference end with the same results: the elements of each row in the order of their
  scores, and each one's score less the logarithm of the sum of the exponentials from it on.
-/
module

public import proofs.«01_k».proof.Defs
public import proofs.«01_k».proof.Proof.Ends
public import proofs.«01_k».proof.Proof.Logs
public import proofs.«01_k».proof.Proof.Entry
public import proofs.«01_k».proof.Proof.Gen.Pre_finite
public import Idealize.ShloMosaic.Lib.ReduceAll
public import Idealize.ShloMosaic.Lib.Affine

@[expose] public section

set_option maxRecDepth 16384

noncomputable section

namespace Cert.Proof.Whole

open Cert.KernelIdeal Cert.KernelIdeal.Gen Cert.Counting
open Idealize.ShloMosaic Idealize.ShloMosaic.TcCoe

/-! ## What the precondition says -/

/-- A value whose absolute value is below plus infinity is a real number. -/
theorem real_of_below {x : EReal} (h : Ideal.cmp .olt (max x (-x)) (Ideal.ofBits .f32 0x7F800000#32) = 1#1) : ∃ v : ℝ, x = (v : EReal) := by
  have htop : Ideal.ofBits .f32 0x7F800000#32 = ⊤ := by simp [Ideal.ofBits, Ideal.ieee]
  rw [htop] at h
  have hlt : max x (-x) < ⊤ := (Ideal.cmp_olt_eq_one _ _).1 h
  rw [max_lt_iff] at hlt
  refine ⟨x.toReal, (EReal.coe_toReal hlt.1.ne fun e => ?_).symm⟩
  rw [e] at hlt
  exact absurd hlt.2 (by simp)

/-- An array all of whose absolute values are below plus infinity holds real numbers. -/
theorem real_of_all {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (h : Host.reduce IntOp.andi (cmpf .olt (Host.absf x) (broadcastInDim s ![] hb (constant Cert.Pre_finite.S_ .f32 0x7F800000#32)))
      (constantI Cert.Pre_finite.S_ 1 1#1) hr hu j = 1#1) (i : s.Idx) : ∃ v : ℝ, x i = (v : EReal) :=
  real_of_below (Host.reduce_andi_all _ _ _ _ j h i)

/-- Finite inputs, weights and bias are real numbers. -/
theorem reals_of_pre {X : Vec Ideal S64x2048x128 .f32} {w : Vec Ideal S1x128 .f32} {b : Vec Ideal S1 .f32} {n : IVec S_ 32}
    (h : Cert.Pre_finite.fn (F := Ideal) X w b n = fun _ => 1#1) :
    (∀ i, ∃ v : ℝ, X i = (v : EReal)) ∧ (∀ i, ∃ v : ℝ, w i = (v : EReal)) ∧ ∀ i, ∃ v : ℝ, b i = (v : EReal) := by
  have hj := congrFun h (fun a => a.elim0)
  obtain ⟨h12, h3⟩ := IntOp.andi_eq_one.1 hj
  obtain ⟨h1, h2⟩ := IntOp.andi_eq_one.1 h12
  exact ⟨real_of_all X _ _ _ _ h1, real_of_all w _ _ _ _ h2, real_of_all b _ _ _ _ h3⟩

/-- So their scores are. -/
theorem scores_real {X : Vec Ideal S64x2048x128 .f32} {w : Vec Ideal S1x128 .f32} {b : Vec Ideal S1 .f32}
    (h : (∀ i, ∃ v : ℝ, X i = (v : EReal)) ∧ (∀ i, ∃ v : ℝ, w i = (v : EReal)) ∧ ∀ i, ∃ v : ℝ, b i = (v : EReal)) :
    ∃ s : Fin 64 → Fin 2048 → ℝ, ∀ i j, scoreAt X w b i j = (s i j : EReal) := by
  obtain ⟨hX, hw, hb⟩ := h
  choose fX hX using hX
  choose fw hw using hw
  choose fb hb using hb
  refine ⟨fun i j => (∑ k : Fin 128, fX (ix3 i j k) * fw (ix2 0 k)) + fb (ix1 0), fun i j => ?_⟩
  unfold scoreAt
  rw [EReal.coe_add, Cert.Greedy.coe_sum, ← hb]
  refine congrArg (· + b (ix1 0)) (Finset.sum_congr rfl fun k _ => ?_)
  rw [hX, hw, EReal.coe_mul]

/-! ## The order of a row -/

section
variable (X : Vec Ideal S64x2048x128 .f32) (w : Vec Ideal S1x128 .f32) (b : Vec Ideal S1 .f32) (s : Fin 64 → Fin 2048 → ℝ)

/-- The order of a row takes each element once. -/
theorem order_bijective (i : Fin 64) : Function.Bijective (order (rankMat X w b) i) := by
  refine Finite.injective_iff_bijective.mp fun p q e => Fin.ext ?_
  have hp := pos_sortedFrom (ranking X w b i) p
  have hq := pos_sortedFrom (ranking X w b i) q
  exact hp.symm.trans ((congrArg (pos (ranksOf (rankMat X w b) i)) e).trans hq)

/-- A later element of the order has a smaller score, or an equal one and a larger index. -/
theorem order_scores (hs : ∀ i j, scoreAt X w b i j = (s i j : EReal)) (i : Fin 64) (p q : Fin 2048) (h : p < q) :
    s i (order (rankMat X w b) i q) < s i (order (rankMat X w b) i p)
      ∨ (s i (order (rankMat X w b) i q) = s i (order (rankMat X w b) i p) ∧ order (rankMat X w b) i p < order (rankMat X w b) i q) := by
  have hlt : ∀ j k, ranksOf (rankMat X w b) i j < ranksOf (rankMat X w b) i k ↔ s i k < s i j := fun j k => by
    rw [ranksOf_lt_iff, hs, hs, EReal.coe_lt_coe_iff]
  rcases sortedFrom_lex (ranksOf (rankMat X w b) i) h with h1 | ⟨h1, h2⟩
  · exact Or.inl ((hlt _ _).1 h1)
  · refine Or.inr ⟨le_antisymm (not_lt.1 fun hc => ?_) (not_lt.1 fun hc => ?_), h2⟩
    · exact absurd ((hlt _ _).2 hc) (Eq.not_gt h1)
    · exact absurd ((hlt _ _).2 hc) (Eq.not_lt h1)

/-- A row's log-probability at a position of the order, of real scores. -/
def logAt (i : Fin 64) (p : Fin 2048) : EReal :=
  ((s i (order (rankMat X w b) i p) - Real.log (∑ q ∈ Finset.univ.filter (fun q : Fin 2048 => p ≤ q),
    Real.exp (s i (order (rankMat X w b) i q))) : ℝ) : EReal)

/-- The log-probabilities of real scores, taken in the order of the ranks. -/
def logsOf : FVec Ideal S64x2048 .f32 := fun x => logAt X w b s (x 0) (x 1)

/-- The scores in order, read at a position. -/
theorem order_apply (fs : Vec Ideal S64x2048 .f32) (fr : IVec S64x2048 32) (i : Fin 64) (p : Fin 2048) :
    valsOf (F := Ideal) fs fr (ix2 i p) = fs (ij i (order fr i p)) := rfl

/-- Eight rows, their scores in the order of the ranks, through the third call's body. -/
theorem eight_logs (hs : ∀ i j, scoreAt X w b i j = (s i j : EReal)) (t : Fin 8) (z : Fin 8) (p : Fin 2048) (i : Fin 64) (hi : i.val = 8 * t.val + z.val) :
    suffixOut (eightOf (valsOf (scoreMat X w b) (rankMat X w b)) t) (ix2 z p) = logAt X w b s i p := by
  have hrow : ∀ q : Fin 2048, eightOf (valsOf (scoreMat X w b) (rankMat X w b)) t (ix2 z q) = ((s i (order (rankMat X w b) i q) : ℝ) : EReal) := fun q => by
    have e : eightOf (valsOf (scoreMat X w b) (rankMat X w b)) t (ix2 z q) = valsOf (scoreMat X w b) (rankMat X w b) (ix2 i q) := by
      unfold eightOf
      exact congrArg (fun k : Fin 64 => valsOf (scoreMat X w b) (rankMat X w b) (ix2 k q)) (Fin.ext hi.symm)
    rw [e, order_apply, scoreMat_apply, hs]
  rw [suffixOut_apply _ z (fun q => s i (order (rankMat X w b) i q)) hrow p]
  unfold logAt
  simp only [Fin.le_def]
end

/-! ## The two programs -/

variable (m : (ℓ : Loc nD τ sig) → Buf (Elt Ideal) ℓ)

/-- The kernel's log-probabilities, on real scores. -/
theorem kernel_logs (d : Dev nD) (s : Fin 64 → Fin 2048 → ℝ) (hs : ∀ i j, scoreAt (inX m d) (inW m d) (inB m d) i j = (s i j : EReal)) :
    (dC m d).arrAt 1 cfg2.N = logsOf (inX m d) (inW m d) (inB m d) s := by
  refine sums_arr m d _ fun t z i h0 h1 => ?_
  rw [V4_scores, scoresOf_eq, rankOf_eq]
  have hz : z = ix2 (z 0 : Fin 8) (i 1 : Fin 2048) := by
    funext a
    match a with
    | 0 => rfl
    | 1 => exact Fin.ext h1.symm
  rw [hz]
  exact eight_logs _ _ _ s hs t (z 0) (i 1) (i 0) h0

end Cert.Proof.Whole

namespace Cert.Proof

open Idealize.ShloMosaic Idealize.ShloMosaic.TcCoe Idealize.SL.Sem Cert.Counting Cert.Proof.Whole

/-- From equal, finite arguments the whole kernel and the reference end with equal results, at the ideal values. -/
theorem algebraic : Cert.algebraic_KernelIdeal_ReferenceIdeal_pre_finite := by
  intro m g m' g' hm hag
  have hreal : ∀ c, ∃ s : Fin 64 → Fin 2048 → ℝ, ∀ i j, scoreAt (inX m c) (inW m c) (inB m c) i j = (s i j : EReal) :=
    fun c => scores_real (reals_of_pre (hm c))
  choose s hs using hreal
  refine ⟨fun c => logsOf (inX m c) (inW m c) (inB m c) (s c), fun c => idxOf (rankMat (inX m c) (inW m c) (inB m c)),
    (θ_run Cert.KernelIdeal.defs _ _).mono (fun r h c => ⟨(h.1 c).1.trans (kernel_logs m c (s c) (hs c)), (h.1 c).2⟩) (kernel_ends m g),
    (θ_run Cert.ReferenceIdeal.defs _ _).mono (fun r h c => ?_) (Cert.ReferenceIdeal.Value.run m' g')⟩
  obtain ⟨h1, h2, ha⟩ := h c
  obtain ⟨a0, a1, a2, -⟩ := hag c
  have e0 : Decode.argX m' c = inX m c := a0
  have e1 : Decode.argW m' c = inW m c := a1
  have e2 : Decode.argB m' c = inB m c := a2
  have hr := Decode.results m' c (s c) (order (rankMat (inX m c) (inW m c) (inB m c)))
    (fun i j => by rw [e0, e1, e2]; exact hs c i j) (order_bijective _ _ _) (order_scores _ _ _ (s c) (hs c))
  have hx : ∀ x : Cert.ReferenceIdeal.S64x2048.Idx, x = ix2 (x 0 : Fin 64) (x 1 : Fin 2048) := fun x => by
    funext a
    fin_cases a <;> rfl
  refine ⟨h1.trans (funext fun x => ?_), h2.trans (funext fun x => ?_), ha⟩
  · exact (congrArg _ (hx x)).trans (hr (x 0) (x 1)).1
  · exact (congrArg _ (hx x)).trans (hr (x 0) (x 1)).2

end Cert.Proof

end
-- ==== Proof.lean ====
/-
  The proof of `Cert.Claim`: the whole kernel and its reference run and end with equal results at the ideal values; the scatter
  alone and its reference, bit for bit.
-/
module

public import proofs.«01_k».proof.Defs
public import proofs.«01_k».proof.Proof.Run
public import proofs.«01_k».proof.Proof.Ranking
public import proofs.«01_k».proof.Proof.Order
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Gen.Scatter
public import proofs.«01_k».proof.Proof.Gen.Scatter.Skeleton
public import proofs.«01_k».proof.Proof.Gen.ByRank
public import proofs.«01_k».proof.Proof.Gen.ByRank.Run
public import proofs.«01_k».proof.Proof.Gen.Pre_is_ranking
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Counting

/-- Of a memory that meets the precondition: each row of the ranks is a ranking. -/
theorem ranking {m : (ℓ : Loc Cert.Scatter.nD Cert.Scatter.τ Cert.Scatter.sig) → Buf (Elt Bits) ℓ} (h : Cert.Pre_Scatter m) (d : Dev Cert.Scatter.nD) (i : Fin 64) :
    IsRanking (ranksOf (m (Cert.Proof.Scatter.kLoc d)) i) := isRanking_of_pre (F := Bits) (h d) i

/-- The scatter runs, leaves its arguments unchanged and ends with every counter at zero. -/
theorem frame_scatter : Cert.quiescent_Scatter := by
  intro m g hm
  exact (θ_run Cert.Scatter.defs _ _).mono (fun _ h => ⟨fun c => (h.1 c).2.2, h.2⟩) (Cert.Proof.Scatter.run_main (F := Bits) m g (ranking hm))

/-- The reference runs, leaves its arguments unchanged and ends with every counter at zero: it has none. -/
theorem frame_byRank : Cert.quiescent_ByRank := by
  intro m g _
  exact (θ_run Cert.ByRank.defs _ _).mono (fun r h => ⟨fun c => (h c).2.2, sem_eq_zero_of_no_sems (by decide) r.2⟩) (Cert.ByRank.Value.run m g)

/-- The same of the memories that meet the scatter's precondition. -/
theorem frame_byRank_pre : Cert.quiescent_ByRank_pre_is_ranking := fun m g _ => frame_byRank m g trivial

/-- From equal arguments the scatter and the reference end with equal results, bit for bit. -/
theorem bitexact : Cert.bitexact_Scatter_ByRank := by
  intro m g m' g' hm hag
  refine ⟨fun c => Cert.Proof.Scatter.outV m c, fun c => Cert.Proof.Scatter.outI m c,
    (θ_run Cert.Scatter.defs _ _).mono (fun _ h => h.1) (Cert.Proof.Scatter.run_main (F := Bits) m g (ranking hm)),
    (θ_run Cert.ByRank.defs _ _).mono (fun r h c => ?_) (Cert.ByRank.Value.run m' g')⟩
  obtain ⟨h1, h0, ha⟩ := h c
  have h1' : r.2.mem ((c.tc : Thread Cert.ByRank.nD Cert.ByRank.τ).loc Cert.ByRank.main_v1)
      = taken (F := Bits) (m (Cert.Proof.Scatter.sLoc c)) (sorted (m (Cert.Proof.Scatter.kLoc c))) := by
    rw [← show _ = m (Cert.Proof.Scatter.sLoc c) from (hag c).1, ← show _ = m (Cert.Proof.Scatter.kLoc c) from (hag c).2]
    exact h1
  have h0' : r.2.mem ((c.tc : Thread Cert.ByRank.nD Cert.ByRank.τ).loc Cert.ByRank.main_v0) = sorted (m (Cert.Proof.Scatter.kLoc c)) :=
    h0.trans (congrArg sorted (hag c).2)
  rw [sorted_eq (ranking hm c)] at h1' h0'
  exact ⟨h1'.trans (taken_eq _ _), h0', ha⟩

/-- The whole kernel runs at the ideal values, leaves its arguments unchanged and ends with every counter at zero. -/
theorem frame_kernel : Cert.quiescent_KernelIdeal := by
  intro m g _
  exact (θ_run Cert.KernelIdeal.defs _ _).mono (fun _ h => ⟨fun c => (h.1 c).2.2, h.2⟩) (Cert.Proof.Whole.kernel_ends m g)

/-- So does its reference. -/
theorem frame_reference : Cert.quiescent_ReferenceIdeal := by
  intro m g _
  exact (θ_run Cert.ReferenceIdeal.defs _ _).mono (fun r h => ⟨fun c => (h c).2.2, sem_eq_zero_of_no_sems (by decide) r.2⟩) (Cert.ReferenceIdeal.Value.run m g)

theorem claim : Cert.Claim := ⟨Cert.KernelIdeal.Gen.facts, Cert.ReferenceIdeal.Gen.facts, Cert.Scatter.Gen.facts, Cert.ByRank.Gen.facts, Cert.Pre_finite.Gen.facts, Cert.Pre_is_ranking.Gen.facts,
  frame_kernel, fun m g _ => frame_kernel m g trivial, frame_reference, fun m g _ => frame_reference m g trivial,
  frame_scatter, frame_byRank, frame_byRank_pre, algebraic, bitexact⟩

end Cert.Proof

end
